-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_arguments [hPre_finite_arguments : Cert.Pre_finite_arguments.Facts] (m : (ℓ : Loc Cert.KernelIdeal.nD Cert.KernelIdeal.τ Cert.KernelIdeal.sig) → Buf (Elt Ideal) ℓ) : Prop :=
  ∀ c : Dev Cert.KernelIdeal.nD,
    (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_arguments [hPre_finite_arguments : Cert.Pre_finite_arguments.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_arguments [hKernelIdeal : Cert.KernelIdeal.Facts] [hPre_finite_arguments : Cert.Pre_finite_arguments.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_arguments m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_arguments [hReferenceIdeal : Cert.ReferenceIdeal.Facts] [hPre_finite_arguments : Cert.Pre_finite_arguments.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_arguments m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_finite_arguments [hKernelIdeal : Cert.KernelIdeal.Facts] [hReferenceIdeal : Cert.ReferenceIdeal.Facts] [hPre_finite_arguments : Cert.Pre_finite_arguments.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_arguments m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v149) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_arguments : Cert.Pre_finite_arguments.Facts),
    quiescent_Kernel (hKernel := hKernel)
    ∧ quiescent_KernelIdeal (hKernelIdeal := hKernelIdeal)
    ∧ quiescent_KernelIdeal_pre_finite_arguments (hKernelIdeal := hKernelIdeal) (hPre_finite_arguments := hPre_finite_arguments)
    ∧ quiescent_ReferenceIdeal (hReferenceIdeal := hReferenceIdeal)
    ∧ quiescent_ReferenceIdeal_pre_finite_arguments (hReferenceIdeal := hReferenceIdeal) (hPre_finite_arguments := hPre_finite_arguments)
    ∧ preserves_Kernel_KernelIdeal
    ∧ algebraic_KernelIdeal_ReferenceIdeal_pre_finite_arguments (hKernelIdeal := hKernelIdeal) (hReferenceIdeal := hReferenceIdeal) (hPre_finite_arguments := hPre_finite_arguments)
-- ==== Pre_finite_arguments.lean ====
abbrev S4x128x64x64 : Shape := ⟨4, ![4, 128, 64, 64]⟩
abbrev S1024x1024 : Shape := ⟨2, ![1024, 1024]⟩
abbrev S1024 : Shape := ⟨1, ![1024]⟩
abbrev S128x8x5 : Shape := ⟨3, ![128, 8, 5]⟩
abbrev S_ : Shape := ⟨0, ![]⟩

class Facts : Prop where
  bcast_S_S4x128x64x64 : S_.BroadcastsInDim S4x128x64x64 (![] : Fin 0 → Fin S4x128x64x64.rank)
  reducesTo_S4x128x64x64_S_d0_1_2_3 : S4x128x64x64.ReducesTo [0, 1, 2, 3] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S128x8x5 : S_.BroadcastsInDim S128x8x5 (![] : Fin 0 → Fin S128x8x5.rank)
  reducesTo_S128x8x5_S_d0_1_2 : S128x8x5.ReducesTo [0, 1, 2] S_

variable [Facts]

def fn_part1 {F : FTy → Type} [FloatOps F] (main_arg4 : FVec F S1024 .f32) (main_arg5 : FVec F S128x8x5 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S128x8x5 .f32 := Host.absf main_arg5
  let main_cst_8 : FVec F S_ .f32 := constant S_ .f32 0x7F800000#32
  let main_v25 : FVec F S128x8x5 .f32 := broadcastInDim S128x8x5 ![] bcast_S_S128x8x5 main_cst_8
  let main_v26 : IVec S128x8x5 1 := cmpf .olt main_v24 main_v25
  let main_c_9 : IVec S_ 1 := constantI S_ 1 1#1
  let main_v27 : IVec S_ 1 := (fun x v => Host.reduce IntOp.andi x v reducesTo_S128x8x5_S_d0_1_2 h_S_) main_v26 main_c_9
  let main_v28 : IVec S_ 1 := andi main_v23 main_v27
  main_v28

def fn {F : FTy → Type} [FloatOps F] (main_arg0 : FVec F S4x128x64x64 .f32) (main_arg1 : FVec F S1024x1024 .f32) (main_arg2 : FVec F S1024x1024 .f32) (main_arg3 : FVec F S1024x1024 .f32) (main_arg4 : FVec F S1024 .f32) (main_arg5 : FVec F S128x8x5 .f32) : IVec S_ 1 :=
  let main_v0 : FVec F S4x128x64x64 .f32 := Host.absf main_arg0
  let main_cst : FVec F S_ .f32 := constant S_ .f32 0x7F800000#32
  let main_v1 : FVec F S4x128x64x64 .f32 := broadcastInDim S4x128x64x64 ![] bcast_S_S4x128x64x64 main_cst
  let main_v2 : IVec S4x128x64x64 1 := cmpf .olt main_v0 main_v1
  let main_c : IVec S_ 1 := constantI S_ 1 1#1
  let main_v3 : IVec S_ 1 := (fun x v => Host.reduce IntOp.andi x v reducesTo_S4x128x64x64_S_d0_1_2_3 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_v13 main_v16
-- ==== Kernel.lean ====
abbrev S4x128x64x64 : Shape := ⟨4, ![4, 128, 64, 64]⟩
abbrev S1024x1024 : Shape := ⟨2, ![1024, 1024]⟩
abbrev S1024 : Shape := ⟨1, ![1024]⟩
abbrev S128x8x5 : Shape := ⟨3, ![128, 8, 5]⟩
abbrev S4x640x32x32 : Shape := ⟨4, ![4, 640, 32, 32]⟩
abbrev S1x128x64x64 : Shape := ⟨4, ![1, 128, 64, 64]⟩
abbrev S1x640x32x32 : Shape := ⟨4, ![1, 640, 32, 32]⟩
abbrev S128x64x64 : Shape := ⟨3, ![128, 64, 64]⟩
abbrev S64x32 : Shape := ⟨2, ![64, 32]⟩
abbrev S128x1x64 : Shape := ⟨3, ![128, 1, 64]⟩
abbrev S128x63x64 : Shape := ⟨3, ![128, 63, 64]⟩
abbrev S4096x2x64 : Shape := ⟨3, ![4096, 2, 64]⟩
abbrev S4096x1x64 : Shape := ⟨3, ![4096, 1, 64]⟩
abbrev S4096x64 : Shape := ⟨2, ![4096, 64]⟩
abbrev S4096x1 : Shape := ⟨2, ![4096, 1]⟩
abbrev S4096x63 : Shape := ⟨2, ![4096, 63]⟩
abbrev S4096x32 : Shape := ⟨2, ![4096, 32]⟩
abbrev S128x32x32 : Shape := ⟨3, ![128, 32, 32]⟩
abbrev S640x32x32 : Shape := ⟨3, ![640, 32, 32]⟩
abbrev S4x640x1024 : Shape := ⟨3, ![4, 640, 1024]⟩
abbrev S128x40 : Shape := ⟨2, ![128, 40]⟩
abbrev S1x640x1024 : Shape := ⟨3, ![1, 640, 1024]⟩
abbrev S1024x128 : Shape := ⟨2, ![1024, 128]⟩
abbrev S1x640x128 : Shape := ⟨3, ![1, 640, 128]⟩
abbrev S5120x128 : Shape := ⟨2, ![5120, 128]⟩
abbrev S5120x1 : Shape := ⟨2, ![5120, 1]⟩
abbrev S640x1024 : Shape := ⟨2, ![640, 1024]⟩
abbrev S640x128 : Shape := ⟨2, ![640, 128]⟩
abbrev S640x256 : Shape := ⟨2, ![640, 256]⟩
abbrev S640x40 : Shape := ⟨2, ![640, 40]⟩
abbrev S640x640 : Shape := ⟨2, ![640, 640]⟩
abbrev S640x1 : Shape := ⟨2, ![640, 1]⟩
abbrev S640x10 : Shape := ⟨2, ![640, 10]⟩
abbrev S640x5 : Shape := ⟨2, ![640, 5]⟩
abbrev S640 : Shape := ⟨1, ![640]⟩
abbrev S1x10 : Shape := ⟨2, ![1, 10]⟩
abbrev S1x1 : Shape := ⟨2, ![1, 1]⟩
abbrev S1x9 : Shape := ⟨2, ![1, 9]⟩
abbrev S1x2 : Shape := ⟨2, ![1, 2]⟩
abbrev S1x8 : Shape := ⟨2, ![1, 8]⟩
abbrev S1x4 : Shape := ⟨2, ![1, 4]⟩
abbrev S1x6 : Shape := ⟨2, ![1, 6]⟩
abbrev S640x64 : Shape := ⟨2, ![640, 64]⟩
abbrev S64x1 : Shape := ⟨2, ![64, 1]⟩
abbrev S64x64 : Shape := ⟨2, ![64, 64]⟩
abbrev S64x128 : Shape := ⟨2, ![64, 128]⟩
abbrev S128x128 : Shape := ⟨2, ![128, 128]⟩
abbrev S64x2 : Shape := ⟨2, ![64, 2]⟩
abbrev S64 : Shape := ⟨1, ![64]⟩
abbrev S640x129 : Shape := ⟨2, ![640, 129]⟩
abbrev S640x8 : Shape := ⟨2, ![640, 8]⟩
abbrev S2560x1024 : Shape := ⟨2, ![2560, 1024]⟩
abbrev S1x1024 : Shape := ⟨2, ![1, 1024]⟩
abbrev S256x1024 : Shape := ⟨2, ![256, 1024]⟩

abbrev nBuf : Space → Nat
  | .hbm => 14
  | .vmem => 25
  | .smem => 0
  | _ => 0

abbrev bufTy : (tb : Table) → Fin (tcTables nBuf tb) → BufTy
  | .hbm, ⟨0, _⟩ => ⟨S4x128x64x64, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024, .f32⟩
  | .hbm, ⟨5, _⟩ => ⟨S128x8x5, .f32⟩
  | .hbm, ⟨6, _⟩ => ⟨S4x640x32x32, .f32⟩
  | .hbm, ⟨7, _⟩ => ⟨S4x640x1024, .f32⟩
  | .hbm, ⟨8, _⟩ => ⟨S128x40, .f32⟩
  | .hbm, ⟨9, _⟩ => ⟨S4x640x1024, .f32⟩
  | .hbm, ⟨10, _⟩ => ⟨S2560x1024, .f32⟩
  | .hbm, ⟨11, _⟩ => ⟨S1x1024, .f32⟩
  | .hbm, ⟨12, _⟩ => ⟨S2560x1024, .f32⟩
  | .hbm, ⟨13, _⟩ => ⟨S4x640x32x32, .f32⟩
  | .local _ .vmem, ⟨0, _⟩ => ⟨S1x128x64x64, .f32⟩
  | .local _ .vmem, ⟨1, _⟩ => ⟨S1x128x64x64, .f32⟩
  | .local _ .vmem, ⟨2, _⟩ => ⟨S1x640x32x32, .f32⟩
  | .local _ .vmem, ⟨3, _⟩ => ⟨S1x640x32x32, .f32⟩
  | .local _ .vmem, ⟨4, _⟩ => ⟨S1x640x1024, .f32⟩
  | .local _ .vmem, ⟨5, _⟩ => ⟨S1x640x1024, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S128x40, .f32⟩
  | .local _ .vmem, ⟨11, _⟩ => ⟨S1x640x128, .f32⟩
  | .local _ .vmem, ⟨12, _⟩ => ⟨S1x640x128, .f32⟩
  | .local _ .vmem, ⟨13, _⟩ => ⟨S5120x128, .bf16⟩
  | .local _ .vmem, ⟨14, _⟩ => ⟨S5120x128, .bf16⟩
  | .local _ .vmem, ⟨15, _⟩ => ⟨S5120x128, .bf16⟩
  | .local _ .vmem, ⟨16, _⟩ => ⟨S5120x128, .f32⟩
  | .local _ .vmem, ⟨17, _⟩ => ⟨S5120x1, .f32⟩
  | .local _ .vmem, ⟨18, _⟩ => ⟨S640x1024, .f32⟩
  | .local _ .vmem, ⟨19, _⟩ => ⟨S256x1024, .f32⟩
  | .local _ .vmem, ⟨20, _⟩ => ⟨S256x1024, .f32⟩
  | .local _ .vmem, ⟨21, _⟩ => ⟨S1024x1024, .f32⟩
  | .local _ .vmem, ⟨22, _⟩ => ⟨S1x1024, .f32⟩
  | .local _ .vmem, ⟨23, _⟩ => ⟨S256x1024, .f32⟩
  | .local _ .vmem, ⟨24, _⟩ => ⟨S256x1024, .f32⟩
  | _, _ => ⟨S4x128x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc1_scratch0 : Ref sig .tc := ⟨.vmem, 13, rfl⟩
abbrev cc1_scratch1 : Ref sig .tc := ⟨.vmem, 14, rfl⟩
abbrev cc1_scratch2 : Ref sig .tc := ⟨.vmem, 15, rfl⟩
abbrev cc1_scratch3 : Ref sig .tc := ⟨.vmem, 16, rfl⟩
abbrev cc1_scratch4 : Ref sig .tc := ⟨.vmem, 17, rfl⟩
abbrev cc1_scratch5 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg3_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem4_0 : DmaSem sig := 11
abbrev cc1_sem4_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc2_sem3_1 : DmaSem sig := 18

abbrev nD : Nat := 1
abbrev τ : Topo := Topo.v7x

variable {F : FTy → Type} [FloatOps F]

abbrev grid0 : Pipeline.Grid := ⟨1, ![4], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x128x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x640x32x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![4, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x640x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 1 → Memref sig .tc .vmem S128x40 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1x640x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S256x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]
-- ==== ReferenceIdeal.lean ====
abbrev S4x128x64x64 : Shape := ⟨4, ![4, 128, 64, 64]⟩
abbrev S1024x1024 : Shape := ⟨2, ![1024, 1024]⟩
abbrev S1024 : Shape := ⟨1, ![1024]⟩
abbrev S128x8x5 : Shape := ⟨3, ![128, 8, 5]⟩
abbrev S_ : Shape := ⟨0, ![]⟩
abbrev S4x128x32x32 : Shape := ⟨4, ![4, 128, 32, 32]⟩
abbrev S4x512x32x32 : Shape := ⟨4, ![4, 512, 32, 32]⟩
abbrev S4x640x32x32 : Shape := ⟨4, ![4, 640, 32, 32]⟩
abbrev S4x640x1024 : Shape := ⟨3, ![4, 640, 1024]⟩
abbrev S4x640x8x128 : Shape := ⟨4, ![4, 640, 8, 128]⟩
abbrev S4x8x640x128 : Shape := ⟨4, ![4, 8, 640, 128]⟩
abbrev S32x640x128 : Shape := ⟨3, ![32, 640, 128]⟩
abbrev S8x5x32x640 : Shape := ⟨4, ![8, 5, 32, 640]⟩
abbrev S32x8x640x5 : Shape := ⟨4, ![32, 8, 640, 5]⟩
abbrev S32x8x640x10 : Shape := ⟨4, ![32, 8, 640, 10]⟩
abbrev S32x8x640x1 : Shape := ⟨4, ![32, 8, 640, 1]⟩
abbrev S32x8x640 : Shape := ⟨3, ![32, 8, 640]⟩
abbrev S8 : Shape := ⟨1, ![8]⟩
abbrev S1x8x1 : Shape := ⟨3, ![1, 8, 1]⟩
abbrev S32x5120 : Shape := ⟨2, ![32, 5120]⟩
abbrev S5120 : Shape := ⟨1, ![5120]⟩
abbrev S1x5120 : Shape := ⟨2, ![1, 5120]⟩
abbrev S32x5120x1 : Shape := ⟨3, ![32, 5120, 1]⟩
abbrev S32x5120x128 : Shape := ⟨3, ![32, 5120, 128]⟩
abbrev S32x80x64 : Shape := ⟨3, ![32, 80, 64]⟩
abbrev S32x80x64x128 : Shape := ⟨4, ![32, 80, 64, 128]⟩
abbrev S32x80x64x1 : Shape := ⟨4, ![32, 80, 64, 1]⟩
abbrev S32x1x64x128 : Shape := ⟨4, ![32, 1, 64, 128]⟩
abbrev S32x79x64x128 : Shape := ⟨4, ![32, 79, 64, 128]⟩
abbrev S32x80x128x128 : Shape := ⟨4, ![32, 80, 128, 128]⟩
abbrev S32x1x64 : Shape := ⟨3, ![32, 1, 64]⟩
abbrev S32x79x64 : Shape := ⟨3, ![32, 79, 64]⟩
abbrev S32x80x128 : Shape := ⟨3, ![32, 80, 128]⟩
abbrev S32x80x1x128 : Shape := ⟨4, ![32, 80, 1, 128]⟩
abbrev S32x8x640x128 : Shape := ⟨4, ![32, 8, 640, 128]⟩
abbrev S32x640x1 : Shape := ⟨3, ![32, 640, 1]⟩
abbrev S32x1x640x1 : Shape := ⟨4, ![32, 1, 640, 1]⟩
abbrev S1x1x1024 : Shape := ⟨3, ![1, 1, 1024]⟩

abbrev nBuf : Space → Nat
  | .hbm => 239
  | .vmem => 0
  | .smem => 0
  | _ => 0

abbrev hbmTy0_0 (i : Nat) : BufTy := match i % 128 with
  | 0 => ⟨S4x128x64x64, .f32⟩
  | 1 => ⟨S1024x1024, .f32⟩
  | 2 => ⟨S1024x1024, .f32⟩
  | 3 => ⟨S1024x1024, .f32⟩
  | 4 => ⟨S1024, .f32⟩
  | 5 => ⟨S128x8x5, .f32⟩
  | 6 => ⟨S_, .f32⟩
  | 7 => ⟨S_, .f32⟩
  | 8 => ⟨S4x128x32x32, .f32⟩
  | 9 => ⟨S4x128x32x32, .f32⟩
  | 10 => ⟨S4x128x32x32, .f32⟩
  | 11 => ⟨S4x128x32x32, .f32⟩
  | 12 => ⟨S4x128x32x32, .f32⟩
  | 13 => ⟨S4x128x32x32, .f32⟩
  | 14 => ⟨S4x128x32x32, .f32⟩
  | 15 => ⟨S4x128x32x32, .f32⟩
  | 16 => ⟨S_, .f32⟩
  | 17 => ⟨S4x128x32x32, .f32⟩
  | 18 => ⟨S4x128x32x32, .f32⟩
  | 19 => ⟨S4x128x32x32, .f32⟩
  | 20 => ⟨S4x128x32x32, .f32⟩
  | 21 => ⟨S4x128x32x32, .f32⟩
  | 22 => ⟨S_, .f32⟩
  | 23 => ⟨S4x128x32x32, .f32⟩
  | 24 => ⟨S4x128x32x32, .f32⟩
  | 25 => ⟨S4x128x32x32, .f32⟩
  | 26 => ⟨S4x128x32x32, .f32⟩
  | 27 => ⟨S4x128x32x32, .f32⟩
  | 28 => ⟨S_, .f32⟩
  | 29 => ⟨S4x128x32x32, .f32⟩
  | 30 => ⟨S4x128x32x32, .f32⟩
  | 31 => ⟨S4x128x32x32, .f32⟩
  | 32 => ⟨S4x128x32x32, .f32⟩
  | 33 => ⟨S4x128x32x32, .f32⟩
  | 34 => ⟨S_, .f32⟩
  | 35 => ⟨S4x128x32x32, .f32⟩
  | 36 => ⟨S4x128x32x32, .f32⟩
  | 37 => ⟨S4x512x32x32, .f32⟩
  | 38 => ⟨S4x640x32x32, .f32⟩
  | 39 => ⟨S4x640x1024, .f32⟩
  | 40 => ⟨S4x640x1024, .f32⟩
  | 41 => ⟨S4x640x1024, .f32⟩
  | 42 => ⟨S4x640x8x128, .f32⟩
  | 43 => ⟨S4x8x640x128, .f32⟩
  | 44 => ⟨S32x640x128, .f32⟩
  | 45 => ⟨S4x640x8x128, .f32⟩
  | 46 => ⟨S4x8x640x128, .f32⟩
  | 47 => ⟨S32x640x128, .f32⟩
  | 48 => ⟨S8x5x32x640, .f32⟩
  | 49 => ⟨S32x8x640x5, .f32⟩
  | 50 => ⟨S32x8x640x5, .f32⟩
  | 51 => ⟨S32x8x640x10, .f32⟩
  | 52 => ⟨S32x8x640x1, .f32⟩
  | 53 => ⟨S32x8x640x1, .i32⟩
  | 54 => ⟨S32x8x640, .i32⟩
  | 55 => ⟨S8, .i32⟩
  | 56 => ⟨S_, .i32⟩
  | 57 => ⟨S8, .i32⟩
  | 58 => ⟨S8, .i32⟩
  | 59 => ⟨S1x8x1, .i32⟩
  | 60 => ⟨S32x8x640, .i32⟩
  | 61 => ⟨S32x8x640, .i32⟩
  | 62 => ⟨S32x5120, .i32⟩
  | 63 => ⟨S5120, .i32⟩
  | 64 => ⟨S1x5120, .i32⟩
  | 65 => ⟨S_, .i32⟩
  | 66 => ⟨S_, .i32⟩
  | 67 => ⟨S_, .i32⟩
  | 68 => ⟨S_, .i1⟩
  | 69 => ⟨S_, .i32⟩
  | 70 => ⟨S_, .i32⟩
  | 71 => ⟨S1x5120, .i32⟩
  | 72 => ⟨S1x5120, .i32⟩
  | 73 => ⟨S_, .i32⟩
  | 74 => ⟨S1x5120, .i32⟩
  | 75 => ⟨S1x5120, .i1⟩
  | 76 => ⟨S_, .i32⟩
  | 77 => ⟨S1x5120, .i32⟩
  | 78 => ⟨S1x5120, .i1⟩
  | 79 => ⟨S_, .i32⟩
  | 80 => ⟨S_, .i1⟩
  | 81 => ⟨S1x5120, .i1⟩
  | 82 => ⟨S1x5120, .i1⟩
  | 83 => ⟨S1x5120, .i1⟩
  | 84 => ⟨S1x5120, .i32⟩
  | 85 => ⟨S1x5120, .i32⟩
  | 86 => ⟨S1x5120, .i32⟩
  | 87 => ⟨S_, .i32⟩
  | 88 => ⟨S32x5120, .i32⟩
  | 89 => ⟨S32x5120, .i32⟩
  | 90 => ⟨S32x5120, .i32⟩
  | 91 => ⟨S32x5120, .i32⟩
  | 92 => ⟨S32x5120, .i32⟩
  | 93 => ⟨S32x5120, .i32⟩
  | 94 => ⟨S32x5120, .i32⟩
  | 95 => ⟨S32x5120, .i32⟩
  | 96 => ⟨S32x5120, .i32⟩
  | 97 => ⟨S32x5120, .i32⟩
  | 98 => ⟨S_, .i32⟩
  | 99 => ⟨S_, .i32⟩
  | 100 => ⟨S_, .i32⟩
  | 101 => ⟨S_, .i1⟩
  | 102 => ⟨S_, .i32⟩
  | 103 => ⟨S_, .i32⟩
  | 104 => ⟨S32x5120, .i32⟩
  | 105 => ⟨S32x5120, .i32⟩
  | 106 => ⟨S_, .i32⟩
  | 107 => ⟨S32x5120, .i32⟩
  | 108 => ⟨S32x5120, .i1⟩
  | 109 => ⟨S_, .i32⟩
  | 110 => ⟨S32x5120, .i32⟩
  | 111 => ⟨S32x5120, .i1⟩
  | 112 => ⟨S_, .i32⟩
  | 113 => ⟨S_, .i1⟩
  | 114 => ⟨S32x5120, .i1⟩
  | 115 => ⟨S32x5120, .i1⟩
  | 116 => ⟨S32x5120, .i1⟩
  | 117 => ⟨S32x5120, .i32⟩
  | 118 => ⟨S32x5120, .i32⟩
  | 119 => ⟨S32x5120, .i32⟩
  | 120 => ⟨S_, .i32⟩
  | 121 => ⟨S32x5120, .i32⟩
  | 122 => ⟨S32x5120, .i1⟩
  | 123 => ⟨S_, .i32⟩
  | 124 => ⟨S32x5120, .i32⟩
  | 125 => ⟨S32x5120, .i32⟩
  | 126 => ⟨S32x5120, .i32⟩
  | 127 => ⟨S32x5120x1, .i32⟩
  | _ => ⟨S4x128x64x64, .f32⟩

abbrev hbmTy0_1 (i : Nat) : BufTy := match i % 128 with
  | 0 => ⟨S32x5120x128, .f32⟩
  | 1 => ⟨S_, .i32⟩
  | 2 => ⟨S32x5120, .i32⟩
  | 3 => ⟨S32x5120, .i1⟩
  | 4 => ⟨S_, .i32⟩
  | 5 => ⟨S32x5120, .i32⟩
  | 6 => ⟨S32x5120, .i32⟩
  | 7 => ⟨S32x5120, .i32⟩
  | 8 => ⟨S32x5120x1, .i32⟩
  | 9 => ⟨S32x5120x128, .f32⟩
  | 10 => ⟨S32x80x64, .i32⟩
  | 11 => ⟨S32x80x64x128, .f32⟩
  | 12 => ⟨S32x80x64x128, .f32⟩
  | 13 => ⟨S32x80x64x128, .f32⟩
  | 14 => ⟨S_, .f32⟩
  | 15 => ⟨S32x80x64, .f32⟩
  | 16 => ⟨S32x80x64x1, .f32⟩
  | 17 => ⟨S32x80x64x1, .f32⟩
  | 18 => ⟨S_, .f32⟩
  | 19 => ⟨S32x80x64x1, .f32⟩
  | 20 => ⟨S32x80x64x1, .f32⟩
  | 21 => ⟨S32x80x64x128, .f32⟩
  | 22 => ⟨S32x80x64x128, .f32⟩
  | 23 => ⟨S32x1x64x128, .f32⟩
  | 24 => ⟨S32x79x64x128, .f32⟩
  | 25 => ⟨S32x80x64x128, .f32⟩
  | 26 => ⟨S32x80x128x128, .f32⟩
  | 27 => ⟨S32x1x64x128, .f32⟩
  | 28 => ⟨S32x79x64x128, .f32⟩
  | 29 => ⟨S32x80x64x128, .f32⟩
  | 30 => ⟨S32x80x128x128, .f32⟩
  | 31 => ⟨S32x1x64, .i32⟩
  | 32 => ⟨S32x79x64, .i32⟩
  | 33 => ⟨S32x80x64, .i32⟩
  | 34 => ⟨S32x80x128, .i32⟩
  | 35 => ⟨S32x80x64x128, .f32⟩
  | 36 => ⟨S_, .f32⟩
  | 37 => ⟨S32x80x64x128, .f32⟩
  | 38 => ⟨S32x80x64x128, .f32⟩
  | 39 => ⟨S32x80x64x1, .i32⟩
  | 40 => ⟨S32x80x1x128, .i32⟩
  | 41 => ⟨S32x80x64x128, .i32⟩
  | 42 => ⟨S32x80x64x128, .i32⟩
  | 43 => ⟨S32x80x64x128, .i1⟩
  | 44 => ⟨S_, .f32⟩
  | 45 => ⟨S_, .f32⟩
  | 46 => ⟨S32x80x64x128, .f32⟩
  | 47 => ⟨S32x80x64x128, .f32⟩
  | 48 => ⟨S_, .f32⟩
  | 49 => ⟨S32x80x64, .f32⟩
  | 50 => ⟨S32x80x64x1, .f32⟩
  | 51 => ⟨S32x80x64x128, .f32⟩
  | 52 => ⟨S32x80x64x128, .f32⟩
  | 53 => ⟨S32x80x64x128, .f32⟩
  | 54 => ⟨S_, .f32⟩
  | 55 => ⟨S32x80x64, .f32⟩
  | 56 => ⟨S32x80x64x1, .f32⟩
  | 57 => ⟨S32x80x64x1, .f32⟩
  | 58 => ⟨S32x80x64x1, .f32⟩
  | 59 => ⟨S32x80x64x128, .f32⟩
  | 60 => ⟨S32x80x64x128, .f32⟩
  | 61 => ⟨S32x80x64x128, .f32⟩
  | 62 => ⟨S32x80x64x128, .f32⟩
  | 63 => ⟨S32x5120x128, .f32⟩
  | 64 => ⟨S32x5120, .f32⟩
  | 65 => ⟨S_, .i32⟩
  | 66 => ⟨S32x5120, .i32⟩
  | 67 => ⟨S32x5120, .i1⟩
  | 68 => ⟨S_, .i32⟩
  | 69 => ⟨S32x5120, .i32⟩
  | 70 => ⟨S32x5120, .i32⟩
  | 71 => ⟨S32x5120, .i32⟩
  | 72 => ⟨S32x5120x1, .i32⟩
  | 73 => ⟨S32x5120x128, .f32⟩
  | 74 => ⟨S_, .i32⟩
  | 75 => ⟨S32x5120, .i32⟩
  | 76 => ⟨S32x5120, .i1⟩
  | 77 => ⟨S_, .i32⟩
  | 78 => ⟨S32x5120, .i32⟩
  | 79 => ⟨S32x5120, .i32⟩
  | 80 => ⟨S32x5120, .i32⟩
  | 81 => ⟨S32x5120x1, .i32⟩
  | 82 => ⟨S32x5120, .f32⟩
  | 83 => ⟨S32x8x640x128, .f32⟩
  | 84 => ⟨S32x8x640x1, .f32⟩
  | 85 => ⟨S_, .f32⟩
  | 86 => ⟨S32x640x1, .f32⟩
  | 87 => ⟨S32x1x640x1, .f32⟩
  | 88 => ⟨S32x8x640x1, .f32⟩
  | 89 => ⟨S32x8x640x1, .f32⟩
  | 90 => ⟨S32x8x640x1, .f32⟩
  | 91 => ⟨S_, .f32⟩
  | 92 => ⟨S32x640x1, .f32⟩
  | 93 => ⟨S32x1x640x1, .f32⟩
  | 94 => ⟨S32x1x640x1, .f32⟩
  | 95 => ⟨S32x1x640x1, .f32⟩
  | 96 => ⟨S32x8x640x1, .f32⟩
  | 97 => ⟨S32x8x640x1, .f32⟩
  | 98 => ⟨S32x8x640x1, .f32⟩
  | 99 => ⟨S32x8x640x128, .f32⟩
  | 100 => ⟨S32x8x640x128, .f32⟩
  | 101 => ⟨S_, .f32⟩
  | 102 => ⟨S32x640x128, .f32⟩
  | 103 => ⟨S4x8x640x128, .f32⟩
  | 104 => ⟨S4x640x8x128, .f32⟩
  | 105 => ⟨S4x640x1024, .f32⟩
  | 106 => ⟨S4x640x1024, .f32⟩
  | 107 => ⟨S1x1x1024, .f32⟩
  | 108 => ⟨S4x640x1024, .f32⟩
  | 109 => ⟨S4x640x1024, .f32⟩
  | 110 => ⟨S4x640x32x32, .f32⟩
  | _ => ⟨S4x128x64x64, .f32⟩

abbrev hbmTy (i : Nat) : BufTy := match i / 128 with
  | 0 => hbmTy0_0 i
  | 1 => hbmTy0_1 i
  | _ => ⟨S4x128x64x64, .f32⟩

abbrev bufTy : (tb : Table) → Fin (tcTables nBuf tb) → BufTy
  | .hbm, ⟨i, _⟩ => hbmTy i
  | _, _ => ⟨S4x128x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_values : Ref sig .tc := ⟨.hbm, 52, rfl⟩
abbrev main_indices : Ref sig .tc := ⟨.hbm, 53, rfl⟩
abbrev main_v41 : Ref sig .tc := ⟨.hbm, 54, rfl⟩
abbrev main_v42 : Ref sig .tc := ⟨.hbm, 55, rfl⟩
abbrev main_c : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_c_4 : Ref sig .tc := ⟨.hbm, 65, rfl⟩
abbrev main_call0_v0 : Ref sig .tc := ⟨.hbm, 66, rfl⟩
abbrev main_call0_c : Ref sig .tc := ⟨.hbm, 67, rfl⟩
abbrev main_call0_v1 : Ref sig .tc := ⟨.hbm, 68, rfl⟩
abbrev main_call0_c_0 : Ref sig .tc := ⟨.hbm, 69, rfl⟩
abbrev main_call0_v2 : Ref sig .tc := ⟨.hbm, 70, rfl⟩
abbrev main_call0_v3 : Ref sig .tc := ⟨.hbm, 71, rfl⟩
abbrev main_call0_v4 : Ref sig .tc := ⟨.hbm, 72, rfl⟩
abbrev main_call0_c_1 : Ref sig .tc := ⟨.hbm, 73, rfl⟩
abbrev main_call0_v5 : Ref sig .tc := ⟨.hbm, 74, rfl⟩
abbrev main_call0_v6 : Ref sig .tc := ⟨.hbm, 75, rfl⟩
abbrev main_call0_c_2 : Ref sig .tc := ⟨.hbm, 76, rfl⟩
abbrev main_call0_v7 : Ref sig .tc := ⟨.hbm, 77, rfl⟩
abbrev main_call0_v8 : Ref sig .tc := ⟨.hbm, 78, rfl⟩
abbrev main_call0_c_3 : Ref sig .tc := ⟨.hbm, 79, rfl⟩
abbrev main_call0_v9 : Ref sig .tc := ⟨.hbm, 80, rfl⟩
abbrev main_call0_v10 : Ref sig .tc := ⟨.hbm, 81, rfl⟩
abbrev main_call0_v11 : Ref sig .tc := ⟨.hbm, 82, rfl⟩
abbrev main_call0_v12 : Ref sig .tc := ⟨.hbm, 83, rfl⟩
abbrev main_call0_v13 : Ref sig .tc := ⟨.hbm, 84, rfl⟩
abbrev main_call0_v14 : Ref sig .tc := ⟨.hbm, 85, rfl⟩
abbrev main_v51 : Ref sig .tc := ⟨.hbm, 86, rfl⟩
abbrev main_c_5 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_call1_v0 : Ref sig .tc := ⟨.hbm, 92, rfl⟩
abbrev main_call1_v1_0 : Ref sig .tc := ⟨.hbm, 93, rfl⟩
abbrev main_v56 : Ref sig .tc := ⟨.hbm, 94, rfl⟩
abbrev main_call2_v0 : Ref sig .tc := ⟨.hbm, 95, rfl⟩
abbrev main_call2_v1_0 : Ref sig .tc := ⟨.hbm, 96, rfl⟩
abbrev main_v57 : Ref sig .tc := ⟨.hbm, 97, rfl⟩
abbrev main_c_6 : Ref sig .tc := ⟨.hbm, 98, rfl⟩
abbrev main_call3_v0 : Ref sig .tc := ⟨.hbm, 99, rfl⟩
abbrev main_call3_c : Ref sig .tc := ⟨.hbm, 100, rfl⟩
abbrev main_call3_v1 : Ref sig .tc := ⟨.hbm, 101, rfl⟩
abbrev main_call3_c_0 : Ref sig .tc := ⟨.hbm, 102, rfl⟩
abbrev main_call3_v2 : Ref sig .tc := ⟨.hbm, 103, rfl⟩
abbrev main_call3_v3 : Ref sig .tc := ⟨.hbm, 104, rfl⟩
abbrev main_call3_v4 : Ref sig .tc := ⟨.hbm, 105, rfl⟩
abbrev main_call3_c_1 : Ref sig .tc := ⟨.hbm, 106, rfl⟩
abbrev main_call3_v5 : Ref sig .tc := ⟨.hbm, 107, rfl⟩
abbrev main_call3_v6 : Ref sig .tc := ⟨.hbm, 108, rfl⟩
abbrev main_call3_c_2 : Ref sig .tc := ⟨.hbm, 109, rfl⟩
abbrev main_call3_v7 : Ref sig .tc := ⟨.hbm, 110, rfl⟩
abbrev main_call3_v8 : Ref sig .tc := ⟨.hbm, 111, rfl⟩
abbrev main_call3_c_3 : Ref sig .tc := ⟨.hbm, 112, rfl⟩
abbrev main_call3_v9 : Ref sig .tc := ⟨.hbm, 113, rfl⟩
abbrev main_call3_v10 : Ref sig .tc := ⟨.hbm, 114, rfl⟩
abbrev main_call3_v11 : Ref sig .tc := ⟨.hbm, 115, rfl⟩
abbrev main_call3_v12 : Ref sig .tc := ⟨.hbm, 116, rfl⟩
abbrev main_call3_v13 : Ref sig .tc := ⟨.hbm, 117, rfl⟩
abbrev main_call3_v14 : Ref sig .tc := ⟨.hbm, 118, rfl⟩
abbrev main_v58 : Ref sig .tc := ⟨.hbm, 119, rfl⟩
abbrev main_c_7 : Ref sig .tc := ⟨.hbm, 120, rfl⟩
abbrev main_v59 : Ref sig .tc := ⟨.hbm, 121, rfl⟩
abbrev main_v60 : Ref sig .tc := ⟨.hbm, 122, rfl⟩
abbrev main_c_8 : Ref sig .tc := ⟨.hbm, 123, rfl⟩
abbrev main_v61 : Ref sig .tc := ⟨.hbm, 124, rfl⟩
abbrev main_v62 : Ref sig .tc := ⟨.hbm, 125, rfl⟩
abbrev main_v63 : Ref sig .tc := ⟨.hbm, 126, rfl⟩
abbrev main_v64 : Ref sig .tc := ⟨.hbm, 127, rfl⟩
abbrev main_v65 : Ref sig .tc := ⟨.hbm, 128, rfl⟩
abbrev main_c_9 : Ref sig .tc := ⟨.hbm, 129, rfl⟩
abbrev main_v66 : Ref sig .tc := ⟨.hbm, 130, rfl⟩
abbrev main_v67 : Ref sig .tc := ⟨.hbm, 131, rfl⟩
abbrev main_c_10 : Ref sig .tc := ⟨.hbm, 132, rfl⟩
abbrev main_v68 : Ref sig .tc := ⟨.hbm, 133, rfl⟩
abbrev main_v69 : Ref sig .tc := ⟨.hbm, 134, rfl⟩
abbrev main_v70 : Ref sig .tc := ⟨.hbm, 135, rfl⟩
abbrev main_v71 : Ref sig .tc := ⟨.hbm, 136, rfl⟩
abbrev main_v72 : Ref sig .tc := ⟨.hbm, 137, rfl⟩
abbrev main_v73 : Ref sig .tc := ⟨.hbm, 138, rfl⟩
abbrev main_v74 : Ref sig .tc := ⟨.hbm, 139, rfl⟩
abbrev main_v75 : Ref sig .tc := ⟨.hbm, 140, rfl⟩
abbrev main_call4_v0 : Ref sig .tc := ⟨.hbm, 141, rfl⟩
abbrev main_call4_cst : Ref sig .tc := ⟨.hbm, 142, rfl⟩
abbrev main_call4_v1 : Ref sig .tc := ⟨.hbm, 143, rfl⟩
abbrev main_call4_v2 : Ref sig .tc := ⟨.hbm, 144, rfl⟩
abbrev main_v76 : Ref sig .tc := ⟨.hbm, 145, rfl⟩
abbrev main_cst_11 : Ref sig .tc := ⟨.hbm, 146, rfl⟩
abbrev main_v77 : Ref sig .tc := ⟨.hbm, 147, rfl⟩
abbrev main_v78 : Ref sig .tc := ⟨.hbm, 148, rfl⟩
abbrev main_v79 : Ref sig .tc := ⟨.hbm, 149, rfl⟩
abbrev main_v80 : Ref sig .tc := ⟨.hbm, 150, rfl⟩
abbrev main_call5_v0 : Ref sig .tc := ⟨.hbm, 151, rfl⟩
abbrev main_call5_v1 : Ref sig .tc := ⟨.hbm, 152, rfl⟩
abbrev main_v81 : Ref sig .tc := ⟨.hbm, 153, rfl⟩
abbrev main_v82 : Ref sig .tc := ⟨.hbm, 154, rfl⟩
abbrev main_call6_v0 : Ref sig .tc := ⟨.hbm, 155, rfl⟩
abbrev main_call6_v1 : Ref sig .tc := ⟨.hbm, 156, rfl⟩
abbrev main_v83 : Ref sig .tc := ⟨.hbm, 157, rfl⟩
abbrev main_v84 : Ref sig .tc := ⟨.hbm, 158, rfl⟩
abbrev main_call7_v0 : Ref sig .tc := ⟨.hbm, 159, rfl⟩
abbrev main_call7_v1 : Ref sig .tc := ⟨.hbm, 160, rfl⟩
abbrev main_v85 : Ref sig .tc := ⟨.hbm, 161, rfl⟩
abbrev main_v86 : Ref sig .tc := ⟨.hbm, 162, rfl⟩
abbrev main_v87 : Ref sig .tc := ⟨.hbm, 163, rfl⟩
abbrev main_cst_12 : Ref sig .tc := ⟨.hbm, 164, rfl⟩
abbrev main_v88 : Ref sig .tc := ⟨.hbm, 165, rfl⟩
abbrev main_v89 : Ref sig .tc := ⟨.hbm, 166, rfl⟩
abbrev main_v90 : Ref sig .tc := ⟨.hbm, 167, rfl⟩
abbrev main_v91 : Ref sig .tc := ⟨.hbm, 168, rfl⟩
abbrev main_v92 : Ref sig .tc := ⟨.hbm, 169, rfl⟩
abbrev main_v93 : Ref sig .tc := ⟨.hbm, 170, rfl⟩
abbrev main_v94 : Ref sig .tc := ⟨.hbm, 171, rfl⟩
abbrev main_cst_13 : Ref sig .tc := ⟨.hbm, 172, rfl⟩
abbrev main_call8_v0 : Ref sig .tc := ⟨.hbm, 173, rfl⟩
abbrev main_call8_v1 : Ref sig .tc := ⟨.hbm, 174, rfl⟩
abbrev main_v95 : Ref sig .tc := ⟨.hbm, 175, rfl⟩
abbrev main_cst_14 : Ref sig .tc := ⟨.hbm, 176, rfl⟩
abbrev main_v96 : Ref sig .tc := ⟨.hbm, 177, rfl⟩
abbrev main_v97 : Ref sig .tc := ⟨.hbm, 178, rfl⟩
abbrev main_v98 : Ref sig .tc := ⟨.hbm, 179, rfl⟩
abbrev main_v99 : Ref sig .tc := ⟨.hbm, 180, rfl⟩
abbrev main_v100 : Ref sig .tc := ⟨.hbm, 181, rfl⟩
abbrev main_cst_15 : Ref sig .tc := ⟨.hbm, 182, rfl⟩
abbrev main_v101 : Ref sig .tc := ⟨.hbm, 183, rfl⟩
abbrev main_v102 : Ref sig .tc := ⟨.hbm, 184, rfl⟩
abbrev main_v103 : Ref sig .tc := ⟨.hbm, 185, rfl⟩
abbrev main_v104 : Ref sig .tc := ⟨.hbm, 186, rfl⟩
abbrev main_v105 : Ref sig .tc := ⟨.hbm, 187, rfl⟩
abbrev main_v106 : Ref sig .tc := ⟨.hbm, 188, rfl⟩
abbrev main_v107 : Ref sig .tc := ⟨.hbm, 189, rfl⟩
abbrev main_v108 : Ref sig .tc := ⟨.hbm, 190, rfl⟩
abbrev main_v109 : Ref sig .tc := ⟨.hbm, 191, rfl⟩
abbrev main_v110 : Ref sig .tc := ⟨.hbm, 192, rfl⟩
abbrev main_c_16 : Ref sig .tc := ⟨.hbm, 193, rfl⟩
abbrev main_v111 : Ref sig .tc := ⟨.hbm, 194, rfl⟩
abbrev main_v112 : Ref sig .tc := ⟨.hbm, 195, rfl⟩
abbrev main_c_17 : Ref sig .tc := ⟨.hbm, 196, rfl⟩
abbrev main_v113 : Ref sig .tc := ⟨.hbm, 197, rfl⟩
abbrev main_v114 : Ref sig .tc := ⟨.hbm, 198, rfl⟩
abbrev main_v115 : Ref sig .tc := ⟨.hbm, 199, rfl⟩
abbrev main_v116 : Ref sig .tc := ⟨.hbm, 200, rfl⟩
abbrev main_v117 : Ref sig .tc := ⟨.hbm, 201, rfl⟩
abbrev main_c_18 : Ref sig .tc := ⟨.hbm, 202, rfl⟩
abbrev main_v118 : Ref sig .tc := ⟨.hbm, 203, rfl⟩
abbrev main_v119 : Ref sig .tc := ⟨.hbm, 204, rfl⟩
abbrev main_c_19 : Ref sig .tc := ⟨.hbm, 205, rfl⟩
abbrev main_v120 : Ref sig .tc := ⟨.hbm, 206, rfl⟩
abbrev main_v121 : Ref sig .tc := ⟨.hbm, 207, rfl⟩
abbrev main_v122 : Ref sig .tc := ⟨.hbm, 208, rfl⟩
abbrev main_v123 : Ref sig .tc := ⟨.hbm, 209, rfl⟩
abbrev main_v124 : Ref sig .tc := ⟨.hbm, 210, rfl⟩
abbrev main_v125 : Ref sig .tc := ⟨.hbm, 211, rfl⟩
abbrev main_v126 : Ref sig .tc := ⟨.hbm, 212, rfl⟩
abbrev main_cst_20 : Ref sig .tc := ⟨.hbm, 213, rfl⟩
abbrev main_v127 : Ref sig .tc := ⟨.hbm, 214, rfl⟩
abbrev main_v128 : Ref sig .tc := ⟨.hbm, 215, rfl⟩
abbrev main_v129 : Ref sig .tc := ⟨.hbm, 216, rfl⟩
abbrev main_v130 : Ref sig .tc := ⟨.hbm, 217, rfl⟩
abbrev main_v131 : Ref sig .tc := ⟨.hbm, 218, rfl⟩
abbrev main_cst_21 : Ref sig .tc := ⟨.hbm, 219, rfl⟩
abbrev main_v132 : Ref sig .tc := ⟨.hbm, 220, rfl⟩
abbrev main_v133 : Ref sig .tc := ⟨.hbm, 221, rfl⟩
abbrev main_v134 : Ref sig .tc := ⟨.hbm, 222, rfl⟩
abbrev main_v135 : Ref sig .tc := ⟨.hbm, 223, rfl⟩
abbrev main_v136 : Ref sig .tc := ⟨.hbm, 224, rfl⟩
abbrev main_v137 : Ref sig .tc := ⟨.hbm, 225, rfl⟩
abbrev main_v138 : Ref sig .tc := ⟨.hbm, 226, rfl⟩
abbrev main_v139 : Ref sig .tc := ⟨.hbm, 227, rfl⟩
abbrev main_v140 : Ref sig .tc := ⟨.hbm, 228, rfl⟩
abbrev main_cst_22 : Ref sig .tc := ⟨.hbm, 229, rfl⟩
abbrev main_v141 : Ref sig .tc := ⟨.hbm, 230, rfl⟩
abbrev main_v142 : Ref sig .tc := ⟨.hbm, 231, rfl⟩
abbrev main_v143 : Ref sig .tc := ⟨.hbm, 232, rfl⟩
abbrev main_v144 : Ref sig .tc := ⟨.hbm, 233, rfl⟩
abbrev main_v145 : Ref sig .tc := ⟨.hbm, 234, rfl⟩
abbrev main_v146 : Ref sig .tc := ⟨.hbm, 235, rfl⟩
abbrev main_v147 : Ref sig .tc := ⟨.hbm, 236, rfl⟩
abbrev main_v148 : Ref sig .tc := ⟨.hbm, 237, rfl⟩
abbrev main_v149 : Ref sig .tc := ⟨.hbm, 238, rfl⟩

abbrev nD : Nat := 1
abbrev τ : Topo := Topo.v7x

variable {F : FTy → Type} [FloatOps F]
-- ==== Proof.Spec.lean ====
module

public import Idealize.ShloMosaic.Lib.Pointwise

@[expose] public section

/-
  The attention of one (batch, head) pair over the real numbers.

  Each of eight hashes puts every token in a bucket and orders the tokens by bucket, then by token. The eight orders
  laid end to end give 5120 rows, cut into 80 chunks of 64; a chunk attends to itself and to the chunk before it.
-/

noncomputable section

namespace Cert.Spec
open Finset

/-- `b` is the first index at which `r` is largest. -/
def IsB (r : Fin 10 → ℝ) (b : Fin 10) : Prop := (∀ k, r k ≤ r b) ∧ ∀ k, k < b → r k < r b

theorem exists_isB (r : Fin 10 → ℝ) : ∃ b, IsB r b := by
  have hne : (univ.filter fun b : Fin 10 => ∀ k, r k ≤ r b).Nonempty := by
    obtain ⟨b, -, hb⟩ := exists_max_image univ r ⟨0, mem_univ 0⟩
    exact ⟨b, mem_filter.mpr ⟨mem_univ _, fun k => hb k (mem_univ k)⟩⟩
  refine ⟨_, (mem_filter.mp (min'_mem _ hne)).2, fun k hk => ?_⟩
  by_contra h
  have hk2 : k ∈ univ.filter fun b : Fin 10 => ∀ k, r k ≤ r b :=
    mem_filter.mpr ⟨mem_univ _, fun j => ((mem_filter.mp (min'_mem _ hne)).2 j).trans (not_lt.mp h)⟩
  exact absurd (min'_le _ _ hk2) (not_le.mpr hk)

theorem IsB.unique {r : Fin 10 → ℝ} {a b : Fin 10} (ha : IsB r a) (hb : IsB r b) : a = b := by
  rcases lt_trichotomy a b with h | h | h
  · exact absurd (ha.1 b) (not_le.mpr (hb.2 a h))
  · exact h
  · exact absurd (hb.1 a) (not_le.mpr (ha.2 b h))

/-- The first index at which `r` is largest. -/
def bucket (r : Fin 10 → ℝ) : Fin 10 := Classical.choose (exists_isB r)
theorem bucket_isB (r : Fin 10 → ℝ) : IsB r (bucket r) := Classical.choose_spec (exists_isB r)
theorem eq_bucket {r : Fin 10 → ℝ} {b : Fin 10} (h : IsB r b) : b = bucket r := h.unique (bucket_isB r)

/-- A token's rotations under hash `h`, then their negatives. -/
def rb (rot : Fin 640 → Fin 40 → ℝ) (h : Fin 8) (t : Fin 640) (k : Fin 10) : ℝ :=
  if hk : k.val < 5 then rot t ⟨5 * h.val + k.val, by omega⟩ else -rot t ⟨5 * h.val + (k.val - 5), by omega⟩

/-- The bucket hash `h` puts token `t` in. -/
def bk (rot : Fin 640 → Fin 40 → ℝ) (h : Fin 8) (t : Fin 640) : Fin 10 := bucket (rb rot h t)

section Order
variable (b : Fin 640 → Fin 10)

/-- Bucket, then token. -/
def key (t : Fin 640) : ℕ := (b t).val * 640 + t.val

theorem key_inj {s t : Fin 640} (h : key b s = key b t) : s = t := by
  unfold key at h; apply Fin.ext; omega

theorem key_lt_iff {s t : Fin 640} : key b s < key b t ↔ (b s < b t ∨ (b s = b t ∧ s < t)) := by
  unfold key; rw [Fin.lt_def, Fin.lt_def, Fin.ext_iff]; omega

/-- How many tokens come before `t`. -/
def posN (t : Fin 640) : ℕ := (univ.filter fun s => key b s < key b t).card

theorem posN_lt (t : Fin 640) : posN b t < 640 := by
  have : (univ.filter fun s => key b s < key b t) ⊂ univ :=
    ⟨subset_univ _, fun h => absurd (mem_filter.mp (h (mem_univ t))).2 (lt_irrefl _)⟩
  simpa [posN] using card_lt_card this

theorem posN_strictMono {s t : Fin 640} (h : key b s < key b t) : posN b s < posN b t := by
  apply card_lt_card
  refine ⟨fun u hu => mem_filter.mpr ⟨mem_univ _, (mem_filter.mp hu).2.trans h⟩, fun hh => ?_⟩
  exact absurd (mem_filter.mp (hh (mem_filter.mpr ⟨mem_univ s, h⟩))).2 (lt_irrefl _)

/-- The place of token `t` in the order. -/
def pos (t : Fin 640) : Fin 640 := ⟨posN b t, posN_lt b t⟩

theorem pos_injective : Function.Injective (pos b) := by
  intro s t h
  have h' : posN b s = posN b t := congrArg Fin.val h
  rcases lt_trichotomy (key b s) (key b t) with hk | hk | hk
  · exact absurd h' (posN_strictMono b hk).ne
  · exact key_inj b hk
  · exact absurd h' (posN_strictMono b hk).ne'

/-- The token at each place. -/
def ord : Fin 640 ≃ Fin 640 :=
  (Equiv.ofBijective (pos b) (Finite.injective_iff_bijective.mp (pos_injective b))).symm

@[simp] theorem pos_ord (i : Fin 640) : pos b (ord b i) = i :=
  (Equiv.ofBijective (pos b) _).apply_symm_apply i
@[simp] theorem ord_pos (t : Fin 640) : ord b (pos b t) = t :=
  (Equiv.ofBijective (pos b) (Finite.injective_iff_bijective.mp (pos_injective b))).symm_apply_apply t
theorem pos_eq_iff {t i : Fin 640} : pos b t = i ↔ t = ord b i :=
  ⟨fun h => by rw [← h, ord_pos], fun h => by rw [h, pos_ord]⟩

end Order

section Attend
variable (eps scl msk : ℝ) (qk v : Fin 640 → Fin 128 → ℝ) (b : Fin 8 → Fin 640 → Fin 10)

/-- The token on row `g` of the eight orders laid end to end. -/
def tok (g : Fin 5120) : Fin 640 := ord (b ⟨g.val / 640, by omega⟩) ⟨g.val % 640, by omega⟩

/-- Row `i` of chunk `c`. -/
def row (c : Fin 80) (i : Fin 64) : Fin 5120 := ⟨64 * c.val + i.val, by omega⟩

/-- The rows chunk `c` attends to: its own, then those of the chunk before. -/
def keyrow (c : Fin 80) (j : Fin 128) : Fin 5120 :=
  if h : j.val < 64 then ⟨64 * c.val + j.val, by omega⟩ else ⟨64 * ((c.val + 79) % 80) + (j.val - 64), by omega⟩

/-- The key of a token: its query over the query's length. -/
def kn (t : Fin 640) (d : Fin 128) : ℝ := qk t d / max (Real.sqrt (∑ e, qk t e * qk t e)) eps

/-- The score of row `i` against attended row `j` of chunk `c`: a fixed one if they are one token. -/
def sc (c : Fin 80) (i : Fin 64) (j : Fin 128) : ℝ :=
  if tok b (row c i) = tok b (keyrow c j) then msk
  else (∑ d, qk (tok b (row c i)) d * kn eps qk (tok b (keyrow c j)) d) * scl

def mx {n : ℕ} [NeZero n] (x : Fin n → ℝ) : ℝ := univ.sup' ⟨0, mem_univ 0⟩ x
/-- The sum of the exponentials, from the largest. -/
def es {n : ℕ} [NeZero n] (x : Fin n → ℝ) : ℝ := ∑ j, Real.exp (x j - mx x)

theorem es_pos {n : ℕ} [NeZero n] (x : Fin n → ℝ) : 0 < es x :=
  sum_pos (fun _ _ => Real.exp_pos _) ⟨0, mem_univ 0⟩

/-- The softmax weight by subtraction of the log-sum. -/
theorem exp_sub_lse {n : ℕ} [NeZero n] (x : Fin n → ℝ) (j : Fin n) :
    Real.exp (x j - (Real.log (es x) + mx x)) = Real.exp (x j - mx x) / es x := by
  rw [show x j - (Real.log (es x) + mx x) = (x j - mx x) - Real.log (es x) by ring, Real.exp_sub,
    Real.exp_log (es_pos x)]

/-- Row `g`'s output before the hashes are combined. -/
def so (g : Fin 5120) (d : Fin 128) : ℝ :=
  ∑ j, Real.exp (sc eps scl msk qk b ⟨g.val / 64, by omega⟩ ⟨g.val % 64, by omega⟩ j
      - mx (sc eps scl msk qk b ⟨g.val / 64, by omega⟩ ⟨g.val % 64, by omega⟩))
    / es (sc eps scl msk qk b ⟨g.val / 64, by omega⟩ ⟨g.val % 64, by omega⟩)
    * v (tok b (keyrow ⟨g.val / 64, by omega⟩ j)) d

/-- Row `g`'s log-sum. -/
def lse (g : Fin 5120) : ℝ :=
  mx (sc eps scl msk qk b ⟨g.val / 64, by omega⟩ ⟨g.val % 64, by omega⟩)
    + Real.log (es (sc eps scl msk qk b ⟨g.val / 64, by omega⟩ ⟨g.val % 64, by omega⟩))

/-- The row of token `t` in hash `h`. -/
def rowOf (h : Fin 8) (t : Fin 640) : Fin 5120 := ⟨640 * h.val + (pos (b h) t).val, by omega⟩

theorem tok_rowOf (h : Fin 8) (t : Fin 640) : tok b (rowOf b h t) = t := by
  have h1 : (⟨(rowOf b h t).val / 640, by omega⟩ : Fin 8) = h := Fin.ext (by simp only [rowOf]; omega)
  have h2 : (⟨(rowOf b h t).val % 640, by omega⟩ : Fin 640) = pos (b h) t := Fin.ext (by simp only [rowOf]; omega)
  unfold tok; rw [h1, h2, ord_pos]

/-- Token `t`'s log-sums, one per hash. -/
def ul (t : Fin 640) (h : Fin 8) : ℝ := lse eps scl msk qk b (rowOf b h t)

/-- The attention output of token `t`. -/
def attn (t : Fin 640) (d : Fin 128) : ℝ :=
  ∑ h, so eps scl msk qk v b (rowOf b h t) d
    * (Real.exp (ul eps scl msk qk b t h - mx (ul eps scl msk qk b t)) / es (ul eps scl msk qk b t))

end Attend
end Cert.Spec
-- ==== Proof.Tools.lean ====
module

public import Idealize.ShloMosaic.Lib.Pointwise
public import proofs.«01_k».proof.Proof.Spec

@[expose] public section

/-
  Ideal arithmetic on real numbers, one-hot sums, and folds of the largest and the least.
-/

noncomputable section

namespace Cert.Tools
open Finset Idealize.ShloMosaic

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [sum_insert ha, sum_insert ha, EReal.coe_add, ih]

theorem coe_max (x y : ℝ) : ((max x y : ℝ) : EReal) = max (x : EReal) y := by
  rcases le_total x y with h | h
  · rw [max_eq_right h, max_eq_right (EReal.coe_le_coe_iff.mpr h)]
  · rw [max_eq_left h, max_eq_left (EReal.coe_le_coe_iff.mpr h)]

theorem sum_mul_coe {ι : Type*} (s : Finset ι) (f g : ι → ℝ) :
    ∑ i ∈ s, (f i : EReal) * (g i : EReal) = ((∑ i ∈ s, f i * g i : ℝ) : EReal) := by
  rw [coe_sum]; exact sum_congr rfl fun i _ => (EReal.coe_mul _ _).symm

theorem sub_self_coe (x : ℝ) : (x : EReal) - (x : EReal) = 0 := by rw [← EReal.coe_sub, sub_self, EReal.coe_zero]

/-- The pattern of minus infinity. -/
theorem ninf : Ideal.ofBits .f32 4286578688#32 = ⊥ := by simp [Ideal.ofBits, Ideal.ieee]

theorem one_f32 : Ideal.ofBits .f32 0x3F800000#32 = 1 := by
  simp [Ideal.ofBits, Ideal.ieee]
  rw [← EReal.coe_mul, ← EReal.coe_one]; norm_num

theorem eps_real : ∃ r : ℝ, Ideal.ofBits .f32 730643660#32 = r ∧ 0 < r := by
  refine ⟨_, by simp [Ideal.ofBits, Ideal.ieee]; rfl, ?_⟩
  positivity
theorem msk_real : ∃ r : ℝ, Ideal.ofBits .f32 3343077376#32 = r := by
  refine ⟨_, by simp [Ideal.ofBits, Ideal.ieee]; rfl⟩
theorem scl_real : ∃ r : ℝ, Ideal.ofBits .f32 1035273459#32 = r := by
  refine ⟨_, by simp [Ideal.ofBits, Ideal.ieee]; rfl⟩
/-- The least length a key is divided by. -/
def eps : ℝ := eps_real.choose
theorem eps_eq : Ideal.ofBits .f32 730643660#32 = (eps : EReal) := eps_real.choose_spec.1
theorem eps_pos : 0 < eps := eps_real.choose_spec.2
/-- The score of a token against itself. -/
def msk : ℝ := msk_real.choose
theorem msk_eq : Ideal.ofBits .f32 3343077376#32 = (msk : EReal) := msk_real.choose_spec
/-- The scale of the scores. -/
def scl : ℝ := scl_real.choose
theorem scl_eq : Ideal.ofBits .f32 1035273459#32 = (scl : EReal) := scl_real.choose_spec

theorem ideal_exp (x : ℝ) : Ideal.exp (x : EReal) = ((Real.exp x : ℝ) : EReal) := rfl
theorem ideal_log {x : ℝ} (h : 0 < x) : Ideal.log (x : EReal) = ((Real.log x : ℝ) : EReal) := by
  rw [Ideal.log_coe, if_neg (not_le.mpr h)]
theorem ideal_sqrt {x : ℝ} (h : 0 ≤ x) : Ideal.sqrt (x : EReal) = ((Real.sqrt x : ℝ) : EReal) := by
  rw [Ideal.sqrt_coe, if_neg (not_lt.mpr h)]
theorem ideal_div (x : ℝ) {y : ℝ} (h : y ≠ 0) : Ideal.div (x : EReal) (y : EReal) = ((x / y : ℝ) : EReal) := by
  rw [Ideal.div, if_neg (by exact_mod_cast h), ← EReal.coe_inv, ← EReal.coe_mul, div_eq_mul_inv]

/-- The largest of reals, from minus infinity. -/
theorem fold_max {n : ℕ} [NeZero n] (x : Fin n → ℝ) :
    Finset.fold max (⊥ : EReal) (fun j => (x j : EReal)) univ = ((Spec.mx x : ℝ) : EReal) := by
  apply le_antisymm
  · rw [Finset.fold_max_le]
    exact ⟨bot_le, fun j _ => EReal.coe_le_coe_iff.mpr (Finset.le_sup' x (mem_univ j))⟩
  · rw [Finset.le_fold_max]
    obtain ⟨j, -, hj⟩ := Finset.exists_mem_eq_sup' (⟨0, mem_univ 0⟩ : (univ : Finset (Fin n)).Nonempty) x
    exact Or.inr ⟨j, mem_univ j, by rw [Spec.mx, hj]⟩

/-- A bit, widened and read as a number. -/
theorem bit_num (p : Prop) [Decidable p] :
    ((((BitVec.setWidth 32 (BitVec.ofBool (decide p))).toInt : ℝ)) : EReal) = if p then 1 else 0 := by
  by_cases h : p <;> simp [h]

theorem sitofp_bit (p : Prop) [Decidable p] :
    (FloatOps.sitofp FTy.f32 (BitVec.setWidth 32 (BitVec.ofBool (decide p))) : Ideal .f32) = (if p then (1 : EReal) else 0) :=
  bit_num p

theorem toInt_nat {n : ℕ} (h : n < 2 ^ 31) : (BitVec.ofNat 32 n).toInt = n := by
  have h2 : (BitVec.ofNat 32 n).toNat = n := by rw [BitVec.toNat_ofNat]; omega
  rw [BitVec.toInt_eq_toNat_of_lt (by rw [h2]; omega), h2]

theorem sitofp_nat {n : ℕ} (h : n < 2 ^ 31) :
    (FloatOps.sitofp FTy.f32 (BitVec.ofNat 32 n) : Ideal .f32) = (((n : ℝ) : EReal)) := by
  show ((((BitVec.ofNat 32 n).toInt : ℝ)) : EReal) = _
  rw [toInt_nat h]; norm_cast

theorem ofNat_inj {m n : ℕ} (hm : m < 2 ^ 31) (hn : n < 2 ^ 31) : BitVec.ofNat 32 m = BitVec.ofNat 32 n ↔ m = n := by
  constructor
  · intro h; have := congrArg BitVec.toNat h
    simp only [BitVec.toNat_ofNat] at this; omega
  · rintro rfl; rfl

theorem natcast_inj {m n : ℕ} : (((m : ℝ) : EReal) = ((n : ℝ) : EReal)) ↔ m = n := by
  rw [EReal.coe_eq_coe_iff, Nat.cast_inj]

/-- A sum against a one-hot row. -/
theorem onehot {ι : Type*} [Fintype ι] [DecidableEq ι] (a : ι) (p : ι → Prop) [DecidablePred p] (hp : ∀ x, p x ↔ x = a) (f : ι → EReal) :
    ∑ x, (if p x then (1 : EReal) else 0) * f x = f a := by
  rw [sum_eq_single a]
  · rw [if_pos ((hp a).mpr rfl), one_mul]
  · intro x _ hx; rw [if_neg (fun h => hx ((hp x).mp h)), zero_mul]
  · intro h; exact absurd (mem_univ a) h

theorem sum_bit {ι : Type*} [Fintype ι] (p : ι → Prop) [DecidablePred p] :
    ∑ x, (if p x then (1 : EReal) else 0) = (((univ.filter p).card : ℝ) : EReal) := by
  rw [show (fun x => if p x then (1 : EReal) else 0) = fun x => (((if p x then 1 else 0 : ℝ)) : EReal) from
    funext fun x => by split <;> simp, ← coe_sum, sum_boole]

theorem bit_mul_bit (p q : Prop) [Decidable p] [Decidable q] :
    (if p then (1 : EReal) else 0) * (if q then 1 else 0) = if p ∧ q then 1 else 0 := by
  by_cases hp : p <;> by_cases hq : q <;> simp [hp, hq]

/-- The least word over an index, read as a number. -/
theorem fold_minsi {n : ℕ} (init : BitVec 32) (f : Fin n → BitVec 32) :
    (Finset.fold IntOp.minsi init f univ).toInt = Finset.fold min init.toInt (fun x => (f x).toInt) univ := by
  refine (Finset.fold_hom (m := BitVec.toInt) ?_).symm
  intro x y
  simp only [IntOp.minsi, BitVec.slt, decide_eq_true_eq]
  split <;> omega

/-- The least index at which a row of reals is largest, found by comparing to the largest. -/
theorem least_index (r : Fin 10 → ℝ) :
    Finset.fold IntOp.minsi (2147483647#32)
      (fun x : Fin 10 => if ((Spec.mx r : ℝ) : EReal) ≤ (r x : EReal) then BitVec.ofNat 32 x.val else 10#32) univ
      = BitVec.ofNat 32 (Spec.bucket r).val := by
  apply BitVec.eq_of_toInt_eq
  obtain ⟨hb1, hb2⟩ := Spec.bucket_isB r
  generalize Spec.bucket r = b at hb1 hb2 ⊢
  have hmx : Spec.mx r = r b := le_antisymm (Finset.sup'_le _ _ fun k _ => hb1 k) (Finset.le_sup' r (mem_univ b))
  rw [fold_minsi, toInt_nat (n := b.val) (by omega), hmx]
  have h10 : (10#32 : BitVec 32).toInt = 10 := by decide
  apply le_antisymm
  · rw [Finset.fold_min_le]
    exact Or.inr ⟨b, mem_univ b, by rw [if_pos le_rfl, toInt_nat (n := b.val) (by omega)]⟩
  · rw [Finset.le_fold_min]
    refine ⟨by rw [show (2147483647#32 : BitVec 32).toInt = 2147483647 by decide]; omega, fun x _ => ?_⟩
    split
    · rename_i h
      rw [toInt_nat (n := x.val) (by omega)]
      by_contra hc
      exact absurd (EReal.coe_le_coe_iff.mp h) (not_le.mpr (hb2 x (by rw [Fin.lt_def]; omega)))
    · rw [h10]; omega

end Cert.Tools
-- ==== Proof.Finite.lean ====
module

public import proofs.«01_k».proof.Pre_finite_arguments
public import proofs.«01_k».proof.Proof.Tools
public import Idealize.ShloMosaic.Lib.ReduceAll

@[expose] public section

/-
  The precondition read: every entry of every argument is a real number.
-/

noncomputable section

namespace Cert.Finite
open Idealize.ShloMosaic Cert.Pre_finite_arguments

instance facts : Cert.Pre_finite_arguments.Facts where
  bcast_S_S4x128x64x64 := by decide
  reducesTo_S4x128x64x64_S_d0_1_2_3 := by decide
  h_S_ := by decide
  bcast_S_S1024x1024 := by decide
  reducesTo_S1024x1024_S_d0_1 := by decide
  bcast_S_S1024 := by decide
  reducesTo_S1024_S_d0 := by decide
  bcast_S_S128x8x5 := by decide
  reducesTo_S128x8x5_S_d0_1_2 := by decide

theorem inf : Ideal.ofBits .f32 0x7F800000#32 = ⊤ := by simp [Ideal.ofBits, Ideal.ieee]

theorem real_of_lt (x : EReal) (h : Ideal.cmp .olt (max x (-x)) ⊤ = 1#1) : ∃ r : ℝ, x = (r : EReal) := by
  have h' : max x (-x) < ⊤ := by
    by_contra hn
    simp [Ideal.cmp, hn] at h
  have h1 : x ≠ ⊤ := fun e => absurd (lt_of_le_of_lt (le_max_left _ _) h') (by rw [e]; exact lt_irrefl _)
  have h2 : x ≠ ⊥ := fun e => absurd (lt_of_le_of_lt (le_max_right _ _) h') (by rw [e, EReal.neg_bot]; exact lt_irrefl _)
  exact ⟨x.toReal, (EReal.coe_toReal h1 h2).symm⟩

theorem split (a b : IVec S_ 1) (h : andi a b = fun _ => 1#1) : a = (fun _ => 1#1) ∧ b = fun _ => 1#1 := by
  have key : ∀ u v : BitVec 1, IntOp.andi u v = 1#1 → u = 1#1 ∧ v = 1#1 := by decide
  exact ⟨funext fun i => (key _ _ (congrFun h i)).1, funext fun i => (key _ _ (congrFun h i)).2⟩

/-- All entries of an array are real, from its share of the precondition. -/
theorem part {s : Shape} {axes : List (Fin s.rank)} (x : FVec Ideal s .f32) (hb : S_.BroadcastsInDim s (![] : Fin 0 → Fin s.rank)) (hr : s.ReducesTo axes S_) (hS : 0 < S_.numel)
    (h : Host.reduce IntOp.andi (cmpf .olt (Host.absf x) (broadcastInDim s ![] hb (constant (F := Ideal) S_ .f32 0x7F800000#32))) (constantI S_ 1 1#1) hr hS = fun _ => 1#1) :
    ∃ f : s.Idx → ℝ, ∀ i, x i = ((f i : ℝ) : EReal) := by
  have : ∀ i, ∃ r : ℝ, x i = (r : EReal) := fun i => real_of_lt _ (by
    haveI : Subsingleton S_.Idx := ⟨fun a b => funext fun k => k.elim0⟩
    have e := Host.reduce_andi_all _ _ hr hS (fun k => k.elim0) (congrFun h _) i
    rw [← inf]
    exact e)
  choose f hf using this
  exact ⟨f, hf⟩

theorem all (x0 : FVec Ideal S4x128x64x64 .f32) (x1 x2 x3 : FVec Ideal S1024x1024 .f32) (x4 : FVec Ideal S1024 .f32) (x5 : FVec Ideal S128x8x5 .f32)
    (h : fn (F := Ideal) x0 x1 x2 x3 x4 x5 = fun _ => 1#1) :
    (∃ f : S4x128x64x64.Idx → ℝ, ∀ i, x0 i = ((f i : ℝ) : EReal)) ∧ (∃ f : S1024x1024.Idx → ℝ, ∀ i, x1 i = ((f i : ℝ) : EReal))
      ∧ (∃ f : S1024x1024.Idx → ℝ, ∀ i, x2 i = ((f i : ℝ) : EReal)) ∧ (∃ f : S1024x1024.Idx → ℝ, ∀ i, x3 i = ((f i : ℝ) : EReal))
      ∧ (∃ f : S1024.Idx → ℝ, ∀ i, x4 i = ((f i : ℝ) : EReal)) ∧ ∃ f : S128x8x5.Idx → ℝ, ∀ i, x5 i = ((f i : ℝ) : EReal) := by
  unfold fn fn_part1 at h
  obtain ⟨h, h5⟩ := split _ _ h
  obtain ⟨h, h4⟩ := split _ _ h
  obtain ⟨h, h3⟩ := split _ _ h
  obtain ⟨h, h2⟩ := split _ _ h
  obtain ⟨h0, h1⟩ := split _ _ h
  exact ⟨part _ _ _ _ h0, part _ _ _ _ h1, part _ _ _ _ h2, part _ _ _ _ h3, part _ _ _ _ h4, part _ _ _ _ h5⟩

end Cert.Finite
-- ==== Proof.KernRun.lean ====
module

public import proofs.«01_k».proof.Proof.Gen.KernelIdeal.Frame
public import Idealize.ShloMosaic.Lib.Pipeline.ValueKit

@[expose] public section

/-
  The kernel's run, with the result array: the result ends at the last boundary's contents, which are the projection
  call's array reshaped; the argument arrays end as launched.
-/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run of the kernel ends with the result array at the last boundary's contents and the arguments as launched. -/
theorem value_run : θ_run defs (onTc (τ := τ) (main (F := F))) ⟨m, fun _ => 0, ρ⟩ (fun r => ∀ c : Dev nD,
      r.2.mem ((c.tc : Thread nD τ).loc main_v7) = W6 m ρ c (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => fun c =>
      ⟨h c _ (mem_uc main_v7 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

/-! ## The host reshapes between the calls -/

theorem v1_eq (c : Dev nD) : W2 m ρ c (Proc.devRef .tc main_v1)
    = shapeCast S4x640x1024 (W1 m ρ c (Proc.devRef .tc main_v0) : Vec F S4x640x32x32 .f32) shapeCasts_S4x640x32x32_S4x640x1024 := by
  rfl
theorem v2_eq (c : Dev nD) : W2 m ρ c (Proc.devRef .tc main_v2)
    = shapeCast S128x40 (m ((c : Thread nD τ).loc main_arg5) : Vec F S128x8x5 .f32) shapeCasts_S128x8x5_S128x40 := by
  rw [← W1_args m ρ c main_arg5 (by decide)]; rfl
theorem v4_eq (c : Dev nD) : W4 m ρ c (Proc.devRef .tc main_v4)
    = shapeCast S2560x1024 (W3 m ρ c (Proc.devRef .tc main_v3) : Vec F S4x640x1024 .f32) shapeCasts_S4x640x1024_S2560x1024 := by
  rfl
theorem v5_eq (c : Dev nD) : W4 m ρ c (Proc.devRef .tc main_v5)
    = shapeCast S1x1024 (m ((c : Thread nD τ).loc main_arg4) : Vec F S1024 .f32) shapeCasts_S1024_S1x1024 := by
  rw [← W3_args m ρ c main_arg4 (by decide)]; rfl
theorem v7_eq (c : Dev nD) : W6 m ρ c (Proc.devRef .tc main_v7)
    = shapeCast S4x640x32x32 (W5 m ρ c (Proc.devRef .tc main_v6) : Vec F S2560x1024 .f32) shapeCasts_S2560x1024_S4x640x32x32 := by
  rfl

end Cert.KernelIdeal.Gen
-- ==== Proof.FrontSpec.lean ====
module

public import proofs.«01_k».proof.Proof.Tools

@[expose] public section

/-
  The front end over the reals: a 3×3 maximum with stride 2, and the four bands of the 2×2 Haar transform.
-/

noncomputable section

namespace Cert.Spec
open Idealize.ShloMosaic Cert.Tools

theorem half_real : ∃ r : ℝ, Ideal.ofBits .f32 1056964608#32 = (r : EReal) :=
  ⟨_, by simp [Ideal.ofBits, Ideal.ieee]; rfl⟩
/-- The factor of every band. -/
def half : ℝ := half_real.choose
theorem half_eq : Ideal.ofBits .f32 1056964608#32 = (half : EReal) := half_real.choose_spec

/-- The maximum of three rows; the row before the first one is the first one. -/
def cm (X : Fin 64 → Fin 64 → ℝ) (r : Fin 32) (j : Fin 64) : ℝ :=
  max (X ⟨2 * r.val, by omega⟩ j) (max (X ⟨2 * r.val + 1, by omega⟩ j) (X ⟨2 * r.val - 1, by omega⟩ j))

/-- The maximum of three columns of those; beyond an edge the edge is repeated. -/
def hmx (X : Fin 64 → Fin 64 → ℝ) (r : Fin 32) (j : Fin 64) : ℝ :=
  max (cm X r j) (max (cm X r ⟨min (j.val + 1) 63, by omega⟩) (cm X r ⟨j.val - 1, by omega⟩))

/-- The pooled image. -/
def pool (X : Fin 64 → Fin 64 → ℝ) (r l : Fin 32) : ℝ := hmx X r ⟨2 * l.val, by omega⟩

/-- One of the four pixels of a 2×2 block. -/
def px (X : Fin 64 → Fin 64 → ℝ) (r l : Fin 32) (u v : Fin 2) : ℝ := X ⟨2 * r.val + u.val, by omega⟩ ⟨2 * l.val + v.val, by omega⟩

/-- The five groups of channels: the pooled image and the four bands. -/
def front (X : Fin 128 → Fin 64 → Fin 64 → ℝ) (c : Fin 640) (r l : Fin 32) : ℝ :=
  if h : c.val < 128 then pool (X ⟨c.val, h⟩) r l
  else if h : c.val - 128 < 128 then
    (px (X ⟨c.val - 128, h⟩) r l 0 0 + px (X ⟨c.val - 128, h⟩) r l 0 1 + px (X ⟨c.val - 128, h⟩) r l 1 0 + px (X ⟨c.val - 128, h⟩) r l 1 1) * half
  else if h : c.val - 128 - 128 < 128 then
    (px (X ⟨c.val - 128 - 128, h⟩) r l 1 0 + px (X ⟨c.val - 128 - 128, h⟩) r l 1 1 - px (X ⟨c.val - 128 - 128, h⟩) r l 0 0 - px (X ⟨c.val - 128 - 128, h⟩) r l 0 1) * half
  else if h : c.val - 128 - 128 - 128 < 128 then
    (px (X ⟨c.val - 128 - 128 - 128, h⟩) r l 0 1 + px (X ⟨c.val - 128 - 128 - 128, h⟩) r l 1 1 - px (X ⟨c.val - 128 - 128 - 128, h⟩) r l 0 0 - px (X ⟨c.val - 128 - 128 - 128, h⟩) r l 1 0) * half
  else
    (px (X ⟨c.val - 128 - 128 - 128 - 128, by omega⟩) r l 0 0 - px (X ⟨c.val - 128 - 128 - 128 - 128, by omega⟩) r l 0 1 - px (X ⟨c.val - 128 - 128 - 128 - 128, by omega⟩) r l 1 0 + px (X ⟨c.val - 128 - 128 - 128 - 128, by omega⟩) r l 1 1) * half

/-- The channels as rows of tokens: a channel's image laid out in a row. -/
def tokens (X : Fin 128 → Fin 64 → Fin 64 → ℝ) (t : Fin 640) (k : Fin 1024) : ℝ :=
  front X t ⟨k.val / 32, by omega⟩ ⟨k.val % 32, by omega⟩

end Cert.Spec
-- ==== Proof.KernFront.lean ====
module

public import proofs.«01_k».proof.Proof.KernRun
public import proofs.«01_k».proof.Proof.FrontSpec
public import Idealize.ShloMosaic.Lib.Pointwise

@[expose] public section

/-
  The front end's array: the pooled image and the four wavelet bands, at coordinates.
-/

set_option maxRecDepth 16384

noncomputable section

namespace Cert.KernelIdeal.Front
open Idealize.ShloMosaic Idealize.ShloMosaic.TcCoe Idealize.SL.Sem
open Cert.KernelIdeal Cert.KernelIdeal.Gen Cert.Tools Cert.Spec

/-- The matrix that picks the even columns. -/
theorem pick0 (x : Fin 64) (l : Fin 32) : k0_pay3 (F := Ideal) (ix2 x l) = (if x = ⟨2 * l.val, by omega⟩ then (1 : EReal) else 0) := by
  pointwise [k0_pay3]
  refine (sitofp_bit _).trans ?_
  have h : IntOp.muli 2#32 (BitVec.ofNat 32 l.val) = BitVec.ofNat 32 (2 * l.val) := by
    rw [BitVec.ofNat_mul]; rfl
  simp only [h, ofNat_inj (show x.val < 2 ^ 31 by omega) (show 2 * l.val < 2 ^ 31 by omega), Fin.ext_iff]

/-- The matrix that picks the odd columns. -/
theorem pick1 (x : Fin 64) (l : Fin 32) : k0_pay4 (F := Ideal) (ix2 x l) = (if x = ⟨2 * l.val + 1, by omega⟩ then (1 : EReal) else 0) := by
  pointwise [k0_pay4]
  refine (sitofp_bit _).trans ?_
  have h : IntOp.addi (IntOp.muli 2#32 (BitVec.ofNat 32 l.val)) 1#32 = BitVec.ofNat 32 (2 * l.val + 1) := by
    rw [BitVec.ofNat_add, BitVec.ofNat_mul]; rfl
  simp only [h, ofNat_inj (show x.val < 2 ^ 31 by omega) (show 2 * l.val + 1 < 2 ^ 31 by omega), Fin.ext_iff]

/-- A product with a matrix that picks one column. -/
theorem picked (v : FVec Ideal S4096x64 .f32) (P : FVec Ideal S64x32 .f32) (a : Fin 32 → Fin 64)
    (hP : ∀ x l, P (ix2 x l) = if x = a l then (1 : EReal) else 0) (p : Fin 4096) (l : Fin 32) :
    matmul (F := Ideal) dot_S4096x64_S64x32_S4096x32_1_0_0_1_n_n (some .fp32) v P (constant S4096x32 .f32 0x00000000#32) (ix2 p l) = v (ix2 p (a l)) := by
  have h : matmul (F := Ideal) dot_S4096x64_S64x32_S4096x32_1_0_0_1_n_n (some .fp32) v P (constant S4096x32 .f32 0x00000000#32) (ix2 p l)
      = ∑ x, v (ix2 p x) * P (ix2 x l) := by pointwise
  rw [h]
  simp only [hP]
  refine (Finset.sum_congr rfl fun x _ => mul_comm _ _).trans (onehot (a l) (fun x => x = a l) (fun x => Iff.rfl) _)

section
variable (x0 : FVec Ideal S1x128x64x64 .f32) (X : Fin 128 → Fin 64 → Fin 64 → ℝ)
  (h0 : ∀ c i j, x0 (ix4 0 c i j) = ((X c i j : ℝ) : EReal))

include h0

theorem e_row (p : Fin 4096) (x : Fin 64) : k0_pay7 (F := Ideal) x0 (ix2 p x) = ((X ⟨p.val / 32, by omega⟩ ⟨2 * (p.val % 32), by omega⟩ x : ℝ) : EReal) := by
  pointwise [k0_pay7, k0_pay6, k0_pay2]
  refine (h0 _ _ _).trans (congrArg (fun i : Fin 64 => ((X ⟨p.val / 32, by omega⟩ i x : ℝ) : EReal)) (Fin.ext ?_))
  show p.val % 32 * 2 = 2 * (p.val % 32)
  omega

theorem o_row (p : Fin 4096) (x : Fin 64) : k0_pay8 (F := Ideal) x0 (ix2 p x) = ((X ⟨p.val / 32, by omega⟩ ⟨2 * (p.val % 32) + 1, by omega⟩ x : ℝ) : EReal) := by
  pointwise [k0_pay8, k0_pay6, k0_pay2]
  refine (h0 _ _ _).trans (congrArg (fun i : Fin 64 => ((X ⟨p.val / 32, by omega⟩ i x : ℝ) : EReal)) (Fin.ext ?_))
  show p.val % 32 * 2 + 1 = 2 * (p.val % 32) + 1
  omega

theorem x00 (p : Fin 4096) (l : Fin 32) : k0_pay9 (F := Ideal) x0 (ix2 p l) = ((px (X ⟨p.val / 32, by omega⟩) ⟨p.val % 32, by omega⟩ l 0 0 : ℝ) : EReal) :=
  (picked _ _ _ pick0 p l).trans (e_row x0 X h0 p _)
theorem x01 (p : Fin 4096) (l : Fin 32) : k0_pay10 (F := Ideal) x0 (ix2 p l) = ((px (X ⟨p.val / 32, by omega⟩) ⟨p.val % 32, by omega⟩ l 0 1 : ℝ) : EReal) :=
  (picked _ _ _ pick1 p l).trans (e_row x0 X h0 p _)
theorem x10 (p : Fin 4096) (l : Fin 32) : k0_pay11 (F := Ideal) x0 (ix2 p l) = ((px (X ⟨p.val / 32, by omega⟩) ⟨p.val % 32, by omega⟩ l 1 0 : ℝ) : EReal) :=
  (picked _ _ _ pick0 p l).trans (o_row x0 X h0 p _)
theorem x11 (p : Fin 4096) (l : Fin 32) : k0_pay12 (F := Ideal) x0 (ix2 p l) = ((px (X ⟨p.val / 32, by omega⟩) ⟨p.val % 32, by omega⟩ l 1 1 : ℝ) : EReal) :=
  (picked _ _ _ pick1 p l).trans (o_row x0 X h0 p _)

end

/-- Three neighbouring columns' maximum, minus infinity beyond an edge. -/
theorem three_cols (A : Fin 4096 → Fin 64 → ℝ) (v : FVec Ideal S4096x64 .f32) (hv : ∀ p x, v (ix2 p x) = ((A p x : ℝ) : EReal))
   (p : Fin 4096) (x : Fin 64) :
    maximumf v (maximumf (concatenate S4096x64 1 [⟨S4096x63, extractStridedSlice S4096x63 ![0, 1] v slices_S4096x64_o0_1_S4096x63⟩, ⟨S4096x1, broadcast S4096x1 (Scalar.ofBits (F := Ideal) .f32 0xFF800000#32)⟩] concatenates_S4096x63_S4096x1_S4096x64_d1)
      (concatenate S4096x64 1 [⟨S4096x1, broadcast S4096x1 (Scalar.ofBits (F := Ideal) .f32 0xFF800000#32)⟩, ⟨S4096x63, extractStridedSlice S4096x63 ![0, 0] v slices_S4096x64_o0_0_S4096x63⟩] concatenates_S4096x1_S4096x63_S4096x64_d1)) (ix2 p x)
      = ((max (A p x) (max (A p ⟨min (x.val + 1) 63, by omega⟩) (A p ⟨x.val - 1, by omega⟩)) : ℝ) : EReal) := by
  pointwise
  simp only [hv, ninf, coe_max]
  by_cases h1 : x.val < 63
  · have e : (⟨min (x.val + 1) 63, by omega⟩ : Fin 64) = ⟨1 + x.val, by omega⟩ := Fin.ext (show min (x.val + 1) 63 = 1 + x.val by omega)
    rw [dif_pos h1, e]
    by_cases h2 : x.val < 1
    · have e2 : (⟨x.val - 1, by omega⟩ : Fin 64) = x := Fin.ext (show x.val - 1 = x.val by omega)
      rw [dif_pos h2, e2, max_bot_right, max_comm ((A p ⟨1 + x.val, _⟩ : ℝ) : EReal), ← max_assoc, max_self]
    · rw [dif_neg h2]
  · have e : (⟨min (x.val + 1) 63, by omega⟩ : Fin 64) = x := Fin.ext (show min (x.val + 1) 63 = x.val by omega)
    have h2 : ¬ x.val < 1 := by omega
    rw [dif_neg h1, dif_neg h2, e, max_bot_left, ← max_assoc, max_self]

/-- Three neighbouring rows' maximum. -/
theorem three_rows (x0 : FVec Ideal S1x128x64x64 .f32) (X : Fin 128 → Fin 64 → Fin 64 → ℝ)
    (h0 : ∀ c i j, x0 (ix4 0 c i j) = ((X c i j : ℝ) : EReal)) (c : Fin 128) (r : Fin 32) (i : Fin 64) (hi : i.val = r.val * 2) (x : Fin 64) :
    max (x0 (ix4 0 c i x)) (max (if h : r.val * 2 < 63 then x0 (ix4 0 c ⟨1 + r.val * 2, by omega⟩ x) else Ideal.ofBits FTy.f32 4286578688#32)
      (if h : r.val * 2 < 1 then Ideal.ofBits FTy.f32 4286578688#32 else x0 (ix4 0 c ⟨r.val * 2 - 1, by omega⟩ x)))
     = ((cm (X c) r x : ℝ) : EReal) := by
  have hi' : (⟨2 * r.val, by omega⟩ : Fin 64) = i := Fin.ext (show 2 * r.val = i.val by omega)
  have e1 : (⟨1 + r.val * 2, by omega⟩ : Fin 64) = ⟨2 * r.val + 1, by omega⟩ := Fin.ext (show 1 + r.val * 2 = 2 * r.val + 1 by omega)
  simp only [h0, ninf, cm, coe_max, hi', e1]
  rw [dif_pos (show r.val * 2 < 63 by omega)]
  by_cases h2 : r.val * 2 < 1
  · have e2 : (⟨2 * r.val - 1, by omega⟩ : Fin 64) = i := Fin.ext (show 2 * r.val - 1 = i.val by omega)
    rw [dif_pos h2, e2, max_bot_right, max_comm ((X c ⟨2 * r.val + 1, _⟩ x : ℝ) : EReal), ← max_assoc, max_self]
  · have e2 : (⟨2 * r.val - 1, by omega⟩ : Fin 64) = ⟨r.val * 2 - 1, by omega⟩ := Fin.ext (show 2 * r.val - 1 = r.val * 2 - 1 by omega)
    rw [dif_neg h2, e2]

section
variable (x0 : FVec Ideal S1x128x64x64 .f32) (X : Fin 128 → Fin 64 → Fin 64 → ℝ)
  (h0 : ∀ c i j, x0 (ix4 0 c i j) = ((X c i j : ℝ) : EReal))
include h0

theorem xs (p : Fin 4096) (l : Fin 32) : k0_pay5 (F := Ideal) x0 (ix2 p l) = ((pool (X ⟨p.val / 32, by omega⟩) ⟨p.val % 32, by omega⟩ l : ℝ) : EReal) := by
  refine (picked _ _ _ pick0 p l).trans (three_cols (fun p j => cm (X ⟨p.val / 32, by omega⟩) ⟨p.val % 32, by omega⟩ j) _ (fun p x => ?_) p _)
  pointwise [k0_pay2]
  exact three_rows x0 X h0 ⟨p.val / 32, by omega⟩ ⟨p.val % 32, by omega⟩ _ rfl x
end

/-- The five groups side by side. -/
theorem groups (x0 : FVec Ideal S1x128x64x64 .f32) (X : Fin 128 → Fin 64 → Fin 64 → ℝ)
    (h0 : ∀ c i j, x0 (ix4 0 c i j) = ((X c i j : ℝ) : EReal)) (c : Fin 640) (r l : Fin 32) :
    k0_pay1 (F := Ideal) (k0_pay5 x0) (k0_pay9 x0) (k0_pay10 x0) (k0_pay11 x0) (k0_pay12 x0) (k0_pay13 x0) (ix4 0 c r l) = ((front X c r l : ℝ) : EReal) := by
  have q5 := xs x0 X h0
  have q9 := x00 x0 X h0
  have q10 := x01 x0 X h0
  have q11 := x10 x0 X h0
  have q12 := x11 x0 X h0
  unfold k0_pay13
  generalize k0_pay5 (F := Ideal) x0 = v5 at q5 ⊢
  generalize k0_pay9 (F := Ideal) x0 = v9 at q9 ⊢
  generalize k0_pay10 (F := Ideal) x0 = v10 at q10 ⊢
  generalize k0_pay11 (F := Ideal) x0 = v11 at q11 ⊢
  generalize k0_pay12 (F := Ideal) x0 = v12 at q12 ⊢
  have k : ∀ (v : FVec Ideal S4096x32 .f32) (f : Fin 128 → Fin 32 → ℝ)
      (hv : ∀ (p : Fin 4096), v (ix2 p l) = ((f ⟨p.val / 32, by omega⟩ ⟨p.val % 32, by omega⟩ : ℝ) : EReal))
      (n : ℕ) (hn : n < 128) (hh : n * 32 + r.val < 4096), v (ix2 ⟨n * 32 + r.val, hh⟩ l) = ((f ⟨n, hn⟩ r : ℝ) : EReal) := by
    intro v f hv n hn hh
    rw [hv]
    have e1 : (⟨(n * 32 + r.val) / 32, by omega⟩ : Fin 128) = ⟨n, hn⟩ := Fin.ext (show (n * 32 + r.val) / 32 = n by omega)
    have e2 : (⟨(n * 32 + r.val) % 32, by omega⟩ : Fin 32) = r := Fin.ext (show (n * 32 + r.val) % 32 = r.val by omega)
    rw [e1, e2]
  have k5 := k v5 (fun c r => pool (X c) r l) fun p => q5 p l
  have k9 := k v9 (fun c r => px (X c) r l 0 0) fun p => q9 p l
  have k10 := k v10 (fun c r => px (X c) r l 0 1) fun p => q10 p l
  have k11 := k v11 (fun c r => px (X c) r l 1 0) fun p => q11 p l
  have k12 := k v12 (fun c r => px (X c) r l 1 1) fun p => q12 p l
  pointwise [k0_pay1]
  simp only [half_eq]
  unfold front
  by_cases h1 : c.val < 128
  · rw [dif_pos h1, dif_pos h1]; exact k5 _ h1 _
  rw [dif_neg h1, dif_neg h1]
  by_cases h2 : c.val - 128 < 128
  · rw [dif_pos h2, dif_pos h2]
    simp only [k9 _ h2, k10 _ h2, k11 _ h2, k12 _ h2, ← EReal.coe_add, ← EReal.coe_sub, ← EReal.coe_mul]
  rw [dif_neg h2, dif_neg h2]
  by_cases h3 : c.val - 128 - 128 < 128
  · rw [dif_pos h3, dif_pos h3]
    simp only [k9 _ h3, k10 _ h3, k11 _ h3, k12 _ h3, ← EReal.coe_add, ← EReal.coe_sub, ← EReal.coe_mul]
  rw [dif_neg h3, dif_neg h3]
  by_cases h4 : c.val - 128 - 128 - 128 < 128
  · rw [dif_pos h4, dif_pos h4]
    simp only [k9 _ h4, k10 _ h4, k11 _ h4, k12 _ h4, ← EReal.coe_add, ← EReal.coe_sub, ← EReal.coe_mul]
  rw [dif_neg h4, dif_neg h4]
  have h5 : c.val - 128 - 128 - 128 - 128 < 128 := by omega
  simp only [k9 _ h5, k10 _ h5, k11 _ h5, k12 _ h5, ← EReal.coe_add, ← EReal.coe_sub, ← EReal.coe_mul]

variable (V : (c : Dev nD) → (b : Ref sig .tc) → Buf (Elt Ideal) ((c : Thread nD τ).loc b))

theorem idx0 : ∀ t : Fin cfg0.N, win0_0.index t = ![(grid0.coords t 0).val, 0, 0, 0] ∧ win0_1.index t = ![(grid0.coords t 0).val, 0, 0, 0] :=
  (by decide +kernel : ∀ t : Fin grid0.N, _)

/-- The front end's array. -/
theorem final0 (c : Dev nD) (X : Fin 4 → Fin 128 → Fin 64 → Fin 64 → ℝ)
    (h0 : ∀ b k i j, (V c main_arg0 : FVec Ideal S4x128x64x64 .f32) (ix4 b k i j) = ((X b k i j : ℝ) : EReal)) :
    ((dat0 V c).arrAt 1 cfg0.N : FVec Ideal S4x640x32x32 .f32) = fun i => ((front (X (i 0)) (i 1) (i 2) (i 3) : ℝ) : EReal) := by
  refine (dat0 V c).arrAt_eq_of_covers 1 _ (by decide +kernel) fun t _ y => ?_
  blk_simp
  rw [after0_1]; frame_out
  have e := idx0 t
  obtain ⟨b, hb⟩ : ∃ b : Fin 4, b.val = (grid0.coords t 0).val := ⟨⟨_, (grid0.coords t 0).isLt⟩, rfl⟩
  rw [← hb] at e
  have b0 : ∀ k i j, (iblk0 V c 0 t : FVec Ideal S1x128x64x64 .f32) (ix4 0 k i j) = ((X b k i j : ℝ) : EReal) := fun k i j => by
    refine Eq.trans ?_ (h0 b k i j)
    blk_ext [iblk0, e]
  have hy : (y : S1x640x32x32.Idx) = ix4 0 (y 1) (y 2) (y 3) := by
    funext a; fin_cases a
    · exact Subsingleton.elim (α := Fin 1) _ _
    · rfl
    · rfl
    · rfl
  obtain ⟨p, hp⟩ : ∃ p : Fin 640, p = y 1 := ⟨_, rfl⟩
  obtain ⟨d, hd⟩ : ∃ d : Fin 32, d = y 2 := ⟨_, rfl⟩
  obtain ⟨q, hq⟩ : ∃ q : Fin 32, q = y 3 := ⟨_, rfl⟩
  rw [← hp, ← hd, ← hq] at hy
  subst hy
  refine (groups _ (X b) b0 p d q).trans ?_
  have E : ((win0_1.blk t).view.emb (ix4 0 p d q) : S4x640x32x32.Idx) = ix4 b p d q := by blk_ext [e]
  exact congrArg (fun i : S4x640x32x32.Idx => ((front (X (i 0)) (i 1) (i 2) (i 3) : ℝ) : EReal)) E.symm

end Cert.KernelIdeal.Front
-- ==== Proof.AttnFun.lean ====
module

public import proofs.«01_k».proof.Proof.Gen.KernelIdeal.Frame
public import Idealize.ShloMosaic.Lib.Pipeline.Value
public import Idealize.ShloMosaic.Lib.Pointwise

@[expose] public section

/-
  The attention body's stored values, written once per hash and once per chunk.

  The printed body is unrolled over eight hashes and eighty chunks. Here each store is one member of a family
  over `h : Fin 8` or `c : Fin 80`, and the found list of stores is shown to be the list of the family's members.
-/

set_option maxRecDepth 16384

noncomputable section

namespace Cert.KernelIdeal.Attn
open Idealize.ShloMosaic Cert.KernelIdeal Cert.KernelIdeal.Gen

variable {F : FTy → Type} [FloatOps F]

theorem slc5 : ∀ h : Fin 8, S640x40.Slices ![0, 5 * h.val] S640x5 := by decide
theorem inbH : ∀ (h : Fin 8) (a : Fin 2), ![640 * h.val, 0] a + S640x128.size a ≤ S5120x128.size a := by decide +kernel
theorem inbHL : ∀ (h : Fin 8) (a : Fin 2), ![640 * h.val, 0] a + S640x1.size a ≤ S5120x1.size a := by decide +kernel
theorem inbC : ∀ (c : Fin 80) (a : Fin 2), ![64 * c.val, 0] a + S64x128.size a ≤ S5120x128.size a := by decide +kernel
theorem inbCL : ∀ (c : Fin 80) (a : Fin 2), ![64 * c.val, 0] a + S64x1.size a ≤ S5120x1.size a := by decide +kernel
theorem inbU : ∀ (h : Fin 8) (a : Fin 2), ![0, 128 * h.val] a + S640x128.size a ≤ S640x1024.size a := by decide +kernel

/-- The chunk before chunk `c`, the first one's being the last. -/
def prev (c : Fin 80) : Fin 80 := ⟨(c.val + 79) % 80, Nat.mod_lt _ (by decide)⟩
/-- The hash that chunk `c` belongs to. -/
def hashOf (c : Fin 80) : Fin 8 := ⟨c.val / 10, by omega⟩
/-- The hash before hash `h`, the first one's being the last. -/
def prevHash (h : Fin 8) : Fin 8 := ⟨(h.val + 7) % 8, Nat.mod_lt _ (by decide)⟩

/-- The buckets that hash `h` assigns, from all hashes' rotations. -/
noncomputable def bkt (rot : FVec F S640x40 .f32) (h : Fin 8) : IVec S640x1 32 :=
  have v120 : FVec F S640x5 .f32 := extractStridedSlice S640x5 ![0, 5 * h.val] rot (slc5 h)
  have v121 : FVec F S640x5 .f32 := broadcast S640x5 (Scalar.ofBits .f32 0x00000000#32)
  have v122 : FVec F S640x5 .f32 := subf v121 v120
  have v123 : FVec F S640x10 .f32 := concatenate S640x10 1 [⟨S640x5, v120⟩, ⟨S640x5, v122⟩] concatenates_S640x5_S640x5_S640x10_d1
  have v124 : FVec F S640 .f32 := multiReduction .maximumf [1] S640 v123 0xFF800000#32 reduces_S640x10_S640 (.inl rfl) rfl
  have v125 : FVec F S640x1 .f32 := shapeCast S640x1 v124 shapeCasts_S640_S640x1
  have v126 : FVec F S640x10 .f32 := broadcastTo S640x10 v125 broadcasts_S640x1_S640x10
  have v127 : IVec S640x10 1 := cmpf .oge v123 v126
  have v128 : IVec S640x10 32 := broadcast S640x10 10#32
  have v129 : IVec S640x10 32 := select v127 kernelRun1_A.sl.v33 v128
  have v130 : IVec S640 32 := multiReductionI .minsi [1] S640 v129 2147483647#32 reduces_S640x10_S640 rfl
  shapeCast S640x1 v130 shapeCasts_S640_S640x1

/-- The place that hash `h`'s sort gives each token. -/
noncomputable def posV (rot : FVec F S640x40 .f32) (h : Fin 8) : FVec F S640x1 .f32 :=
  k1_pay26 k1_pay8 kernelRun1_A.sl.v33 (bkt rot h)

section Sorted
variable (rot : FVec F S640x40 .f32) (xh xl : FVec F S640x256 .bf16)

/-- The rows (query, value) in hash `h`'s order. -/
noncomputable def sx (h : Fin 8) : FVec F S640x256 .f32 := k1_pay28 xh xl k1_pay8 k1_pay9 kernelRun1_A.sl.v33 (bkt rot h)
/-- The first 64 tokens of hash `h`'s order. -/
noncomputable def idq (h : Fin 8) : FVec F S64x1 .f32 :=
  k1_pay32 (k1_pay30 k1_pay8 k1_pay9 k1_pay11 kernelRun1_A.sl.v33 (bkt rot h))
    (k1_pay31 k1_pay8 k1_pay9 k1_pay12 kernelRun1_A.sl.v33 (bkt rot h))
/-- The last 64 tokens of hash `h`'s order. -/
noncomputable def idk (h : Fin 8) : FVec F S64x1 .f32 :=
  k1_pay33 k1_pay11 k1_pay12 (k1_pay27 k1_pay8 k1_pay9 kernelRun1_A.sl.v33 (bkt rot h))

/-- The stores of the sorted queries, values and normalized keys, last made first. -/
noncomputable def listQ : List (View.Piece (Elt F) S5120x128 .bf16) :=
  (List.finRange 8).reverse.map fun h => ⟨Rect.unit (s := S5120x128) ![640 * h.val, 0] S640x128.size (inbH h), k1_pay35 (sx rot xh xl h)⟩
noncomputable def listV : List (View.Piece (Elt F) S5120x128 .bf16) :=
  (List.finRange 8).reverse.map fun h => ⟨Rect.unit (s := S5120x128) ![640 * h.val, 0] S640x128.size (inbH h), k1_pay36 (sx rot xh xl h)⟩
noncomputable def listK : List (View.Piece (Elt F) S5120x128 .bf16) :=
  (List.finRange 8).reverse.map fun h => ⟨Rect.unit (s := S5120x128) ![640 * h.val, 0] S640x128.size (inbH h), k1_pay37 (sx rot xh xl h)⟩

end Sorted

section Chunks
variable (a7 a8 a9 : Memref sig .tc .vmem S5120x128 .bf16) (a10 : Memref sig .tc .vmem S5120x128 .f32) (a11 : Memref sig .tc .vmem S5120x1 .f32)
  (a12 : Memref sig .tc .vmem S640x1024 .f32)
  (rot : FVec F S640x40 .f32) (xh xl : FVec F S640x256 .bf16)

/-- Rows `64 c …` of the sorted queries, values and keys as loaded. -/
noncomputable def ldQ (c : Fin 80) : Vec F S64x128 .bf16 :=
  a7.view.readCov (listQ rot xh xl) (Rect.unit (s := S5120x128) ![64 * c.val, 0] S64x128.size (inbC c)).toLoadRect
noncomputable def ldV (c : Fin 80) : Vec F S64x128 .bf16 :=
  a8.view.readCov (listV rot xh xl) (Rect.unit (s := S5120x128) ![64 * c.val, 0] S64x128.size (inbC c)).toLoadRect
noncomputable def ldK (c : Fin 80) : Vec F S64x128 .bf16 :=
  a9.view.readCov (listK rot xh xl) (Rect.unit (s := S5120x128) ![64 * c.val, 0] S64x128.size (inbC c)).toLoadRect

/-- The masked scores of chunk `c`. -/
noncomputable def dots (c : Fin 80) : FVec F S64x128 .f32 :=
  if c.val % 10 = 0 then
    k1_pay127 (k1_pay124 (ldQ a7 rot xh xl c) (ldK a9 rot xh xl c) (ldK a9 rot xh xl (prev c)))
      (k1_pay125 (ldQ a7 rot xh xl c) (ldK a9 rot xh xl c) (ldK a9 rot xh xl (prev c)))
      (k1_pay126 (idq rot (hashOf c)) (idk rot (prevHash (hashOf c))))
  else k1_pay134 k1_pay119 (ldQ a7 rot xh xl c) (ldK a9 rot xh xl c) (ldK a9 rot xh xl (prev c))

/-- The stores of the chunks' outputs and of their log-sums, last made first. -/
noncomputable def listO : List (View.Piece (Elt F) S5120x128 .f32) :=
  (List.finRange 80).reverse.map fun c => ⟨Rect.unit (s := S5120x128) ![64 * c.val, 0] S64x128.size (inbC c),
    k1_pay138 (k1_pay133 (ldV a8 rot xh xl c) (ldV a8 rot xh xl (prev c))) (dots a7 a9 rot xh xl c)⟩
noncomputable def listL : List (View.Piece (Elt F) S5120x1 .f32) :=
  (List.finRange 80).reverse.map fun c => ⟨Rect.unit (s := S5120x1) ![64 * c.val, 0] S64x1.size (inbCL c),
    k1_pay139 (dots a7 a9 rot xh xl c)⟩

/-- Rows `640 h …` of the chunks' outputs and log-sums as loaded. -/
noncomputable def ldO (h : Fin 8) : Vec F S640x128 .f32 :=
  a10.view.readCov (listO a7 a8 a9 rot xh xl) (Rect.unit (s := S5120x128) ![640 * h.val, 0] S640x128.size (inbH h)).toLoadRect
noncomputable def ldL (h : Fin 8) : Vec F S640x1 .f32 :=
  a11.view.readCov (listL a7 a9 rot xh xl) (Rect.unit (s := S5120x1) ![640 * h.val, 0] S640x1.size (inbHL h)).toLoadRect

/-- The stores of the outputs back in token order, one per hash, last made first. -/
noncomputable def listU : List (View.Piece (Elt F) S640x1024 .f32) :=
  (List.finRange 8).reverse.map fun h => ⟨Rect.unit (s := S640x1024) ![0, 128 * h.val] S640x128.size (inbU h),
    k1_pay714 k1_pay9 (posV rot h) (ldO a7 a8 a9 a10 rot xh xl h) (ldL a7 a9 a11 rot xh xl h)⟩
/-- The log-sums back in token order. -/
noncomputable def ulV (h : Fin 8) : FVec F S640x1 .f32 :=
  k1_pay713 k1_pay9 (posV rot h) (ldO a7 a8 a9 a10 rot xh xl h) (ldL a7 a9 a11 rot xh xl h)
noncomputable def ldU (h : Fin 8) : Vec F S640x128 .f32 :=
  a12.view.readCov (listU a7 a8 a9 a10 a11 rot xh xl) (Rect.unit (s := S640x1024) ![0, 128 * h.val] S640x128.size (inbU h)).toLoadRect

end Chunks

/-- The weights of the eight hashes, not yet normalized, from their log-sums. -/
noncomputable def wts (u : Fin 8 → FVec F S640x1 .f32) : FVec F S640x8 .f32 :=
  have v3679 : FVec F S640x8 .f32 := concatenate S640x8 1 [⟨S640x1, u 0⟩, ⟨S640x1, u 1⟩, ⟨S640x1, u 2⟩, ⟨S640x1, u 3⟩, ⟨S640x1, u 4⟩, ⟨S640x1, u 5⟩, ⟨S640x1, u 6⟩, ⟨S640x1, u 7⟩] concatenates_S640x1_S640x1_S640x1_S640x1_S640x1_S640x1_S640x1_S640x1_S640x8_d1
  have v3680 : FVec F S640 .f32 := multiReduction .maximumf [1] S640 v3679 0xFF800000#32 reduces_S640x8_S640 (.inl rfl) rfl
  have v3681 : FVec F S640x1 .f32 := shapeCast S640x1 v3680 shapeCasts_S640_S640x1
  have v3682 : FVec F S640x8 .f32 := broadcastTo S640x8 v3681 broadcasts_S640x1_S640x8
  have v3683 : FVec F S640x8 .f32 := subf v3679 v3682
  exp v3683

theorem slc8 : ∀ h : Fin 8, S640x8.Slices ![0, h.val] S640x1 := by decide

/-- The weighted output of one hash. -/
noncomputable def wtd (w : FVec F S640x8 .f32) (o : Fin 8 → Vec F S640x128 .f32) (h : Fin 8) : FVec F S640x128 .f32 :=
  mulf (o h) (broadcastTo S640x128 (extractStridedSlice S640x1 ![0, h.val] w (slc8 h)) broadcasts_S640x1_S640x128)

/-- The hashes combined. -/
noncomputable def comb (w : FVec F S640x8 .f32) (o : Fin 8 → Vec F S640x128 .f32) : FVec F S1x640x128 .f32 :=
  have s : FVec F S640x1 .f32 := shapeCast S640x1 (multiReduction .add [1] S640 w 0x00000000#32 reduces_S640x8_S640 (.inl rfl) rfl) shapeCasts_S640_S640x1
  have z : FVec F S640x128 .f32 := broadcast S640x128 (Scalar.ofBits .f32 0x00000000#32)
  have a : FVec F S640x128 .f32 := addf (addf (addf (addf (addf (addf (addf (addf z (wtd w o 0)) (wtd w o 1)) (wtd w o 2)) (wtd w o 3)) (wtd w o 4)) (wtd w o 5)) (wtd w o 6)) (wtd w o 7)
  shapeCast S1x640x128 (divf a (broadcastTo S640x128 s broadcasts_S640x1_S640x128)) shapeCasts_S640x128_S1x640x128

section Found
variable (c : Dev nD) (arg2 : Memref sig .tc .vmem S1x640x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S128x40 .f32) (harg5 : arg5.IsWhole)
  (arg7 arg8 arg9 : Memref sig .tc .vmem S5120x128 .bf16) (arg10 : Memref sig .tc .vmem S5120x128 .f32) (arg11 : Memref sig .tc .vmem S5120x1 .f32)
  (arg12 : Memref sig .tc .vmem S640x1024 .f32)
  (x0 : Vec F S1x640x1024 .f32) (x1 x2 : Vec F S1024x128 .f32) (x3 : Vec F S128x40 .f32)

/-- The input blocks as loaded. -/
noncomputable abbrev l0 : Vec F S1x640x1024 .f32 := View.readAt (Elt F) arg2.view (Rect.unit ![0, 0, 0] S1x640x1024.size inb_S1x640x1024_S1x640x1024_0_0_0).toLoadRect (harg2.unread x0)
noncomputable abbrev l1 : Vec F S1024x128 .f32 := View.readAt (Elt F) arg3.view (Rect.unit ![0, 0] S1024x128.size inb_S1024x128_S1024x128_0_0).toLoadRect (harg3.unread x1)
noncomputable abbrev l3 : Vec F S128x40 .f32 := View.readAt (Elt F) arg5.view (Rect.unit ![0, 0] S128x40.size inb_S128x40_S128x40_0_0).toLoadRect (harg5.unread x3)
noncomputable abbrev rotL : FVec F S640x40 .f32 := k1_pay5 (l0 arg2 harg2 x0) (l1 arg3 harg3 x1) (l3 arg5 harg5 x3)
noncomputable abbrev xhL : FVec F S640x256 .bf16 := k1_pay6 (l0 arg2 harg2 x0) (l1 arg3 harg3 x1) (l1 arg4 harg4 x2)
noncomputable abbrev xlL : FVec F S640x256 .bf16 := k1_pay7 (l0 arg2 harg2 x0) (l1 arg3 harg3 x1) (l1 arg4 harg4 x2)

theorem hs0_eq : kernelRun1_A.sl.HS0_8 c arg2 harg2 arg3 harg3 arg4 harg4 arg5 harg5 x0 x1 x2 x3
    = listQ (rotL arg2 harg2 arg3 harg3 arg5 harg5 x0 x1 x3) (xhL arg2 harg2 arg3 harg3 arg4 harg4 x0 x1 x2) (xlL arg2 harg2 arg3 harg3 arg4 harg4 x0 x1 x2) := by sl_kernel_rfl

theorem hs1_eq : kernelRun1_A.sl.HS1_8 c arg2 harg2 arg3 harg3 arg4 harg4 arg5 harg5 x0 x1 x2 x3
    = listV (rotL arg2 harg2 arg3 harg3 arg5 harg5 x0 x1 x3) (xhL arg2 harg2 arg3 harg3 arg4 harg4 x0 x1 x2) (xlL arg2 harg2 arg3 harg3 arg4 harg4 x0 x1 x2) := by sl_kernel_rfl
theorem hs2_eq : kernelRun1_A.sl.HS2_8 c arg2 harg2 arg3 harg3 arg4 harg4 arg5 harg5 x0 x1 x2 x3
    = listK (rotL arg2 harg2 arg3 harg3 arg5 harg5 x0 x1 x3) (xhL arg2 harg2 arg3 harg3 arg4 harg4 x0 x1 x2) (xlL arg2 harg2 arg3 harg3 arg4 harg4 x0 x1 x2) := by sl_kernel_rfl
theorem hs3_eq : kernelRun1_A.sl.HS3_80 c arg2 harg2 arg3 harg3 arg4 harg4 arg5 harg5 arg7 arg8 arg9 x0 x1 x2 x3
    = listO arg7 arg8 arg9 (rotL arg2 harg2 arg3 harg3 arg5 harg5 x0 x1 x3) (xhL arg2 harg2 arg3 harg3 arg4 harg4 x0 x1 x2) (xlL arg2 harg2 arg3 harg3 arg4 harg4 x0 x1 x2) := by sl_kernel_rfl
theorem hs4_eq : kernelRun1_A.sl.HS4_80 c arg2 harg2 arg3 harg3 arg4 harg4 arg5 harg5 arg7 arg9 x0 x1 x2 x3
    = listL arg7 arg9 (rotL arg2 harg2 arg3 harg3 arg5 harg5 x0 x1 x3) (xhL arg2 harg2 arg3 harg3 arg4 harg4 x0 x1 x2) (xlL arg2 harg2 arg3 harg3 arg4 harg4 x0 x1 x2) := by sl_kernel_rfl
theorem hs5_eq : kernelRun1_A.sl.HS5_8 c arg2 harg2 arg3 harg3 arg4 harg4 arg5 harg5 arg7 arg8 arg9 arg10 arg11 x0 x1 x2 x3
    = listU arg7 arg8 arg9 arg10 arg11 (rotL arg2 harg2 arg3 harg3 arg5 harg5 x0 x1 x3) (xhL arg2 harg2 arg3 harg3 arg4 harg4 x0 x1 x2) (xlL arg2 harg2 arg3 harg3 arg4 harg4 x0 x1 x2) := by sl_kernel_rfl

/-- The body's one store into its result block. -/
theorem run_eq (i : grid1.Coords) (arg6 : Memref sig .tc .vmem S1x640x128 .f32) (harg6 : arg6.IsWhole) (harg7 : arg7.IsWhole) (harg8 : arg8.IsWhole) (harg9 : arg9.IsWhole) (harg10 : arg10.IsWhole) (harg11 : arg11.IsWhole) (harg12 : arg12.IsWhole) :
    (kernelRun1_A c i arg2 harg2 arg3 harg3 arg4 harg4 arg5 harg5 arg6 harg6 arg7 harg7 arg8 harg8 arg9 harg9 arg10 harg10 arg11 harg11 arg12 harg12 x0 x1 x2 x3).1
    = [⟨Rect.unit (s := S1x640x128) ![0, 0, 0] S1x640x128.size inb_S1x640x128_S1x640x128_0_0_0,
        comb (wts (ulV arg7 arg8 arg9 arg10 arg11 (rotL arg2 harg2 arg3 harg3 arg5 harg5 x0 x1 x3) (xhL arg2 harg2 arg3 harg3 arg4 harg4 x0 x1 x2) (xlL arg2 harg2 arg3 harg3 arg4 harg4 x0 x1 x2)))
          (ldU arg7 arg8 arg9 arg10 arg11 arg12 (rotL arg2 harg2 arg3 harg3 arg5 harg5 x0 x1 x3) (xhL arg2 harg2 arg3 harg3 arg4 harg4 x0 x1 x2) (xlL arg2 harg2 arg3 harg3 arg4 harg4 x0 x1 x2))⟩] := by sl_kernel_rfl

end Found

end Cert.KernelIdeal.Attn
-- ==== Proof.AttnSort.lean ====
module

public import proofs.«01_k».proof.Proof.AttnFun
public import proofs.«01_k».proof.Proof.Tools

@[expose] public section

/-
  What the attention body's sort computes, in ideal arithmetic: buckets, places, and rows brought in order.
-/

set_option maxRecDepth 16384

noncomputable section

namespace Cert.KernelIdeal.Attn
open Idealize.ShloMosaic Cert.KernelIdeal Cert.KernelIdeal.Gen Cert.Tools Finset
open Cert.Spec (bk rb key posN pos ord bucket mx)

theorem eqbit {m n : ℕ} (hm : m < 2 ^ 31) (hn : n < 2 ^ 31) :
    (FloatOps.sitofp FTy.f32 (BitVec.setWidth 32 (IntOp.cmpi .eq (BitVec.ofNat 32 m) (BitVec.ofNat 32 n))) : Ideal .f32)
      = if m = n then (1 : EReal) else 0 := by
  rw [← sitofp_bit]
  congr 2
  simp only [IntOp.cmpi]
  by_cases h : m = n
  · simp [h]
  · have := (not_congr (ofNat_inj hm hn)).mpr h
    rw [beq_false_of_ne this, decide_eq_false h]

theorem lebit {m n : ℕ} (hm : m < 2 ^ 31) (hn : n < 2 ^ 31) :
    (FloatOps.sitofp FTy.f32 (BitVec.setWidth 32 (IntOp.cmpi .sle (BitVec.ofNat 32 m) (BitVec.ofNat 32 n))) : Ideal .f32)
      = if m ≤ n then (1 : EReal) else 0 := by
  rw [← sitofp_bit]
  congr 2
  simp only [IntOp.cmpi, BitVec.sle, toInt_nat hm, toInt_nat hn, Nat.cast_le]

theorem low_eq (a b : Fin 640) : (k1_pay8 (F := Ideal) (ix2 a b) : EReal) = if b.val ≤ a.val then 1 else 0 := by
  pointwise [k1_pay8]
  exact lebit (by omega) (by omega)

theorem num_eq (a b : Fin 640) : (k1_pay9 (F := Ideal) (ix2 a b) : EReal) = ((b.val : ℝ) : EReal) := by
  pointwise [k1_pay9]
  exact sitofp_nat (by omega)

variable (rot : FVec Ideal S640x40 .f32) (rr : Fin 640 → Fin 40 → ℝ) (hrot : ∀ t j, rot (ix2 t j) = (rr t j : EReal))

section
include hrot
theorem bkt_eq (h : Fin 8) (t : Fin 640) : bkt rot h (ix2 t 0) = BitVec.ofNat 32 (bk rr h t).val := by
  pointwise [bkt, kernelRun1_A.sl.v33]
  have e : ∀ x : Fin 10, (if h_1 : x.val < 5 then rot (ix2 t ⟨5 * h.val + x.val, by omega⟩)
      else 0 - rot (ix2 t ⟨5 * h.val + (x.val - 5), by omega⟩)) = ((rb rr h t x : ℝ) : EReal) := by
    intro x
    unfold rb
    split
    · exact hrot _ _
    · rw [hrot, zero_sub, EReal.coe_neg]
  simp only [e, ninf, fold_max]
  exact least_index (rb rr h t)
end

theorem card_lt_sum (b : Fin 640 → Fin 10) (k : ℕ) :
    ∑ y ∈ range k, (univ.filter fun s => (b s).val = y).card = (univ.filter fun s => (b s).val < k).card := by
  induction k with
  | zero => simp
  | succ k ih =>
    rw [sum_range_succ, ih, ← card_union_of_disjoint]
    · congr 1; ext s; simp only [mem_union, mem_filter, mem_univ, true_and]; omega
    · rw [disjoint_left]; intro s; simp only [mem_filter, mem_univ, true_and]; omega

theorem posN_split (b : Fin 640 → Fin 10) (t : Fin 640) :
    posN b t + 1 = (univ.filter fun s => (b s).val < (b t).val).card
      + (univ.filter fun s : Fin 640 => s.val ≤ t.val ∧ (b t).val = (b s).val).card := by
  have e : (univ.filter fun s : Fin 640 => s.val ≤ t.val ∧ (b t).val = (b s).val)
      = insert t (univ.filter fun s : Fin 640 => s.val < t.val ∧ (b t).val = (b s).val) := by
    ext s; simp only [mem_insert, mem_filter, mem_univ, true_and, Fin.ext_iff]
    constructor
    · intro h; by_cases hs : s.val = t.val
      · exact .inl hs
      · exact .inr ⟨by omega, h.2⟩
    · rintro (h | h)
      · have : s = t := Fin.ext h
        subst this; exact ⟨le_rfl, rfl⟩
      · exact ⟨by omega, h.2⟩
  rw [e, card_insert_of_notMem (by simp), ← add_assoc, ← card_union_of_disjoint]
  · refine congrArg (· + 1) (congrArg card ?_)
    ext s; rw [mem_union, mem_filter, mem_filter, mem_filter]; simp only [mem_univ, true_and, key]; omega
  · rw [disjoint_left]; intro s; simp only [mem_filter, mem_univ, true_and]; omega

/-- The counting sort's place of each token, from the buckets as words. -/
theorem pay26_eq (w : IVec S640x1 32) (b : Fin 640 → Fin 10) (hw : ∀ t, w (ix2 t 0) = BitVec.ofNat 32 (b t).val)
    (t : Fin 640) : (k1_pay26 (F := Ideal) k1_pay8 kernelRun1_A.sl.v33 w (ix2 t 0) : EReal) = ((posN b t : ℝ) : EReal) := by
  pointwise [k1_pay26, kernelRun1_A.sl.v33]
  have e1 : ∀ (m : ℕ) (_ : m < 2 ^ 31) (s : Fin 640),
      (FloatOps.sitofp FTy.f32 (BitVec.setWidth 32 (IntOp.cmpi .eq (BitVec.ofNat 32 m) (w (ix2 s 0)))) : Ideal .f32)
        = if m = (b s).val then (1 : EReal) else 0 := by
    intro m hm s; rw [hw]; exact eqbit hm (by omega)
  have e2 : ∀ (m : ℕ) (_ : m < 2 ^ 31) (u : Fin 640),
      ∑ s : Fin 640, (k1_pay8 (F := Ideal) (ix2 u s) : EReal)
        * (FloatOps.sitofp FTy.f32 (BitVec.setWidth 32 (IntOp.cmpi .eq (BitVec.ofNat 32 m) (w (ix2 s 0)))) : Ideal .f32)
        = (((univ.filter fun s : Fin 640 => s.val ≤ u.val ∧ m = (b s).val).card : ℝ) : EReal) := by
    intro m hm u
    rw [← sum_bit]
    refine sum_congr rfl fun s _ => ?_
    rw [e1 m hm, low_eq, bit_mul_bit]
  obtain ⟨c, hc⟩ : ∃ c : ℕ → EReal, c = fun m => (((univ.filter fun s : Fin 640 => (b s).val = m).card : ℝ) : EReal) := ⟨_, rfl⟩
  have e3 : ∀ (m : ℕ) (_ : m < 2 ^ 31),
      ∑ s : Fin 640, (k1_pay8 (F := Ideal) (ix2 639 s) : EReal)
        * (FloatOps.sitofp FTy.f32 (BitVec.setWidth 32 (IntOp.cmpi .eq (BitVec.ofNat 32 m) (w (ix2 s 0)))) : Ideal .f32)
        = c m := by
    intro m hm
    rw [e2 m hm, hc]
    refine congrArg (fun n : ℕ => ((n : ℝ) : EReal)) (congrArg card (filter_congr fun s _ => ?_))
    rw [show ((639 : Fin 640) : ℕ) = 639 from rfl]
    omega
  simp (disch := omega) only [e3]
  simp (disch := omega) only [e2]
  simp (disch := omega) only [e1]
  rw [onehot (b t) (fun x : Fin 10 => x.val = (b t).val) (fun x => Fin.ext_iff.symm),
    onehot (b t) (fun x : Fin 10 => x.val = (b t).val) (fun x => Fin.ext_iff.symm)]
  refine (congrArg (· + _) (?_ : _ = ∑ y ∈ range (b t).val, c y)).trans ?_
  · have hk := (b t).isLt
    generalize (b t).val = k at hk
    interval_cases k <;> simp [sum_range_succ] <;> abel
  · rw [hc]
    simp only [← coe_sum, ← Nat.cast_sum, card_lt_sum]
    rw [← EReal.coe_one, ← EReal.coe_sub, ← EReal.coe_add]
    have := posN_split b t
    have h2 := congrArg (fun n : ℕ => (n : ℝ)) this
    push_cast at h2
    congr 1
    linarith

theorem posV_eq (h : Fin 8) (t : Fin 640) (hrot : ∀ t j, rot (ix2 t j) = (rr t j : EReal)) :
    (posV rot h (ix2 t 0) : EReal) = ((posN (bk rr h) t : ℝ) : EReal) :=
  pay26_eq _ _ (bkt_eq rot rr hrot h) t

/-- The one-hot matrix of the places. -/
theorem pay27_eq (w : IVec S640x1 32) (b : Fin 640 → Fin 10) (hw : ∀ t, w (ix2 t 0) = BitVec.ofNat 32 (b t).val)
    (t i : Fin 640) : (k1_pay27 (F := Ideal) k1_pay8 k1_pay9 kernelRun1_A.sl.v33 w (ix2 t i) : EReal)
      = if t = ord b i then 1 else 0 := by
  have hp := pay26_eq w b hw
  unfold k1_pay27
  generalize k1_pay26 (F := Ideal) k1_pay8 kernelRun1_A.sl.v33 w = p at hp
  have hn := num_eq
  generalize k1_pay9 (F := Ideal) = q at hn
  pointwise
  simp only [hp, hn, natcast_inj]
  rw [sitofp_bit]
  refine if_congr ?_ rfl rfl
  rw [← Cert.Spec.pos_eq_iff, Fin.ext_iff]
  rfl

/-- Rows brought in order, given as a bfloat16 part and a remainder of zero. -/
theorem pay28_eq (xh xl : FVec Ideal S640x256 .bf16) (hxl : ∀ t d, xl (ix2 t d) = (0 : EReal))
    (w : IVec S640x1 32) (b : Fin 640 → Fin 10) (hw : ∀ t, w (ix2 t 0) = BitVec.ofNat 32 (b t).val)
    (i : Fin 640) (d : Fin 256) :
    (k1_pay28 (F := Ideal) xh xl k1_pay8 k1_pay9 kernelRun1_A.sl.v33 w (ix2 i d) : EReal) = xh (ix2 (ord b i) d) := by
  have hp := pay27_eq w b hw
  unfold k1_pay28
  generalize k1_pay27 (F := Ideal) k1_pay8 k1_pay9 kernelRun1_A.sl.v33 w = p at hp
  pointwise
  simp only [hp, hxl, mul_zero, sum_const_zero, add_zero]
  exact onehot (ord b i) (fun x => x = ord b i) (fun x => Iff.rfl) fun x => xh (ix2 x d)

theorem sx_eq (hrot : ∀ t j, rot (ix2 t j) = (rr t j : EReal)) (xh xl : FVec Ideal S640x256 .bf16)
    (hxl : ∀ t d, xl (ix2 t d) = (0 : EReal)) (h : Fin 8) (i : Fin 640) (d : Fin 256) :
    (sx rot xh xl h (ix2 i d) : EReal) = xh (ix2 (ord (bk rr h) i) d) :=
  pay28_eq xh xl hxl _ _ (bkt_eq rot rr hrot h) i d

theorem tnum_eq (t : Fin 640) : (k1_pay10 (F := Ideal) (ix2 t 0) : EReal) = ((t.val : ℝ) : EReal) := by
  pointwise [k1_pay10]
  exact sitofp_nat (by omega)
theorem tnumh_eq (t : Fin 640) : (k1_pay11 (F := Ideal) (ix2 t 0) : EReal) = ((t.val : ℝ) : EReal) := by
  pointwise [k1_pay11]
  exact tnum_eq t
theorem tnuml_eq (t : Fin 640) : (k1_pay12 (F := Ideal) (ix2 t 0) : EReal) = 0 := by
  pointwise [k1_pay12, k1_pay11]
  rw [tnum_eq]
  exact sub_self_coe _

/-- The tokens of the first 64 rows of a hash. -/
theorem idq_eq (hrot : ∀ t j, rot (ix2 t j) = (rr t j : EReal)) (h : Fin 8) (i : Fin 64) :
    (idq rot h (ix2 i 0) : EReal) = (((ord (bk rr h) ⟨i.val, by omega⟩).val : ℝ) : EReal) := by
  have hp := pay27_eq _ _ (bkt_eq rot rr hrot h)
  unfold idq
  unfold k1_pay32 k1_pay30 k1_pay31 k1_pay29
  generalize k1_pay27 (F := Ideal) k1_pay8 k1_pay9 kernelRun1_A.sl.v33 (bkt rot h) = p at hp
  have h1 := tnumh_eq
  have h2 := tnuml_eq
  generalize k1_pay11 (F := Ideal) = q1 at h1
  generalize k1_pay12 (F := Ideal) = q2 at h2
  pointwise
  simp only [hp, h1, h2, mul_zero, sum_const_zero, add_zero]
  exact onehot (ord (bk rr h) ⟨i.val, by omega⟩) (fun x => x = ord (bk rr h) ⟨i.val, by omega⟩) (fun x => Iff.rfl)
    fun x : Fin 640 => ((x.val : ℝ) : EReal)

/-- The tokens of the last 64 rows of a hash. -/
theorem idk_eq (hrot : ∀ t j, rot (ix2 t j) = (rr t j : EReal)) (h : Fin 8) (i : Fin 64) :
    (idk rot h (ix2 i 0) : EReal) = (((ord (bk rr h) ⟨576 + i.val, by omega⟩).val : ℝ) : EReal) := by
  have hp := pay27_eq _ _ (bkt_eq rot rr hrot h)
  unfold idk
  unfold k1_pay33
  generalize k1_pay27 (F := Ideal) k1_pay8 k1_pay9 kernelRun1_A.sl.v33 (bkt rot h) = p at hp
  have h1 := tnumh_eq
  have h2 := tnuml_eq
  generalize k1_pay11 (F := Ideal) = q1 at h1
  generalize k1_pay12 (F := Ideal) = q2 at h2
  pointwise
  simp only [hp, h1, h2, mul_zero, sum_const_zero, add_zero]
  exact onehot (ord (bk rr h) ⟨576 + i.val, by omega⟩) (fun x => x = ord (bk rr h) ⟨576 + i.val, by omega⟩) (fun x => Iff.rfl)
    fun x : Fin 640 => ((x.val : ℝ) : EReal)

end Cert.KernelIdeal.Attn
-- ==== Proof.AttnRows.lean ====
module

public import proofs.«01_k».proof.Proof.AttnSort

@[expose] public section

/-
  Stores tiled over an array's rows or columns, read back at one element.
-/

set_option maxRecDepth 16384

noncomputable section

namespace Cert.KernelIdeal.Attn
open Idealize.ShloMosaic Cert.KernelIdeal Cert.KernelIdeal.Gen Cert.Tools Finset

/-- Tiles that all agree with one function of the array's two coordinates. -/
theorem canon_tiles {N n m K w : ℕ} {e : EltTy} (off : Fin N → Fin 2 → ℕ)
    (inb : ∀ (h : Fin N) (a : Fin 2), off h a + (⟨2, ![n, m]⟩ : Shape).size a ≤ (⟨2, ![K, w]⟩ : Shape).size a)
    (f : Fin N → (⟨2, ![n, m]⟩ : Shape).Idx → Elt Ideal e) (g : Fin K → Fin w → Elt Ideal e)
    (hf : ∀ (h : Fin N) (a : Fin n) (b : Fin m) (H0 : off h 0 + a.val < K) (H1 : off h 1 + b.val < w),
      f h (ix2 a b) = g ⟨off h 0 + a.val, H0⟩ ⟨off h 1 + b.val, H1⟩)
    (a : Fin K) (b : Fin w)
    (hc : ∃ h : Fin N, (off h 0 ≤ a.val ∧ a.val < off h 0 + n) ∧ (off h 1 ≤ b.val ∧ b.val < off h 1 + m)) :
    View.canon (Val := Elt Ideal) (s := ⟨2, ![K, w]⟩) (e := e)
      ((List.finRange N).reverse.map fun h => ⟨Rect.unit (s := ⟨2, ![K, w]⟩) (off h) (⟨2, ![n, m]⟩ : Shape).size (inb h), f h⟩)
      (ix2 a b) = g a b := by
  refine View.canon_apply_of_pieces (Val := Elt Ideal) (fun y : (⟨2, ![K, w]⟩ : Shape).Idx => g (y 0) (y 1)) _ ?_ (ix2 a b) ?_
  · intro p hp x
    obtain ⟨h, -, rfl⟩ := List.mem_map.mp hp
    obtain ⟨x0, x1, rfl⟩ : ∃ (x0 : Fin n) (x1 : Fin m), x = ix2 x0 x1 := by
      refine ⟨x 0, x 1, ?_⟩
      funext a
      match a with
      | ⟨0, _⟩ => rfl
      | ⟨1, _⟩ => rfl
    have h0 := inb h 0
    have h1 := inb h 1
    have h0' : off h 0 + n ≤ K := h0
    have h1' : off h 1 + m ≤ w := h1
    refine (hf h x0 x1 (by omega) (by omega)).trans ?_
    refine congrArg₂ g (Fin.ext ?_) (Fin.ext ?_)
    · show off h 0 + x0.val = off h 0 + 1 * x0.val
      rw [one_mul]
    · show off h 1 + x1.val = off h 1 + 1 * x1.val
      rw [one_mul]
  · obtain ⟨h, h0, h1⟩ := hc
    refine ⟨_, List.mem_map.mpr ⟨h, by simp, rfl⟩, ?_⟩
    rw [Rect.mem_set_unit]
    intro a'
    match a' with
    | ⟨0, _⟩ => exact h0
    | ⟨1, _⟩ => exact h1

/-- A load of a box from stores whose array is known. -/
theorem readCov_box {n m K w : ℕ} {e : EltTy} (v : View sig .tc .vmem ⟨2, ![K, w]⟩ e) (L : List (View.Piece (Elt Ideal) ⟨2, ![K, w]⟩ e))
    (off : Fin 2 → ℕ) (inb : ∀ a : Fin 2, off a + (⟨2, ![n, m]⟩ : Shape).size a ≤ (⟨2, ![K, w]⟩ : Shape).size a)
    (g : Fin K → Fin w → Elt Ideal e) (hg : ∀ a b, View.canon L (ix2 a b) = g a b) (a : Fin n) (b : Fin m)
    (H0 : off 0 + a.val < K) (H1 : off 1 + b.val < w) :
    v.readCov L (Rect.unit (s := ⟨2, ![K, w]⟩) off (⟨2, ![n, m]⟩ : Shape).size inb).toLoadRect (ix2 a b)
      = g ⟨off 0 + a.val, H0⟩ ⟨off 1 + b.val, H1⟩ := by
  rw [View.readCov_eq_canon', ← hg]
  show View.canon L _ = View.canon L _
  congr 1
  funext a'
  match a' with
  | ⟨0, _⟩ => exact Fin.ext (show off 0 + 1 * a.val = off 0 + a.val by rw [one_mul])
  | ⟨1, _⟩ => exact Fin.ext (show off 1 + 1 * b.val = off 1 + b.val by rw [one_mul])

end Cert.KernelIdeal.Attn
-- ==== Proof.AttnSem.lean ====
module

public import proofs.«01_k».proof.Proof.AttnRows

@[expose] public section

/-
  The attention body's result, in ideal arithmetic on real inputs, is the attention of the specification.
-/

set_option maxRecDepth 16384

noncomputable section

namespace Cert.KernelIdeal.Attn
open Idealize.ShloMosaic Cert.KernelIdeal Cert.KernelIdeal.Gen Cert.Tools Finset
open Cert.Spec (bk rb key posN pos ord bucket mx es tok row keyrow kn sc so lse rowOf ul attn)

/-! ### Rows and tokens -/

section Rows
variable (b : Fin 8 → Fin 640 → Fin 10)

theorem tok_of (h : Fin 8) (i : Fin 640) (g : Fin 5120) (hg : g.val = 640 * h.val + i.val) : tok b g = ord (b h) i := by
  have h1 : (⟨g.val / 640, by omega⟩ : Fin 8) = h := Fin.ext (by simp only; omega)
  have h2 : (⟨g.val % 640, by omega⟩ : Fin 640) = i := Fin.ext (by simp only; omega)
  unfold tok; rw [h1, h2]

/-- Within one hash, two rows hold the same token only if they are the same row. -/
theorem tok_inj (g g' : Fin 5120) (h : g.val / 640 = g'.val / 640) : tok b g = tok b g' ↔ g = g' := by
  constructor
  · intro e
    unfold tok at e
    have h1 : (⟨g.val / 640, by omega⟩ : Fin 8) = ⟨g'.val / 640, by omega⟩ := Fin.ext h
    rw [h1] at e
    have := congrArg Fin.val ((ord _).injective e)
    simp only at this
    exact Fin.ext (by omega)
  · rintro rfl; rfl

theorem keyrow_lo (c : Fin 80) (j : Fin 128) (h : j.val < 64) : keyrow c j = row c ⟨j.val, h⟩ := by
  unfold keyrow; rw [dif_pos h]; rfl
theorem keyrow_hi (c : Fin 80) (j : Fin 128) (h : ¬ j.val < 64) : keyrow c j = row (prev c) ⟨j.val - 64, by omega⟩ := by
  unfold keyrow; rw [dif_neg h]; rfl

end Rows

/-! ### Softmax on one row -/

theorem pay138_eq (y : FVec Ideal S128x128 .bf16) (yr : Fin 128 → Fin 128 → ℝ) (hy : ∀ j d, y (ix2 j d) = (yr j d : EReal))
    (dd : FVec Ideal S64x128 .f32) (x : Fin 64 → Fin 128 → ℝ) (hx : ∀ i j, dd (ix2 i j) = (x i j : EReal)) (i : Fin 64) (d : Fin 128) :
    (k1_pay138 (F := Ideal) y dd (ix2 i d) : EReal) = ((∑ j, Real.exp (x i j - mx (x i)) / es (x i) * yr j d : ℝ) : EReal) := by
  pointwise [k1_pay138, k1_pay137, k1_pay136, k1_pay135]
  simp only [hx, ninf, fold_max, ← EReal.coe_sub, ideal_exp, ← coe_sum, hy]
  simp only [ideal_div _ (show (∑ j, Real.exp (x i j - mx (x i))) ≠ 0 from (Cert.Spec.es_pos (x i)).ne')]
  rw [sum_mul_coe]
  rfl

theorem pay139_eq (dd : FVec Ideal S64x128 .f32) (x : Fin 64 → Fin 128 → ℝ) (hx : ∀ i j, dd (ix2 i j) = (x i j : EReal)) (i : Fin 64) :
    (k1_pay139 (F := Ideal) dd (ix2 i 0) : EReal) = ((mx (x i) + Real.log (es (x i)) : ℝ) : EReal) := by
  pointwise [k1_pay139, k1_pay137, k1_pay136, k1_pay135]
  simp only [hx, ninf, fold_max, ← EReal.coe_sub, ideal_exp, ← coe_sum]
  rw [ideal_log (show 0 < ∑ j, Real.exp (x i j - mx (x i)) from Cert.Spec.es_pos (x i)), ← EReal.coe_add]
  rfl

/-! ### Back in token order -/

theorem pay714_eq (p : FVec Ideal S640x1 .f32) (b : Fin 640 → Fin 10) (hp : ∀ t, p (ix2 t 0) = ((posN b t : ℝ) : EReal))
    (o : Vec Ideal S640x128 .f32) (x : Fin 640 → Fin 128 → ℝ) (ho : ∀ i d, o (ix2 i d) = (x i d : EReal)) (l : Vec Ideal S640x1 .f32)
    (t : Fin 640) (d : Fin 128) : (k1_pay714 (F := Ideal) k1_pay9 p o l (ix2 t d) : EReal) = (x (pos b t) d : EReal) := by
  have hn := num_eq
  generalize k1_pay9 (F := Ideal) = q at hn
  pointwise [k1_pay714, k1_pay712]
  simp only [ho, hp, hn, natcast_inj, sitofp_bit, sub_self_coe, mul_zero, sum_const_zero, add_zero]
  exact onehot (pos b t) (fun i : Fin 640 => posN b t = i.val) (fun i => ⟨fun h => Fin.ext h.symm, fun h => by rw [h]; rfl⟩)
    fun i => (x i d : EReal)

theorem pay713_eq (p : FVec Ideal S640x1 .f32) (b : Fin 640 → Fin 10) (hp : ∀ t, p (ix2 t 0) = ((posN b t : ℝ) : EReal))
    (o : Vec Ideal S640x128 .f32) (l : Vec Ideal S640x1 .f32) (x : Fin 640 → ℝ) (hl : ∀ i, l (ix2 i 0) = (x i : EReal))
    (t : Fin 640) : (k1_pay713 (F := Ideal) k1_pay9 p o l (ix2 t 0) : EReal) = (x (pos b t) : EReal) := by
  have hn := num_eq
  generalize k1_pay9 (F := Ideal) = q at hn
  pointwise [k1_pay713, k1_pay712]
  simp only [hl, hp, hn, natcast_inj, sitofp_bit, sub_self_coe, mul_zero, sum_const_zero, add_zero]
  exact onehot (pos b t) (fun i : Fin 640 => posN b t = i.val) (fun i => ⟨fun h => Fin.ext h.symm, fun h => by rw [h]; rfl⟩)
    fun i => (x i : EReal)

/-! ### The hashes combined -/

theorem wts_eq (u : Fin 8 → FVec Ideal S640x1 .f32) (U : Fin 640 → Fin 8 → ℝ) (hu : ∀ h t, u h (ix2 t 0) = (U t h : EReal))
    (t : Fin 640) (h : Fin 8) : (wts u (ix2 t h) : EReal) = ((Real.exp (U t h - mx (U t)) : ℝ) : EReal) := by
  have e : ∀ (t : Fin 640) (h : Fin 8), (concatenate S640x8 1 [⟨S640x1, u 0⟩, ⟨S640x1, u 1⟩, ⟨S640x1, u 2⟩, ⟨S640x1, u 3⟩, ⟨S640x1, u 4⟩, ⟨S640x1, u 5⟩, ⟨S640x1, u 6⟩, ⟨S640x1, u 7⟩] concatenates_S640x1_S640x1_S640x1_S640x1_S640x1_S640x1_S640x1_S640x1_S640x8_d1 : FVec Ideal S640x8 .f32) (ix2 t h) = (U t h : EReal) := by
    intro t h
    pointwise
    fin_cases h <;> exact hu _ t
  unfold wts
  generalize (concatenate S640x8 1 [⟨S640x1, u 0⟩, ⟨S640x1, u 1⟩, ⟨S640x1, u 2⟩, ⟨S640x1, u 3⟩, ⟨S640x1, u 4⟩, ⟨S640x1, u 5⟩, ⟨S640x1, u 6⟩, ⟨S640x1, u 7⟩] concatenates_S640x1_S640x1_S640x1_S640x1_S640x1_S640x1_S640x1_S640x1_S640x8_d1 : FVec Ideal S640x8 .f32) = q at e
  pointwise
  simp only [e, ninf, fold_max, ← EReal.coe_sub, ideal_exp]

theorem comb_eq (u : Fin 8 → FVec Ideal S640x1 .f32) (U : Fin 640 → Fin 8 → ℝ) (hu : ∀ h t, u h (ix2 t 0) = (U t h : EReal))
    (o : Fin 8 → Vec Ideal S640x128 .f32) (O : Fin 640 → Fin 128 → Fin 8 → ℝ) (ho : ∀ h t d, o h (ix2 t d) = (O t d h : EReal))
    (t : Fin 640) (d : Fin 128) : (comb (wts u) o (ix3 0 t d) : EReal)
      = ((∑ h, O t d h * (Real.exp (U t h - mx (U t)) / es (U t)) : ℝ) : EReal) := by
  have hw := wts_eq u U hu
  generalize wts u = w at hw
  pointwise [comb, wtd]
  simp only [hw, ho, ← coe_sum, ← EReal.coe_mul, ← EReal.coe_add]
  rw [ideal_div _ (show (∑ h, Real.exp (U t h - mx (U t))) ≠ 0 from (Cert.Spec.es_pos (U t)).ne')]
  congr 1
  simp only [← mul_div_assoc, ← sum_div, es, Fin.sum_univ_eight]

/-! ### The chunks -/

theorem low_lt (d : Fin 128) : d.val < 256 := by omega
theorem high_lt (d : Fin 128) : 128 + d.val < 256 := by omega

section Chunks
variable (a7 a8 a9 : Memref sig .tc .vmem S5120x128 .bf16) (a10 : Memref sig .tc .vmem S5120x128 .f32) (a11 : Memref sig .tc .vmem S5120x1 .f32)
  (a12 : Memref sig .tc .vmem S640x1024 .f32)
  (rot : FVec Ideal S640x40 .f32) (xh xl : FVec Ideal S640x256 .bf16)
  (rr : Fin 640 → Fin 40 → ℝ) (hrot : ∀ t j, rot (ix2 t j) = (rr t j : EReal))
  (qk v : Fin 640 → Fin 128 → ℝ) (hq : ∀ (t : Fin 640) (d : Fin 128), xh (ix2 t ⟨d.val, low_lt d⟩) = (qk t d : EReal))
  (hv : ∀ (t : Fin 640) (d : Fin 128), xh (ix2 t ⟨128 + d.val, high_lt d⟩) = (v t d : EReal))
  (hxl : ∀ t d, xl (ix2 t d) = (0 : EReal))

theorem kn_eq (t : Fin 640) (d : Fin 128) :
    Ideal.div (qk t d : EReal) (max (Ideal.sqrt (∑ x, (qk t x : EReal) * (qk t x : EReal))) (Ideal.ofBits FTy.f32 730643660#32))
      = ((kn eps qk t d : ℝ) : EReal) := by
  rw [sum_mul_coe, ideal_sqrt (sum_nonneg fun x _ => mul_self_nonneg (qk t x)), eps_eq, ← coe_max,
    ideal_div _ (lt_of_lt_of_le eps_pos (le_max_right _ _)).ne']
  rfl

/-- The sorted arrays, tiled by hash. -/
theorem hash_tiles {f : Fin 8 → FVec Ideal S640x128 .bf16} {g : Fin 640 → Fin 128 → ℝ}
    (hf : ∀ h i d, f h (ix2 i d) = ((g (ord (bk rr h) i) d : ℝ) : EReal)) (r : Fin 5120) (d : Fin 128) :
    View.canon (Val := Elt Ideal) (s := S5120x128) (e := .bf16) ((List.finRange 8).reverse.map fun h =>
      ⟨Rect.unit (s := S5120x128) ![640 * h.val, 0] S640x128.size (inbH h), f h⟩) (ix2 r d) = ((g (tok (bk rr) r) d : ℝ) : EReal) := by
  refine canon_tiles (N := 8) (n := 640) (m := 128) (K := 5120) (w := 128) (e := .bf16) (fun h => ![640 * h.val, 0]) inbH f
    (fun r d => ((g (tok (bk rr) r) d : ℝ) : EReal)) ?_ r d ?_
  · intro h a b H0 H1
    rw [hf, tok_of (bk rr) h a _ rfl]
    congr 2
    exact Fin.ext (Nat.zero_add _).symm
  · refine ⟨⟨r.val / 640, by omega⟩, ⟨?_, ?_⟩, ?_, ?_⟩
    · show 640 * (r.val / 640) ≤ r.val; omega
    · show r.val < 640 * (r.val / 640) + 640; omega
    · exact Nat.zero_le _
    · show d.val < 0 + 128; omega

theorem chunk_load {e : EltTy} (a : Memref sig .tc .vmem S5120x128 e) (L : List (View.Piece (Elt Ideal) S5120x128 e)) (g : Fin 5120 → Fin 128 → Elt Ideal e)
    (hg : ∀ r d, View.canon (Val := Elt Ideal) L (ix2 r d) = g r d) (c : Fin 80) (i : Fin 64) (d : Fin 128) :
    a.view.readCov L (Rect.unit (s := S5120x128) ![64 * c.val, 0] S64x128.size (inbC c)).toLoadRect (ix2 i d)
      = g (row c i) d := by
  refine (readCov_box (n := 64) (m := 128) (K := 5120) (w := 128) a.view L ![64 * c.val, 0] (inbC c) g hg i d ?_ ?_).trans ?_
  · show 64 * c.val + i.val < 5120; omega
  · show 0 + d.val < 128; omega
  · exact congrArg (g (row c i)) (Fin.ext (Nat.zero_add _))

section
include hrot hxl hq
theorem ldQ_eq (c : Fin 80) (i : Fin 64) (d : Fin 128) :
    (ldQ a7 rot xh xl c (ix2 i d) : EReal) = ((qk (tok (bk rr) (row c i)) d : ℝ) : EReal) := by
  refine chunk_load a7 _ (fun r d => ((qk (tok (bk rr) r) d : ℝ) : EReal)) (fun r d => hash_tiles rr ?_ r d) c i d
  intro h i d
  pointwise [k1_pay35, k1_pay34]
  rw [sx_eq rot rr hrot xh xl hxl]
  exact hq _ _

theorem ldK_eq (c : Fin 80) (i : Fin 64) (d : Fin 128) :
    (ldK a9 rot xh xl c (ix2 i d) : EReal) = ((kn eps qk (tok (bk rr) (row c i)) d : ℝ) : EReal) := by
  refine chunk_load a9 _ (fun r d => ((kn eps qk (tok (bk rr) r) d : ℝ) : EReal)) (fun r d => hash_tiles rr ?_ r d) c i d
  intro h i d
  pointwise [k1_pay37, k1_pay34]
  simp only [sx_eq rot rr hrot xh xl hxl, hq]
  exact kn_eq qk _ _
end

include hrot hxl hv in
theorem ldV_eq (c : Fin 80) (i : Fin 64) (d : Fin 128) :
    (ldV a8 rot xh xl c (ix2 i d) : EReal) = ((v (tok (bk rr) (row c i)) d : ℝ) : EReal) := by
  refine chunk_load a8 _ (fun r d => ((v (tok (bk rr) r) d : ℝ) : EReal)) (fun r d => hash_tiles rr ?_ r d) c i d
  intro h i d
  pointwise [k1_pay36]
  rw [sx_eq rot rr hrot xh xl hxl]
  exact hv _ _

/-- The mask on a chunk's own rows. -/
theorem eye_eq (i : Fin 64) (j : Fin 64) : k1_pay119 (ix2 i j) = BitVec.ofBool (decide (i = j)) := by
  pointwise [k1_pay119]
  simp only [IntOp.cmpi]
  congr 1
  by_cases h : i = j
  · subst h; simp
  · have := (not_congr (ofNat_inj (m := i.val) (n := j.val) (by omega) (by omega))).mpr (fun h' => h (Fin.ext h'))
    rw [beq_false_of_ne this, decide_eq_false h]

theorem select_bit {α : Type} (p : Prop) [Decidable p] (x y : α) : Scalar.select (BitVec.ofBool (decide p)) x y = if p then x else y := by
  by_cases h : p <;> simp [h, Scalar.select]

theorem score_lo (q kc kp : Vec Ideal S64x128 .bf16) (c : Fin 80) (b : Fin 8 → Fin 640 → Fin 10)
    (hqq : ∀ i d, q (ix2 i d) = ((qk (tok b (row c i)) d : ℝ) : EReal))
    (hkc : ∀ i d, kc (ix2 i d) = ((kn eps qk (tok b (row c i)) d : ℝ) : EReal)) (i : Fin 64) (j : Fin 128) (h : j.val < 64) :
    (if i = (⟨j.val, h⟩ : Fin 64) then Ideal.ofBits FTy.f32 3343077376#32
      else (∑ x, q (ix2 i x) * kc (ix2 ⟨j.val, h⟩ x)) * Ideal.ofBits FTy.f32 1035273459#32) = ((sc eps scl msk qk b c i j : ℝ) : EReal) := by
  have hk := keyrow_lo c j h
  have ht : (tok b (row c i) = tok b (keyrow c j)) ↔ i = (⟨j.val, h⟩ : Fin 64) := by
    rw [tok_inj, hk]
    · constructor
      · intro e
        have := congrArg Fin.val e
        simp only [row] at this
        exact Fin.ext (by simp only; omega)
      · intro e; rw [← e]
    · rw [hk]; simp only [row]; omega
  unfold sc
  by_cases hij : i = (⟨j.val, h⟩ : Fin 64)
  · rw [if_pos hij, if_pos (ht.mpr hij), msk_eq]
  · rw [if_neg hij, if_neg (fun h => hij (ht.mp h)), hk]
    simp only [hqq, hkc]
    rw [sum_mul_coe, scl_eq, ← EReal.coe_mul]

theorem score_hi (q kp : Vec Ideal S64x128 .bf16) (c : Fin 80) (b : Fin 8 → Fin 640 → Fin 10)
    (hqq : ∀ i d, q (ix2 i d) = ((qk (tok b (row c i)) d : ℝ) : EReal))
    (hkp : ∀ i d, kp (ix2 i d) = ((kn eps qk (tok b (row (prev c) i)) d : ℝ) : EReal)) (i : Fin 64) (j : Fin 128) (h : ¬ j.val < 64)
    (p : Prop) [Decidable p] (hp : p ↔ tok b (row c i) = tok b (keyrow c j)) :
    (if p then Ideal.ofBits FTy.f32 3343077376#32
      else (∑ x, q (ix2 i x) * kp (ix2 ⟨j.val - 64, by omega⟩ x)) * Ideal.ofBits FTy.f32 1035273459#32) = ((sc eps scl msk qk b c i j : ℝ) : EReal) := by
  unfold sc
  by_cases hij : p
  · rw [if_pos hij, if_pos (hp.mp hij), msk_eq]
  · rw [if_neg hij, if_neg (fun h => hij (hp.mpr h)), keyrow_hi c j h]
    simp only [hqq, hkp]
    rw [sum_mul_coe, scl_eq, ← EReal.coe_mul]

theorem one120 (i : Fin 64) : (k1_pay120 (F := Ideal) (ix2 i 0) : EReal) = 1 := by
  pointwise [k1_pay120]
theorem one121 (i : Fin 64) : (k1_pay121 (F := Ideal) (ix2 i 0) : EReal) = 1 := by
  pointwise [k1_pay121, k1_pay120]

theorem diff_zero (m n : ℕ) : (((m : ℝ) : EReal) + (0 - ((n : ℝ) : EReal)) = 0) ↔ m = n := by
  rw [zero_sub, ← EReal.coe_neg, ← EReal.coe_add, ← EReal.coe_zero, EReal.coe_eq_coe_iff, ← sub_eq_add_neg, sub_eq_zero, Nat.cast_inj]

set_option maxHeartbeats 1000000 in
include hrot hxl hq in
theorem dots_eq (c : Fin 80) (i : Fin 64) (j : Fin 128) :
    (dots a7 a9 rot xh xl c (ix2 i j) : EReal) = ((sc eps scl msk qk (bk rr) c i j : ℝ) : EReal) := by
  have hqq := ldQ_eq a7 rot xh xl rr hrot qk hq hxl c
  have hkc := ldK_eq a9 rot xh xl rr hrot qk hq hxl c
  have hkp := ldK_eq a9 rot xh xl rr hrot qk hq hxl (prev c)
  have h119 := eye_eq
  unfold dots
  generalize ldQ a7 rot xh xl c = q at hqq ⊢
  generalize ldK a9 rot xh xl c = kc at hkc ⊢
  generalize ldK a9 rot xh xl (prev c) = kp at hkp ⊢
  generalize k1_pay119 = eye at h119 ⊢
  split
  · rename_i hc
    have hiq := idq_eq rot rr (hrot := hrot) (hashOf c)
    have hik := idk_eq rot rr (hrot := hrot) (prevHash (hashOf c))
    generalize idq rot (hashOf c) = tq at hiq ⊢
    generalize idk rot (prevHash (hashOf c)) = tk at hik ⊢
    by_cases h : j.val < 64
    · pointwise [k1_pay124, k1_pay125, k1_pay126, k1_pay127, k1_pay123]
      simp only [dif_pos h, eye_eq, select_bit]
      exact score_lo qk q kc kp c (bk rr) hqq hkc i j h
    · pointwise [k1_pay124, k1_pay125, k1_pay126, k1_pay127, k1_pay123]
      simp only [dif_neg h, one120, one121, hiq, hik, mul_one, one_mul, univ_unique, sum_singleton]
      refine score_hi qk q kp c (bk rr) hqq hkp i j h _ ?_
      rw [diff_zero, keyrow_hi c j h, tok_of (bk rr) (hashOf c) ⟨i.val, by omega⟩ (row c i) (by simp only [row, hashOf]; omega),
        tok_of (bk rr) (prevHash (hashOf c)) ⟨576 + (j.val - 64), by omega⟩ (row (prev c) ⟨j.val - 64, by omega⟩)
          (by simp only [row, prev, prevHash, hashOf]; omega), Fin.ext_iff]
  · rename_i hc
    by_cases h : j.val < 64
    · pointwise [k1_pay134]
      simp only [dif_pos h]
      rw [h119, select_bit]
      exact score_lo qk q kc kp c (bk rr) hqq hkc i j h
    · pointwise [k1_pay134]
      simp only [dif_neg h]
      refine (if_neg not_false).symm.trans (score_hi qk q kp c (bk rr) hqq hkp i j h False ?_)
      rw [tok_inj, false_iff, keyrow_hi c j h]
      · intro e
        have := congrArg Fin.val e
        simp only [row, prev] at this
        omega
      · rw [keyrow_hi c j h]; simp only [row, prev]; omega

/-- The value rows a chunk attends to. -/
theorem pay133_eq (vc vp : Vec Ideal S64x128 .bf16) (c : Fin 80) (b : Fin 8 → Fin 640 → Fin 10)
    (hvc : ∀ i d, vc (ix2 i d) = ((v (tok b (row c i)) d : ℝ) : EReal))
    (hvp : ∀ i d, vp (ix2 i d) = ((v (tok b (row (prev c) i)) d : ℝ) : EReal)) (j : Fin 128) (d : Fin 128) :
    (k1_pay133 (F := Ideal) vc vp (ix2 j d) : EReal) = ((v (tok b (keyrow c j)) d : ℝ) : EReal) := by
  pointwise [k1_pay133]
  split
  · rename_i h; rw [hvc, keyrow_lo c j h]
  · rename_i h; rw [hvp, keyrow_hi c j h]

theorem so_row (b : Fin 8 → Fin 640 → Fin 10) (c : Fin 80) (i : Fin 64) (d : Fin 128) (g : Fin 5120) (hg : g.val = 64 * c.val + i.val) :
    so eps scl msk qk v b g d = ∑ j, Real.exp (sc eps scl msk qk b c i j - mx (sc eps scl msk qk b c i))
      / es (sc eps scl msk qk b c i) * v (tok b (keyrow c j)) d := by
  have h1 : (⟨g.val / 64, by omega⟩ : Fin 80) = c := Fin.ext (by simp only; omega)
  have h2 : (⟨g.val % 64, by omega⟩ : Fin 64) = i := Fin.ext (by simp only; omega)
  unfold so; rw [h1, h2]

theorem lse_row (b : Fin 8 → Fin 640 → Fin 10) (c : Fin 80) (i : Fin 64) (g : Fin 5120) (hg : g.val = 64 * c.val + i.val) :
    lse eps scl msk qk b g = mx (sc eps scl msk qk b c i) + Real.log (es (sc eps scl msk qk b c i)) := by
  have h1 : (⟨g.val / 64, by omega⟩ : Fin 80) = c := Fin.ext (by simp only; omega)
  have h2 : (⟨g.val % 64, by omega⟩ : Fin 64) = i := Fin.ext (by simp only; omega)
  unfold lse; rw [h1, h2]

include hrot hxl hq hv in
theorem ldO_eq (h : Fin 8) (i : Fin 640) (d : Fin 128) :
    (ldO a7 a8 a9 a10 rot xh xl h (ix2 i d) : EReal)
      = ((so eps scl msk qk v (bk rr) ⟨640 * h.val + i.val, by omega⟩ d : ℝ) : EReal) := by
  refine (readCov_box (n := 640) (m := 128) (K := 5120) (w := 128) (e := .f32) a10.view _ ![640 * h.val, 0] (inbH h)
    (fun g d => ((so eps scl msk qk v (bk rr) g d : ℝ) : EReal)) (fun g d => ?_) i d ?_ ?_).trans ?_
  · refine canon_tiles (N := 80) (n := 64) (m := 128) (K := 5120) (w := 128) (e := .f32) (fun c => ![64 * c.val, 0]) inbC _
      (fun g d => ((so eps scl msk qk v (bk rr) g d : ℝ) : EReal)) ?_ g d ?_
    · intro c i d H0 H1
      refine (pay138_eq _ (fun j d => v (tok (bk rr) (keyrow c j)) d)
        (pay133_eq v _ _ c (bk rr) (ldV_eq a8 rot xh xl rr hrot v hv hxl c) (ldV_eq a8 rot xh xl rr hrot v hv hxl (prev c))) _
        (sc eps scl msk qk (bk rr) c) (dots_eq a7 a9 rot xh xl rr hrot qk hq hxl c) i d).trans ?_
      rw [so_row qk v (bk rr) c i _ _ rfl]
      congr 1
      refine sum_congr rfl fun j _ => congrArg _ (congrArg _ (Fin.ext (Nat.zero_add _).symm))
    · refine ⟨⟨g.val / 64, by omega⟩, ⟨?_, ?_⟩, ?_, ?_⟩
      · show 64 * (g.val / 64) ≤ g.val; omega
      · show g.val < 64 * (g.val / 64) + 64; omega
      · exact Nat.zero_le _
      · show d.val < 0 + 128; omega
  · show 640 * h.val + i.val < 5120; omega
  · show 0 + d.val < 128; omega
  · exact congrArg (fun d => ((so eps scl msk qk v (bk rr) ⟨640 * h.val + i.val, by omega⟩ d : ℝ) : EReal)) (Fin.ext (Nat.zero_add _))

include hrot hxl hq in
theorem ldL_eq (h : Fin 8) (i : Fin 640) :
    (ldL a7 a9 a11 rot xh xl h (ix2 i 0) : EReal)
      = ((lse eps scl msk qk (bk rr) ⟨640 * h.val + i.val, by omega⟩ : ℝ) : EReal) := by
  refine (readCov_box (n := 640) (m := 1) (K := 5120) (w := 1) (e := .f32) a11.view _ ![640 * h.val, 0] (inbHL h)
    (fun g _ => ((lse eps scl msk qk (bk rr) g : ℝ) : EReal)) (fun g d => ?_) i 0
    (show 640 * h.val + i.val < 5120 by omega) Nat.zero_lt_one)
  · refine canon_tiles (N := 80) (n := 64) (m := 1) (K := 5120) (w := 1) (e := .f32) (fun c => ![64 * c.val, 0]) inbCL _
      (fun g _ => ((lse eps scl msk qk (bk rr) g : ℝ) : EReal)) ?_ g d ?_
    · intro c i d H0 H1
      obtain rfl : d = 0 := Subsingleton.elim _ _
      refine (pay139_eq _ (sc eps scl msk qk (bk rr) c) (dots_eq a7 a9 rot xh xl rr hrot qk hq hxl c) i).trans ?_
      rw [lse_row qk (bk rr) c i _ rfl]
    · refine ⟨⟨g.val / 64, by omega⟩, ⟨?_, ?_⟩, ?_, ?_⟩
      · show 64 * (g.val / 64) ≤ g.val; omega
      · show g.val < 64 * (g.val / 64) + 64; omega
      · exact Nat.zero_le _
      · show d.val < 0 + 1; omega

include hrot hxl hq in
theorem ulV_eq (h : Fin 8) (t : Fin 640) :
    (ulV a7 a8 a9 a10 a11 rot xh xl h (ix2 t 0) : EReal) = ((ul eps scl msk qk (bk rr) t h : ℝ) : EReal) :=
  pay713_eq _ (bk rr h) (fun t => posV_eq rot rr h t hrot) _ _ (fun i => lse eps scl msk qk (bk rr) ⟨640 * h.val + i.val, by omega⟩)
    (ldL_eq a7 a9 a11 rot xh xl rr hrot qk hq hxl h) t

include hrot hxl hq hv in
theorem ldU_eq (h : Fin 8) (t : Fin 640) (d : Fin 128) :
    (ldU a7 a8 a9 a10 a11 a12 rot xh xl h (ix2 t d) : EReal) = ((so eps scl msk qk v (bk rr) (rowOf (bk rr) h t) d : ℝ) : EReal) := by
  refine (readCov_box (n := 640) (m := 128) (K := 640) (w := 1024) (e := .f32) a12.view _ ![0, 128 * h.val] (inbU h)
    (fun t k => ((so eps scl msk qk v (bk rr) (rowOf (bk rr) ⟨k.val / 128, by omega⟩ t) ⟨k.val % 128, by omega⟩ : ℝ) : EReal))
    (fun t k => ?_) t d ?_ ?_).trans ?_
  · refine canon_tiles (N := 8) (n := 640) (m := 128) (K := 640) (w := 1024) (e := .f32) (fun h => ![0, 128 * h.val]) inbU _
      (fun t k => ((so eps scl msk qk v (bk rr) (rowOf (bk rr) ⟨k.val / 128, by omega⟩ t) ⟨k.val % 128, by omega⟩ : ℝ) : EReal)) ?_ t k ?_
    · intro h i d H0 H1
      refine (pay714_eq _ (bk rr h) (fun t => posV_eq rot rr h t hrot) _
        (fun i d => so eps scl msk qk v (bk rr) ⟨640 * h.val + i.val, by omega⟩ d)
        (ldO_eq a7 a8 a9 a10 rot xh xl rr hrot qk v hq hv hxl h) _ i d).trans ?_
      have e0 : (⟨(![0, 128 * h.val] : Fin 2 → ℕ) 0 + i.val, H0⟩ : Fin 640) = i := Fin.ext (Nat.zero_add _)
      have e1 : (⟨((![0, 128 * h.val] : Fin 2 → ℕ) 1 + d.val) / 128, by omega⟩ : Fin 8) = h :=
        Fin.ext (show (128 * h.val + d.val) / 128 = h.val by omega)
      have e2 : (⟨((![0, 128 * h.val] : Fin 2 → ℕ) 1 + d.val) % 128, by omega⟩ : Fin 128) = d :=
        Fin.ext (show (128 * h.val + d.val) % 128 = d.val by omega)
      simp only [e0, e1, e2]
      rfl
    · refine ⟨⟨k.val / 128, by omega⟩, ⟨?_, ?_⟩, ?_, ?_⟩
      · exact Nat.zero_le _
      · show t.val < 0 + 640; omega
      · show 128 * (k.val / 128) ≤ k.val; omega
      · show k.val < 128 * (k.val / 128) + 128; omega
  · show 0 + t.val < 640; omega
  · show 128 * h.val + d.val < 1024; omega
  · have e0 : (⟨(![0, 128 * h.val] : Fin 2 → ℕ) 0 + t.val, by show 0 + t.val < 640; omega⟩ : Fin 640) = t := Fin.ext (Nat.zero_add _)
    have e1 : (⟨((![0, 128 * h.val] : Fin 2 → ℕ) 1 + d.val) / 128, by show (128 * h.val + d.val) / 128 < 8; omega⟩ : Fin 8) = h :=
      Fin.ext (show (128 * h.val + d.val) / 128 = h.val by omega)
    have e2 : (⟨((![0, 128 * h.val] : Fin 2 → ℕ) 1 + d.val) % 128, by omega⟩ : Fin 128) = d :=
      Fin.ext (show (128 * h.val + d.val) % 128 = d.val by omega)
    simp only [e0, e1, e2]

include hrot hxl hq hv in
/-- The stored block is the attention. -/
theorem attn_eq (t : Fin 640) (d : Fin 128) :
    (comb (wts (ulV a7 a8 a9 a10 a11 rot xh xl)) (ldU a7 a8 a9 a10 a11 a12 rot xh xl) (ix3 0 t d) : EReal)
      = ((attn eps scl msk qk v (bk rr) t d : ℝ) : EReal) :=
  comb_eq _ (ul eps scl msk qk (bk rr)) (ulV_eq a7 a8 a9 a10 a11 rot xh xl rr hrot qk hq hxl) _
    (fun t d h => so eps scl msk qk v (bk rr) (rowOf (bk rr) h t) d) (ldU_eq a7 a8 a9 a10 a11 a12 rot xh xl rr hrot qk v hq hv hxl) t d

end Chunks

end Cert.KernelIdeal.Attn
-- ==== Proof.Whole.lean ====
module

public import proofs.«01_k».proof.Proof.Spec
public import proofs.«01_k».proof.Proof.Tools

@[expose] public section

/-
  The whole problem over the reals, after the front end: projections, hashed attention per head, the output projection.
-/

noncomputable section

namespace Cert.Spec
open Cert.Tools

/-- One head's share of a product with a weight matrix. -/
def proj (W : Fin 1024 → Fin 1024 → ℝ) (xf : Fin 640 → Fin 1024 → ℝ) (h : Fin 8) (t : Fin 640) (d : Fin 128) : ℝ :=
  ∑ k, xf t k * W k ⟨128 * h.val + d.val, by omega⟩

/-- The random rotations of one head's projection. -/
def rrot (rot : Fin 128 → Fin 40 → ℝ) (qk : Fin 640 → Fin 128 → ℝ) (t : Fin 640) (j : Fin 40) : ℝ :=
  ∑ d, qk t d * rot d j

/-- One head's attention. -/
def head (Wqk Wv : Fin 1024 → Fin 1024 → ℝ) (rot : Fin 128 → Fin 40 → ℝ) (xf : Fin 640 → Fin 1024 → ℝ)
    (h : Fin 8) (t : Fin 640) (d : Fin 128) : ℝ :=
  attn eps scl msk (proj Wqk xf h) (proj Wv xf h) (bk (rrot rot (proj Wqk xf h))) t d

/-- All heads side by side. -/
def heads (Wqk Wv : Fin 1024 → Fin 1024 → ℝ) (rot : Fin 128 → Fin 40 → ℝ) (xf : Fin 640 → Fin 1024 → ℝ)
    (t : Fin 640) (n : Fin 1024) : ℝ :=
  head Wqk Wv rot xf ⟨n.val / 128, by omega⟩ t ⟨n.val % 128, by omega⟩

/-- The output projection. -/
def outp (Wqk Wv Wout : Fin 1024 → Fin 1024 → ℝ) (bout : Fin 1024 → ℝ) (rot : Fin 128 → Fin 40 → ℝ)
    (xf : Fin 640 → Fin 1024 → ℝ) (t : Fin 640) (n : Fin 1024) : ℝ :=
  (∑ k, heads Wqk Wv rot xf t k * Wout k n) + bout n

end Cert.Spec
-- ==== Proof.KernArr.lean ====
module

public import proofs.«01_k».proof.Proof.KernRun
public import proofs.«01_k».proof.Proof.AttnSem
public import proofs.«01_k».proof.Proof.Whole

@[expose] public section

/-
  The arrays the attention call and the projection call leave, at coordinates.
-/

set_option maxRecDepth 16384

noncomputable section

namespace Cert.KernelIdeal.Arr
open Idealize.ShloMosaic Idealize.ShloMosaic.TcCoe Idealize.SL.Sem
open Idealize.ShloMosaic.Pipeline (Dat)
open Cert.KernelIdeal Cert.KernelIdeal.Gen Cert.Tools Cert.Spec Cert.KernelIdeal.Attn

variable (V : (c : Dev nD) → (b : Ref sig .tc) → Buf (Elt Ideal) ((c : Thread nD τ).loc b))

theorem idx1 : ∀ t : Fin cfg1.N, win1_0.index t = ![(grid1.coords t 0).val, 0, 0] ∧ win1_1.index t = ![0, (grid1.coords t 1).val]
    ∧ win1_2.index t = ![0, (grid1.coords t 1).val] ∧ win1_3.index t = ![0, 0]
    ∧ win1_4.index t = ![(grid1.coords t 0).val, 0, (grid1.coords t 1).val] :=
  (by decide +kernel : ∀ t : Fin grid1.N, _)

theorem out1_eq (c : Dev nD) (t : Fin cfg1.N) (y : S1x640x128.Idx) :
    outsAt1 V c t y = comb (wts (ulV scM1_0 scM1_1 scM1_2 scM1_3 scM1_4 (k1_pay5 (iblk1 V c 0 t) (iblk1 V c 1 t) (iblk1 V c 3 t)) (k1_pay6 (iblk1 V c 0 t) (iblk1 V c 1 t) (iblk1 V c 2 t)) (k1_pay7 (iblk1 V c 0 t) (iblk1 V c 1 t) (iblk1 V c 2 t))))
          (ldU scM1_0 scM1_1 scM1_2 scM1_3 scM1_4 scM1_5 (k1_pay5 (iblk1 V c 0 t) (iblk1 V c 1 t) (iblk1 V c 3 t)) (k1_pay6 (iblk1 V c 0 t) (iblk1 V c 1 t) (iblk1 V c 2 t)) (k1_pay7 (iblk1 V c 0 t) (iblk1 V c 1 t) (iblk1 V c 2 t))) y := by
  unfold outsAt1 out1_A_4
  rw [run_eq]
  simp only [rotL, xhL, xlL, l0, l1, l3]
  frame_out

/-- The rotations of a block of real numbers. -/
theorem pay5_real (x0 : FVec Ideal S1x640x1024 .f32) (x1 : FVec Ideal S1024x128 .f32) (x3 : FVec Ideal S128x40 .f32)
    (xf : Fin 640 → Fin 1024 → ℝ) (W : Fin 1024 → Fin 128 → ℝ) (rot : Fin 128 → Fin 40 → ℝ)
    (h0 : ∀ t k, x0 (ix3 0 t k) = ((xf t k : ℝ) : EReal)) (h1 : ∀ k d, x1 (ix2 k d) = ((W k d : ℝ) : EReal))
    (h3 : ∀ d j, x3 (ix2 d j) = ((rot d j : ℝ) : EReal)) (t : Fin 640) (j : Fin 40) :
    k1_pay5 (F := Ideal) x0 x1 x3 (ix2 t j) = ((∑ d, (∑ k, xf t k * W k d) * rot d j : ℝ) : EReal) := by
  have h : k1_pay5 (F := Ideal) x0 x1 x3 (ix2 t j) = ∑ x, (∑ y, x0 (ix3 0 t y) * x1 (ix2 y x)) * x3 (ix2 x j) := by
    pointwise [k1_pay5, k1_pay3, k1_pay2]
  rw [h]
  simp only [h0, h1, h3, sum_mul_coe]

theorem pay6_real (x0 : FVec Ideal S1x640x1024 .f32) (x1 x2 : FVec Ideal S1024x128 .f32)
    (xf : Fin 640 → Fin 1024 → ℝ) (W W' : Fin 1024 → Fin 128 → ℝ)
    (h0 : ∀ t k, x0 (ix3 0 t k) = ((xf t k : ℝ) : EReal)) (h1 : ∀ k d, x1 (ix2 k d) = ((W k d : ℝ) : EReal))
    (h2 : ∀ k d, x2 (ix2 k d) = ((W' k d : ℝ) : EReal)) (t : Fin 640) (d : Fin 128) :
    k1_pay6 (F := Ideal) x0 x1 x2 (ix2 t ⟨d.val, by omega⟩) = ((∑ k, xf t k * W k d : ℝ) : EReal)
    ∧ k1_pay6 (F := Ideal) x0 x1 x2 (ix2 t ⟨128 + d.val, by omega⟩) = ((∑ k, xf t k * W' k d : ℝ) : EReal)
    ∧ ∀ j, k1_pay7 (F := Ideal) x0 x1 x2 (ix2 t j) = (0 : EReal) := by
  refine ⟨?_, ?_, fun j => ?_⟩
  · pointwise [k1_pay6, k1_pay4, k1_pay3, k1_pay2]
    simp only [h0, h1, sum_mul_coe]
  · pointwise [k1_pay6, k1_pay4, k1_pay3, k1_pay2]
    simp only [h0, h2, sum_mul_coe]
  · pointwise [k1_pay7, k1_pay6, k1_pay4, k1_pay3, k1_pay2]
    simp only [h0, h1, h2, sum_mul_coe]
    split <;> exact sub_self_coe _

/-- The attention call's array: every head's attention. -/
theorem final1 (c : Dev nD) (xf : Fin 4 → Fin 640 → Fin 1024 → ℝ) (Wqk Wv : Fin 1024 → Fin 1024 → ℝ) (rot : Fin 128 → Fin 40 → ℝ)
    (h0 : ∀ b t k, (V c main_v1 : FVec Ideal S4x640x1024 .f32) (ix3 b t k) = ((xf b t k : ℝ) : EReal))
    (h1 : ∀ k n, (V c main_arg1 : FVec Ideal S1024x1024 .f32) (ix2 k n) = ((Wqk k n : ℝ) : EReal))
    (h2 : ∀ k n, (V c main_arg2 : FVec Ideal S1024x1024 .f32) (ix2 k n) = ((Wv k n : ℝ) : EReal))
    (h3 : ∀ d j, (V c main_v2 : FVec Ideal S128x40 .f32) (ix2 d j) = ((rot d j : ℝ) : EReal)) :
    ((dat1 V c).arrAt 4 cfg1.N : FVec Ideal S4x640x1024 .f32) = fun i => ((heads Wqk Wv rot (xf (i 0)) (i 1) (i 2) : ℝ) : EReal) := by
  refine (dat1 V c).arrAt_eq_of_covers 4 _ (by decide +kernel) fun t _ y => ?_
  blk_simp
  rw [after1_4, out1_eq]
  have e := idx1 t
  obtain ⟨b, hb⟩ : ∃ b : Fin 4, b.val = (grid1.coords t 0).val := ⟨⟨_, (grid1.coords t 0).isLt⟩, rfl⟩
  obtain ⟨h, hh⟩ : ∃ h : Fin 8, h.val = (grid1.coords t 1).val := ⟨⟨_, (grid1.coords t 1).isLt⟩, rfl⟩
  rw [← hb, ← hh] at e
  have b0 : ∀ i k, (iblk1 V c 0 t : FVec Ideal S1x640x1024 .f32) (ix3 0 i k) = ((xf b i k : ℝ) : EReal) := fun i k => by
    refine Eq.trans ?_ (h0 b i k)
    blk_ext [iblk1, e]
  have b1 : ∀ k (d : Fin 128), (iblk1 V c 1 t : FVec Ideal S1024x128 .f32) (ix2 k d) = ((Wqk k ⟨128 * h.val + d.val, by omega⟩ : ℝ) : EReal) := fun k d => by
    refine Eq.trans ?_ (h1 k _)
    blk_ext [iblk1, e]
  have b2 : ∀ k (d : Fin 128), (iblk1 V c 2 t : FVec Ideal S1024x128 .f32) (ix2 k d) = ((Wv k ⟨128 * h.val + d.val, by omega⟩ : ℝ) : EReal) := fun k d => by
    refine Eq.trans ?_ (h2 k _)
    blk_ext [iblk1, e]
  have b3 : ∀ d j, (iblk1 V c 3 t : FVec Ideal S128x40 .f32) (ix2 d j) = ((rot d j : ℝ) : EReal) := fun d j => by
    refine Eq.trans ?_ (h3 d j)
    blk_ext [iblk1, e]
  have hy : (y : S1x640x128.Idx) = ix3 0 (y 1) (y 2) := by
    funext a; fin_cases a
    · exact Subsingleton.elim (α := Fin 1) _ _
    · rfl
    · rfl
  obtain ⟨p, hp⟩ : ∃ p : Fin 640, p = y 1 := ⟨_, rfl⟩
  obtain ⟨d, hd⟩ : ∃ d : Fin 128, d = y 2 := ⟨_, rfl⟩
  rw [← hp, ← hd] at hy
  subst hy
  refine (attn_eq scM1_0 scM1_1 scM1_2 scM1_3 scM1_4 scM1_5 _ _ _ (rrot rot (proj Wqk (xf b) h))
    (fun i j => pay5_real _ _ _ (xf b) _ rot b0 b1 b3 i j) (proj Wqk (xf b) h) (proj Wv (xf b) h)
    (fun i d => (pay6_real _ _ _ (xf b) _ _ b0 b1 b2 i d).1) (fun i d => (pay6_real _ _ _ (xf b) _ _ b0 b1 b2 i d).2.1)
    (fun i d => (pay6_real _ _ _ (xf b) _ _ b0 b1 b2 i 0).2.2 d) p d).trans ?_
  refine congrArg (fun z : ℝ => (z : EReal)) ?_
  have E : ((win1_4.blk t).view.emb (ix3 0 p d) : S4x640x1024.Idx) = ix3 b p ⟨128 * h.val + d.val, by omega⟩ := by blk_ext [e]
  refine Eq.trans ?_ (congrArg (fun i : S4x640x1024.Idx => heads Wqk Wv rot (xf (i 0)) (i 1) (i 2)) E.symm)
  have e1 : (⟨(128 * h.val + d.val) / 128, by omega⟩ : Fin 8) = h := Fin.ext (show (128 * h.val + d.val) / 128 = h.val by omega)
  have e2 : (⟨(128 * h.val + d.val) % 128, by omega⟩ : Fin 128) = d := Fin.ext (show (128 * h.val + d.val) % 128 = d.val by omega)
  show _ = head Wqk Wv rot (xf b) ⟨(128 * h.val + d.val) / 128, by omega⟩ p ⟨(128 * h.val + d.val) % 128, by omega⟩
  rw [e1, e2]
  rfl

/-- The projection's block. -/
theorem k2_real (q0 : FVec Ideal S256x1024 .f32) (q1 : FVec Ideal S1024x1024 .f32) (q2 : FVec Ideal S1x1024 .f32)
    (A : Fin 256 → Fin 1024 → ℝ) (W : Fin 1024 → Fin 1024 → ℝ) (bias : Fin 1024 → ℝ)
    (h0 : ∀ t k, q0 (ix2 t k) = ((A t k : ℝ) : EReal)) (h1 : ∀ k n, q1 (ix2 k n) = ((W k n : ℝ) : EReal))
    (h2 : ∀ n, q2 (ix2 0 n) = ((bias n : ℝ) : EReal)) (p : Fin 256) (d : Fin 1024) :
    k2_pay1 (F := Ideal) q0 q1 q2 (ix2 p d) = (((∑ k, A p k * W k d) + bias d : ℝ) : EReal) := by
  have h : k2_pay1 (F := Ideal) q0 q1 q2 (ix2 p d) = (∑ k, q0 (ix2 p k) * q1 (ix2 k d)) + q2 (ix2 0 d) := by
    pointwise [k2_pay1]
  rw [h]
  simp only [h0, h1, h2, sum_mul_coe, ← EReal.coe_add]

theorem idx2 : ∀ t : Fin cfg2.N, win2_0.index t = ![(grid2.coords t 0).val, 0] ∧ win2_1.index t = ![0, 0]
    ∧ win2_2.index t = ![0, 0] ∧ win2_3.index t = ![(grid2.coords t 0).val, 0] :=
  (by decide +kernel : ∀ t : Fin grid2.N, _)

/-- The projection call's array: a product and a bias row. -/
theorem final2 (c : Dev nD) (A : Fin 2560 → Fin 1024 → ℝ) (W : Fin 1024 → Fin 1024 → ℝ) (bias : Fin 1024 → ℝ)
    (h0 : ∀ t k, (V c main_v4 : FVec Ideal S2560x1024 .f32) (ix2 t k) = ((A t k : ℝ) : EReal))
    (h1 : ∀ k n, (V c main_arg3 : FVec Ideal S1024x1024 .f32) (ix2 k n) = ((W k n : ℝ) : EReal))
    (h2 : ∀ n, (V c main_v5 : FVec Ideal S1x1024 .f32) (ix2 0 n) = ((bias n : ℝ) : EReal)) :
    ((dat2 V c).arrAt 3 cfg2.N : FVec Ideal S2560x1024 .f32)
      = fun i => (((∑ k, A (i 0) k * W k (i 1)) + bias (i 1) : ℝ) : EReal) := by
  refine (dat2 V c).arrAt_eq_of_covers 3 _ (by decide +kernel) fun t _ y => ?_
  blk_simp
  rw [after2_3]; frame_out
  have e := idx2 t
  obtain ⟨b, hb⟩ : ∃ b : Fin 10, b.val = (grid2.coords t 0).val := ⟨⟨_, (grid2.coords t 0).isLt⟩, rfl⟩
  rw [← hb] at e
  have b0 : ∀ (i : Fin 256) k, (iblk2 V c 0 t : FVec Ideal S256x1024 .f32) (ix2 i k) = ((A ⟨256 * b.val + i.val, by omega⟩ k : ℝ) : EReal) := fun i k => by
    refine Eq.trans ?_ (h0 _ k)
    blk_ext [iblk2, e]
  have b1 : ∀ k n, (iblk2 V c 1 t : FVec Ideal S1024x1024 .f32) (ix2 k n) = ((W k n : ℝ) : EReal) := fun k d => by
    refine Eq.trans ?_ (h1 k _)
    blk_ext [iblk2, e]
  have b2 : ∀ n, (iblk2 V c 2 t : FVec Ideal S1x1024 .f32) (ix2 0 n) = ((bias n : ℝ) : EReal) := fun k => by
    refine Eq.trans ?_ (h2 k)
    blk_ext [iblk2, e]
  have hy : (y : S256x1024.Idx) = ix2 (y 0) (y 1) := by
    funext a; fin_cases a <;> rfl
  obtain ⟨p, hp⟩ : ∃ p : Fin 256, p = y 0 := ⟨_, rfl⟩
  obtain ⟨d, hd⟩ : ∃ d : Fin 1024, d = y 1 := ⟨_, rfl⟩
  rw [← hp, ← hd] at hy
  subst hy
  have E : ((win2_3.blk t).view.emb (ix2 p d) : S2560x1024.Idx) = ix2 ⟨256 * b.val + p.val, by omega⟩ d := by blk_ext [e]
  refine Eq.trans ?_ (congrArg (fun i : S2560x1024.Idx => (((∑ k, A (i 0) k * W k (i 1)) + bias (i 1) : ℝ) : EReal)) E.symm)
  exact k2_real _ _ _ (fun i k => A ⟨256 * b.val + i.val, by omega⟩ k) W bias b0 b1 b2 p d

end Cert.KernelIdeal.Arr
-- ==== Proof.KernValue.lean ====
module

public import proofs.«01_k».proof.Proof.KernFront
public import proofs.«01_k».proof.Proof.KernArr

@[expose] public section

/-
  The kernel's result at coordinates, from real arguments.
-/

set_option maxRecDepth 16384

noncomputable section

namespace Cert.KernelIdeal.Value
open Idealize.ShloMosaic Idealize.ShloMosaic.TcCoe Idealize.SL.Sem
open Cert.KernelIdeal Cert.KernelIdeal.Gen Cert.Tools Cert.Spec

variable (m : (ℓ : Loc nD τ sig) → Buf (Elt Ideal) ℓ) (ρ : Dev nD → PrngReg)

/-- The result array, from the five real argument arrays and the image. -/
theorem result (c : Dev nD) (X : Fin 4 → Fin 128 → Fin 64 → Fin 64 → ℝ) (Wqk Wv Wout : Fin 1024 → Fin 1024 → ℝ) (bout : Fin 1024 → ℝ)
    (rot : Fin 128 → Fin 8 → Fin 5 → ℝ)
    (h0 : ∀ b k i j, (m ((c : Thread nD τ).loc main_arg0) : FVec Ideal S4x128x64x64 .f32) (ix4 b k i j) = ((X b k i j : ℝ) : EReal))
    (h1 : ∀ k n, (m ((c : Thread nD τ).loc main_arg1) : FVec Ideal S1024x1024 .f32) (ix2 k n) = ((Wqk k n : ℝ) : EReal))
    (h2 : ∀ k n, (m ((c : Thread nD τ).loc main_arg2) : FVec Ideal S1024x1024 .f32) (ix2 k n) = ((Wv k n : ℝ) : EReal))
    (h3 : ∀ k n, (m ((c : Thread nD τ).loc main_arg3) : FVec Ideal S1024x1024 .f32) (ix2 k n) = ((Wout k n : ℝ) : EReal))
    (h4 : ∀ n, (m ((c : Thread nD τ).loc main_arg4) : FVec Ideal S1024 .f32) (ix1 n) = ((bout n : ℝ) : EReal))
    (h5 : ∀ d h k, (m ((c : Thread nD τ).loc main_arg5) : FVec Ideal S128x8x5 .f32) (ix3 d h k) = ((rot d h k : ℝ) : EReal))
    (b : Fin 4) (t : Fin 640) (r l : Fin 32) :
    (W6 m ρ c (Proc.devRef .tc main_v7) : FVec Ideal S4x640x32x32 .f32) (ix4 b t r l)
      = ((outp Wqk Wv Wout bout (fun d j => rot d ⟨j.val / 5, by omega⟩ ⟨j.val % 5, by omega⟩) (tokens (X b)) t ⟨r.val * 32 + l.val, by omega⟩ : ℝ) : EReal) := by
  have e0 := (W1_arr m ρ c 1).trans (Front.final0 (V0 m ρ) c X h0)
  have e1 : ∀ b t k, (V2 m ρ c main_v1 : FVec Ideal S4x640x1024 .f32) (ix3 b t k) = ((tokens (X b) t k : ℝ) : EReal) := by
    intro b t k
    refine (congrFun (v1_eq m ρ c) _).trans ?_
    have e0' : (W1 m ρ c (Proc.devRef .tc main_v0) : FVec Ideal S4x640x32x32 .f32) = fun i => ((front (X (i 0)) (i 1) (i 2) (i 3) : ℝ) : EReal) := e0
    rw [e0']
    pointwise
    rfl
  have e2 : ∀ d j, (V2 m ρ c main_v2 : FVec Ideal S128x40 .f32) (ix2 d j) = ((rot d ⟨j.val / 5, by omega⟩ ⟨j.val % 5, by omega⟩ : ℝ) : EReal) := by
    intro d j
    refine (congrFun (v2_eq m ρ c) _).trans ?_
    refine Eq.trans ?_ (h5 _ _ _)
    pointwise
  have e3 : (W3 m ρ c (Proc.devRef .tc main_v3) : FVec Ideal S4x640x1024 .f32) = _ :=
    (W3_arr m ρ c 4).trans (Arr.final1 (V2 m ρ) c (fun b => tokens (X b)) Wqk Wv _ e1
      (fun k n => (congrFun (W2_args m ρ c main_arg1 (by decide)) _).trans (h1 k n)) (fun k n => (congrFun (W2_args m ρ c main_arg2 (by decide)) _).trans (h2 k n)) e2)
  have e4 : ∀ t k, (V4 m ρ c main_v4 : FVec Ideal S2560x1024 .f32) (ix2 t k)
      = ((heads Wqk Wv (fun d j => rot d ⟨j.val / 5, by omega⟩ ⟨j.val % 5, by omega⟩) (tokens (X ⟨t.val / 640, by omega⟩)) ⟨t.val % 640, by omega⟩ k : ℝ) : EReal) := by
    intro t k
    refine (congrFun (v4_eq m ρ c) _).trans ?_
    rw [e3]
    pointwise
  have e5 : ∀ n, (V4 m ρ c main_v5 : FVec Ideal S1x1024 .f32) (ix2 0 n) = ((bout n : ℝ) : EReal) := by
    intro n
    refine (congrFun (v5_eq m ρ c) _).trans ?_
    refine Eq.trans ?_ (h4 _)
    pointwise
  have e6 : (W5 m ρ c (Proc.devRef .tc main_v6) : FVec Ideal S2560x1024 .f32) = _ :=
    (W5_arr m ρ c 3).trans (Arr.final2 (V4 m ρ) c _ Wout bout e4
      (fun k n => (congrFun (W4_args m ρ c main_arg3 (by decide)) _).trans (h3 k n)) e5)
  refine (congrFun (v7_eq m ρ c) _).trans ?_
  rw [e6]
  pointwise
  have d1 : (⟨(b.val * 640 + t.val) / 640, by omega⟩ : Fin 4) = b := Fin.ext (show (b.val * 640 + t.val) / 640 = b.val by omega)
  have d2 : (⟨(b.val * 640 + t.val) % 640, by omega⟩ : Fin 640) = t := Fin.ext (show (b.val * 640 + t.val) % 640 = t.val by omega)
  rw [d1, d2]
  rfl

end Cert.KernelIdeal.Value
-- ==== Proof.RefInts.lean ====
module

public import proofs.«01_k».proof.Proof.Tools

@[expose] public section

/-! The reference's integer arithmetic on small natural numbers. -/

open Idealize.ShloMosaic Idealize.ShloMosaic.TcCoe Cert.Tools

namespace Cert.ReferenceIdeal.Sem

theorem srem_nat (a b : ℕ) (ha : a < 2 ^ 31) (hb : b < 2 ^ 31) : (BitVec.ofNat 32 a).srem (BitVec.ofNat 32 b) = BitVec.ofNat 32 (a % b) := by
  have m : ∀ c : ℕ, c < 2 ^ 31 → (BitVec.ofNat 32 c).msb = false := fun c hc => by
    rw [BitVec.msb_eq_decide, BitVec.toNat_ofNat]
    exact decide_eq_false (by omega)
  rw [BitVec.srem_eq, m a ha, m b hb]
  apply BitVec.eq_of_toNat_eq
  simp only [BitVec.toNat_umod, BitVec.toNat_ofNat]
  have hm : a % b ≤ a := Nat.mod_le a b
  rw [Nat.mod_eq_of_lt (show a < 2 ^ 32 by omega), Nat.mod_eq_of_lt (show b < 2 ^ 32 by omega), Nat.mod_eq_of_lt (show a % b < 2 ^ 32 by omega)]

/-- The host's floor remainder by 640, of a small natural number. -/
theorem mod_640 (a : ℕ) (ha : a < 2 ^ 31) :
    Scalar.select
      (IntOp.andi
        (IntOp.cmpi CmpIPredicate.ne
          (IntOp.cmpi CmpIPredicate.slt (IntOp.remsi ArithUnit.host (BitVec.ofNat 32 a) 640#32) 0#32)
          (IntOp.cmpi CmpIPredicate.slt 640#32 0#32))
        (IntOp.cmpi CmpIPredicate.ne (IntOp.remsi ArithUnit.host (BitVec.ofNat 32 a) 640#32) 0#32))
      (IntOp.addi (IntOp.remsi ArithUnit.host (BitVec.ofNat 32 a) 640#32) 640#32)
      (IntOp.remsi ArithUnit.host (BitVec.ofNat 32 a) 640#32) = BitVec.ofNat 32 (a % 640) := by
  have h1 : IntOp.remsi ArithUnit.host (BitVec.ofNat 32 a) 640#32 = BitVec.ofNat 32 (a % 640) := by
    unfold IntOp.remsi
    rw [if_neg (fun h => h.elim (fun h => absurd h (by decide)) fun h => absurd h.2 (by decide))]
    exact srem_nat a 640 ha (by decide)
  have h2 : IntOp.cmpi CmpIPredicate.slt (BitVec.ofNat 32 (a % 640)) 0#32 = 0#1 := by
    have : (BitVec.ofNat 32 (a % 640)).slt 0#32 = false := by
      rw [BitVec.slt_eq_decide, toInt_nat (n := a % 640) (by omega)]
      exact decide_eq_false (show ¬ ((a % 640 : ℕ) : ℤ) < 0 by omega)
    unfold IntOp.cmpi
    simp [this]
  have h3 : IntOp.cmpi CmpIPredicate.slt 640#32 0#32 = 0#1 := by decide
  rw [h1, h2, h3]
  have h4 : IntOp.cmpi CmpIPredicate.ne 0#1 0#1 = 0#1 := by decide
  rw [h4]
  have h5 : ∀ x : BitVec 1, IntOp.andi 0#1 x = 0#1 := by decide
  rw [h5]
  exact if_neg (by decide)

/-- Indexing's fix for negative indices leaves a small natural number alone. -/
theorem fix_neg (a : ℕ) (b : BitVec 32) (ha : a < 2 ^ 31) :
    Scalar.select (IntOp.cmpi CmpIPredicate.slt (BitVec.ofNat 32 a) 0#32) (IntOp.addi (BitVec.ofNat 32 a) b) (BitVec.ofNat 32 a) = BitVec.ofNat 32 a := by
  have : (BitVec.ofNat 32 a).slt 0#32 = false := by
    rw [BitVec.slt_eq_decide, toInt_nat (n := a) ha]
    exact decide_eq_false (show ¬ ((a : ℕ) : ℤ) < 0 by omega)
  unfold IntOp.cmpi Scalar.select
  simp [this]

end Cert.ReferenceIdeal.Sem
-- ==== Proof.RefOps.lean ====
/- The reference's host operations as a list, in the order the program runs them, and the facts the run
   theorem for a straight line of host operations asks of that list. -/
module

public import proofs.«01_k».proof.Proof.Gen.ReferenceIdeal
public import Idealize.ShloMosaic.Lib.StableHlo.Run
public import Idealize.ShloMosaic.Lib.Pipeline.Frame

@[expose] public section

set_option Elab.async false

noncomputable section

namespace Cert.ReferenceIdeal.RV

open Cert.ReferenceIdeal Cert.ReferenceIdeal.Gen Idealize.ShloMosaic Idealize.ShloMosaic.TcCoe Idealize.SL.Sem Idealize.ShloMosaic.StableHlo

variable {F : FTy → Type} [FloatOps F]

/-- The function of the operation that writes `main_v26`, named. It packs its operands into a list of dependent pairs
    whose shapes a later argument's type mentions, so `simp` cannot rewrite an operand where it stands; applied by
    name, the operands are plain arguments, which the window lemmas below rewrite before the name unfolds. -/
def fn_main_v26 : (main_v10 : Ref sig .tc).ty.Contents (Elt F) → (main_v15 : Ref sig .tc).ty.Contents (Elt F) → (main_v20 : Ref sig .tc).ty.Contents (Elt F) → (main_v25 : Ref sig .tc).ty.Contents (Elt F) → (main_v26 : Ref sig .tc).ty.Contents (Elt F) :=
  (fun u0 u1 u2 u3 => (concatenate S4x512x32x32 1 [⟨S4x128x32x32, (u0 : (⟨S4x128x32x32, .f32⟩ : BufTy).Contents (Elt F))⟩, ⟨S4x128x32x32, (u1 : (⟨S4x128x32x32, .f32⟩ : BufTy).Contents (Elt F))⟩, ⟨S4x128x32x32, (u2 : (⟨S4x128x32x32, .f32⟩ : BufTy).Contents (Elt F))⟩, ⟨S4x128x32x32, (u3 : (⟨S4x128x32x32, .f32⟩ : BufTy).Contents (Elt F))⟩] concatenates_S4x128x32x32_S4x128x32x32_S4x128x32x32_S4x128x32x32_S4x512x32x32_d1 : (⟨S4x512x32x32, .f32⟩ : BufTy).Contents (Elt F)))

/-- The function of the operation that writes `main_v27`, named. It packs its operands into a list of dependent pairs
    whose shapes a later argument's type mentions, so `simp` cannot rewrite an operand where it stands; applied by
    name, the operands are plain arguments, which the window lemmas below rewrite before the name unfolds. -/
def fn_main_v27 : (⟨S4x128x32x32, .f32⟩ : BufTy).Contents (Elt F) → (⟨S4x512x32x32, .f32⟩ : BufTy).Contents (Elt F) → (⟨S4x640x32x32, .f32⟩ : BufTy).Contents (Elt F) :=
  (fun a b => concatenate S4x640x32x32 1 [⟨S4x128x32x32, a⟩, ⟨S4x512x32x32, b⟩] concatenates_S4x128x32x32_S4x512x32x32_S4x640x32x32_d1)

/-- The function of the operation that writes `main_v40`, named. It packs its operands into a list of dependent pairs
    whose shapes a later argument's type mentions, so `simp` cannot rewrite an operand where it stands; applied by
    name, the operands are plain arguments, which the window lemmas below rewrite before the name unfolds. -/
def fn_main_v40 : (⟨S32x8x640x5, .f32⟩ : BufTy).Contents (Elt F) → (⟨S32x8x640x5, .f32⟩ : BufTy).Contents (Elt F) → (⟨S32x8x640x10, .f32⟩ : BufTy).Contents (Elt F) :=
  (fun a b => concatenate S32x8x640x10 3 [⟨S32x8x640x5, a⟩, ⟨S32x8x640x5, b⟩] concatenates_S32x8x640x5_S32x8x640x5_S32x8x640x10_d3)

/-- The function of the operation that writes `main_v81`, named. It packs its operands into a list of dependent pairs
    whose shapes a later argument's type mentions, so `simp` cannot rewrite an operand where it stands; applied by
    name, the operands are plain arguments, which the window lemmas below rewrite before the name unfolds. -/
def fn_main_v81 : (main_call5_v0 : Ref sig .tc).ty.Contents (Elt F) → (main_call5_v1 : Ref sig .tc).ty.Contents (Elt F) → (main_v81 : Ref sig .tc).ty.Contents (Elt F) :=
  (fun a b => concatenate S32x80x64x128 1 [⟨S32x1x64x128, a⟩, ⟨S32x79x64x128, b⟩] concatenates_S32x1x64x128_S32x79x64x128_S32x80x64x128_d1)

/-- The function of the operation that writes `main_v82`, named. It packs its operands into a list of dependent pairs
    whose shapes a later argument's type mentions, so `simp` cannot rewrite an operand where it stands; applied by
    name, the operands are plain arguments, which the window lemmas below rewrite before the name unfolds. -/
def fn_main_v82 : (⟨S32x80x64x128, .f32⟩ : BufTy).Contents (Elt F) → (⟨S32x80x64x128, .f32⟩ : BufTy).Contents (Elt F) → (⟨S32x80x128x128, .f32⟩ : BufTy).Contents (Elt F) :=
  (fun a b => concatenate S32x80x128x128 2 [⟨S32x80x64x128, a⟩, ⟨S32x80x64x128, b⟩] concatenates_S32x80x64x128_S32x80x64x128_S32x80x128x128_d2)

/-- The function of the operation that writes `main_v83`, named. It packs its operands into a list of dependent pairs
    whose shapes a later argument's type mentions, so `simp` cannot rewrite an operand where it stands; applied by
    name, the operands are plain arguments, which the window lemmas below rewrite before the name unfolds. -/
def fn_main_v83 : (main_call6_v0 : Ref sig .tc).ty.Contents (Elt F) → (main_call6_v1 : Ref sig .tc).ty.Contents (Elt F) → (main_v83 : Ref sig .tc).ty.Contents (Elt F) :=
  (fun a b => concatenate S32x80x64x128 1 [⟨S32x1x64x128, a⟩, ⟨S32x79x64x128, b⟩] concatenates_S32x1x64x128_S32x79x64x128_S32x80x64x128_d1)

/-- The function of the operation that writes `main_v84`, named. It packs its operands into a list of dependent pairs
    whose shapes a later argument's type mentions, so `simp` cannot rewrite an operand where it stands; applied by
    name, the operands are plain arguments, which the window lemmas below rewrite before the name unfolds. -/
def fn_main_v84 : (⟨S32x80x64x128, .f32⟩ : BufTy).Contents (Elt F) → (⟨S32x80x64x128, .f32⟩ : BufTy).Contents (Elt F) → (⟨S32x80x128x128, .f32⟩ : BufTy).Contents (Elt F) :=
  (fun a b => concatenate S32x80x128x128 2 [⟨S32x80x64x128, a⟩, ⟨S32x80x64x128, b⟩] concatenates_S32x80x64x128_S32x80x64x128_S32x80x128x128_d2)

/-- The function of the operation that writes `main_v85`, named. It packs its operands into a list of dependent pairs
    whose shapes a later argument's type mentions, so `simp` cannot rewrite an operand where it stands; applied by
    name, the operands are plain arguments, which the window lemmas below rewrite before the name unfolds. -/
def fn_main_v85 : (main_call7_v0 : Ref sig .tc).ty.Contents (Elt F) → (main_call7_v1 : Ref sig .tc).ty.Contents (Elt F) → (main_v85 : Ref sig .tc).ty.Contents (Elt F) :=
  (fun a b => concatenate S32x80x64 1 [⟨S32x1x64, a⟩, ⟨S32x79x64, b⟩] concatenates_S32x1x64_S32x79x64_S32x80x64_d1)

/-- The function of the operation that writes `main_v86`, named. It packs its operands into a list of dependent pairs
    whose shapes a later argument's type mentions, so `simp` cannot rewrite an operand where it stands; applied by
    name, the operands are plain arguments, which the window lemmas below rewrite before the name unfolds. -/
def fn_main_v86 : (⟨S32x80x64, .i32⟩ : BufTy).Contents (Elt F) → (⟨S32x80x64, .i32⟩ : BufTy).Contents (Elt F) → (⟨S32x80x128, .i32⟩ : BufTy).Contents (Elt F) :=
  (fun a b => concatenate S32x80x128 2 [⟨S32x80x64, a⟩, ⟨S32x80x64, b⟩] concatenates_S32x80x64_S32x80x64_S32x80x128_d2)

/-- @main's operations 1 … 60 of 233 (window `main_part0`). -/
abbrev ops_part0 : List (HloOp τ sig (Elt F)) :=
  [ nullary main_cst (constant S_ .f32 0xFF800000#32),
    unary main_cst main_v0 (broadcastInDim S_ ![] bcast_S_S_ : (⟨S_, .f32⟩ : BufTy).Contents (Elt F) → (⟨S_, .f32⟩ : BufTy).Contents (Elt F)),
    binary main_arg0 main_v0 main_v1 ((fun x v => Host.reduceWindow FloatOps.maximumf ![1, 1, 3, 3] ![1, 1, 2, 2] ![0, 0, 1, 1] ![0, 0, 1, 1] x v reduceWindows_S4x128x64x64_S4x128x32x32_w1s1p0_0_w1s1p0_0_w3s2p1_1_w3s2p1_1 h_S_) : (⟨S4x128x64x64, .f32⟩ : BufTy).Contents (Elt F) → (⟨S_, .f32⟩ : BufTy).Contents (Elt F) → (⟨S4x128x32x32, .f32⟩ : BufTy).Contents (Elt F)),
    unary main_arg0 main_v2 ((Host.slice S4x128x32x32 ![0, 0, 0, 0] ![1, 1, 2, 2] · slicesBy_S4x128x64x64_S4x128x32x32_0s1_0s1_0s2_0s2) : (⟨S4x128x64x64, .f32⟩ : BufTy).Contents (Elt F) → (⟨S4x128x32x32, .f32⟩ : BufTy).Contents (Elt F)),
    unary main_arg0 main_v3 ((Host.slice S4x128x32x32 ![0, 0, 0, 1] ![1, 1, 2, 2] · slicesBy_S4x128x64x64_S4x128x32x32_0s1_0s1_0s2_1s2) : (⟨S4x128x64x64, .f32⟩ : BufTy).Contents (Elt F) → (⟨S4x128x32x32, .f32⟩ : BufTy).Contents (Elt F)),
    unary main_arg0 main_v4 ((Host.slice S4x128x32x32 ![0, 0, 1, 0] ![1, 1, 2, 2] · slicesBy_S4x128x64x64_S4x128x32x32_0s1_0s1_1s2_0s2) : (⟨S4x128x64x64, .f32⟩ : BufTy).Contents (Elt F) → (⟨S4x128x32x32, .f32⟩ : BufTy).Contents (Elt F)),
    unary main_arg0 main_v5 ((Host.slice S4x128x32x32 ![0, 0, 1, 1] ![1, 1, 2, 2] · slicesBy_S4x128x64x64_S4x128x32x32_0s1_0s1_1s2_1s2) : (⟨S4x128x64x64, .f32⟩ : BufTy).Contents (Elt F) → (⟨S4x128x32x32, .f32⟩ : BufTy).Contents (Elt F)),
    binary main_v2 main_v3 main_v6 (addf : (⟨S4x128x32x32, .f32⟩ : BufTy).Contents (Elt F) → (⟨S4x128x32x32, .f32⟩ : BufTy).Contents (Elt F) → (⟨S4x128x32x32, .f32⟩ : BufTy).Contents (Elt F)),
    binary main_v6 main_v4 main_v7 (addf : (⟨S4x128x32x32, .f32⟩ : BufTy).Contents (Elt F) → (⟨S4x128x32x32, .f32⟩ : BufTy).Contents (Elt F) → (⟨S4x128x32x32, .f32⟩ : BufTy).Contents (Elt F)),
    binary main_v7 main_v5 main_v8 (addf : (⟨S4x128x32x32, .f32⟩ : BufTy).Contents (Elt F) → (⟨S4x128x32x32, .f32⟩ : BufTy).Contents (Elt F) → (⟨S4x128x32x32, .f32⟩ : BufTy).Contents (Elt F)),
    nullary main_cst_0 (constant S_ .f32 0x3F000000#32),
    unary main_cst_0 main_v9 (broadcastInDim S4x128x32x32 ![] bcast_S_S4x128x32x32 : (⟨S_, .f32⟩ : BufTy).Contents (Elt F) → (⟨S4x128x32x32, .f32⟩ : BufTy).Contents (Elt F)),
    binary main_v8 main_v9 main_v10 (mulf : (⟨S4x128x32x32, .f32⟩ : BufTy).Contents (Elt F) → (⟨S4x128x32x32, .f32⟩ : BufTy).Contents (Elt F) → (⟨S4x128x32x32, .f32⟩ : BufTy).Contents (Elt F)),
    binary main_v4 main_v5 main_v11 (addf : (⟨S4x128x32x32, .f32⟩ : BufTy).Contents (Elt F) → (⟨S4x128x32x32, .f32⟩ : BufTy).Contents (Elt F) → (⟨S4x128x32x32, .f32⟩ : BufTy).Contents (Elt F)),
    binary main_v11 main_v2 main_v12 (subf : (⟨S4x128x32x32, .f32⟩ : BufTy).Contents (Elt F) → (⟨S4x128x32x32, .f32⟩ : BufTy).Contents (Elt F) → (⟨S4x128x32x32, .f32⟩ : BufTy).Contents (Elt F)),
    binary main_v12 main_v3 main_v13 (subf : (⟨S4x128x32x32, .f32⟩ : BufTy).Contents (Elt F) → (⟨S4x128x32x32, .f32⟩ : BufTy).Contents (Elt F) → (⟨S4x128x32x32, .f32⟩ : BufTy).Contents (Elt F)),
    nullary main_cst_1 (constant S_ .f32 0x3F000000#32),
    unary main_cst_1 main_v14 (broadcastInDim S4x128x32x32 ![] bcast_S_S4x128x32x32 : (⟨S_, .f32⟩ : BufTy).Contents (Elt F) → (⟨S4x128x32x32, .f32⟩ : BufTy).Contents (Elt F)),
    binary main_v13 main_v14 main_v15 (mulf : (⟨S4x128x32x32, .f32⟩ : BufTy).Contents (Elt F) → (⟨S4x128x32x32, .f32⟩ : BufTy).Contents (Elt F) → (⟨S4x128x32x32, .f32⟩ : BufTy).Contents (Elt F)),
    binary main_v3 main_v5 main_v16 (addf : (⟨S4x128x32x32, .f32⟩ : BufTy).Contents (Elt F) → (⟨S4x128x32x32, .f32⟩ : BufTy).Contents (Elt F) → (⟨S4x128x32x32, .f32⟩ : BufTy).Contents (Elt F)),
    binary main_v16 main_v2 main_v17 (subf : (⟨S4x128x32x32, .f32⟩ : BufTy).Contents (Elt F) → (⟨S4x128x32x32, .f32⟩ : BufTy).Contents (Elt F) → (⟨S4x128x32x32, .f32⟩ : BufTy).Contents (Elt F)),
    binary main_v17 main_v4 main_v18 (subf : (⟨S4x128x32x32, .f32⟩ : BufTy).Contents (Elt F) → (⟨S4x128x32x32, .f32⟩ : BufTy).Contents (Elt F) → (⟨S4x128x32x32, .f32⟩ : BufTy).Contents (Elt F)),
    nullary main_cst_2 (constant S_ .f32 0x3F000000#32),
    unary main_cst_2 main_v19 (broadcastInDim S4x128x32x32 ![] bcast_S_S4x128x32x32 : (⟨S_, .f32⟩ : BufTy).Contents (Elt F) → (⟨S4x128x32x32, .f32⟩ : BufTy).Contents (Elt F)),
    binary main_v18 main_v19 main_v20 (mulf : (⟨S4x128x32x32, .f32⟩ : BufTy).Contents (Elt F) → (⟨S4x128x32x32, .f32⟩ : BufTy).Contents (Elt F) → (⟨S4x128x32x32, .f32⟩ : BufTy).Contents (Elt F)),
    binary main_v2 main_v3 main_v21 (subf : (⟨S4x128x32x32, .f32⟩ : BufTy).Contents (Elt F) → (⟨S4x128x32x32, .f32⟩ : BufTy).Contents (Elt F) → (⟨S4x128x32x32, .f32⟩ : BufTy).Contents (Elt F)),
    binary main_v21 main_v4 main_v22 (subf : (⟨S4x128x32x32, .f32⟩ : BufTy).Contents (Elt F) → (⟨S4x128x32x32, .f32⟩ : BufTy).Contents (Elt F) → (⟨S4x128x32x32, .f32⟩ : BufTy).Contents (Elt F)),
    binary main_v22 main_v5 main_v23 (addf : (⟨S4x128x32x32, .f32⟩ : BufTy).Contents (Elt F) → (⟨S4x128x32x32, .f32⟩ : BufTy).Contents (Elt F) → (⟨S4x128x32x32, .f32⟩ : BufTy).Contents (Elt F)),
    nullary main_cst_3 (constant S_ .f32 0x3F000000#32),
    unary main_cst_3 main_v24 (broadcastInDim S4x128x32x32 ![] bcast_S_S4x128x32x32 : (⟨S_, .f32⟩ : BufTy).Contents (Elt F) → (⟨S4x128x32x32, .f32⟩ : BufTy).Contents (Elt F)),
    binary main_v23 main_v24 main_v25 (mulf : (⟨S4x128x32x32, .f32⟩ : BufTy).Contents (Elt F) → (⟨S4x128x32x32, .f32⟩ : BufTy).Contents (Elt F) → (⟨S4x128x32x32, .f32⟩ : BufTy).Contents (Elt F)),
    nary ![main_v10, main_v15, main_v20, main_v25] main_v26 (fun u => fn_main_v26 (F := F) (u 0) (u 1) (u 2) (u 3)),
    binary main_v1 main_v26 main_v27 (fn_main_v27 (F := F)),
    reshape main_v27 main_v28 (rfl : (.f32 : EltTy) = .f32) shapeCasts_S4x640x32x32_S4x640x1024,
    binary main_v28 main_arg1 main_v29 ((fun l r => Host.dotGeneral dot_S4x640x1024_S1024x1024_S4x640x1024_2_0_01_1_n_n none l r) : (⟨S4x640x1024, .f32⟩ : BufTy).Contents (Elt F) → (⟨S1024x1024, .f32⟩ : BufTy).Contents (Elt F) → (⟨S4x640x1024, .f32⟩ : BufTy).Contents (Elt F)),
    binary main_v28 main_arg2 main_v30 ((fun l r => Host.dotGeneral dot_S4x640x1024_S1024x1024_S4x640x1024_2_0_01_1_n_n none l r) : (⟨S4x640x1024, .f32⟩ : BufTy).Contents (Elt F) → (⟨S1024x1024, .f32⟩ : BufTy).Contents (Elt F) → (⟨S4x640x1024, .f32⟩ : BufTy).Contents (Elt F)),
    reshape main_v29 main_v31 (rfl : (.f32 : EltTy) = .f32) shapeCasts_S4x640x1024_S4x640x8x128,
    unary main_v31 main_v32 ((transpose S4x8x640x128 [0, 2, 1, 3] · transposes_S4x640x8x128_S4x8x640x128_0_2_1_3) : (⟨S4x640x8x128, .f32⟩ : BufTy).Contents (Elt F) → (⟨S4x8x640x128, .f32⟩ : BufTy).Contents (Elt F)),
    reshape main_v32 main_v33 (rfl : (.f32 : EltTy) = .f32) shapeCasts_S4x8x640x128_S32x640x128,
    reshape main_v30 main_v34 (rfl : (.f32 : EltTy) = .f32) shapeCasts_S4x640x1024_S4x640x8x128,
    unary main_v34 main_v35 ((transpose S4x8x640x128 [0, 2, 1, 3] · transposes_S4x640x8x128_S4x8x640x128_0_2_1_3) : (⟨S4x640x8x128, .f32⟩ : BufTy).Contents (Elt F) → (⟨S4x8x640x128, .f32⟩ : BufTy).Contents (Elt F)),
    reshape main_v35 main_v36 (rfl : (.f32 : EltTy) = .f32) shapeCasts_S4x8x640x128_S32x640x128,
    binary main_arg5 main_v33 main_v37 ((fun l r => Host.dotGeneral dot_S128x8x5_S32x640x128_S8x5x32x640_0_2_12_01_n_n none l r) : (⟨S128x8x5, .f32⟩ : BufTy).Contents (Elt F) → (⟨S32x640x128, .f32⟩ : BufTy).Contents (Elt F) → (⟨S8x5x32x640, .f32⟩ : BufTy).Contents (Elt F)),
    unary main_v37 main_v38 ((transpose S32x8x640x5 [2, 0, 3, 1] · transposes_S8x5x32x640_S32x8x640x5_2_0_3_1) : (⟨S8x5x32x640, .f32⟩ : BufTy).Contents (Elt F) → (⟨S32x8x640x5, .f32⟩ : BufTy).Contents (Elt F)),
    unary main_v38 main_v39 (Host.negf : (⟨S32x8x640x5, .f32⟩ : BufTy).Contents (Elt F) → (⟨S32x8x640x5, .f32⟩ : BufTy).Contents (Elt F)),
    binary main_v38 main_v39 main_v40 (fn_main_v40 (F := F)),
    unary main_v40 main_values ((fun x => (Host.topK S32x8x640x1 3 (FloatOps.cmpfTotal .gt) x sliceFits_S32x8x640x10_S32x8x640x1).1) : (⟨S32x8x640x10, .f32⟩ : BufTy).Contents (Elt F) → (⟨S32x8x640x1, .f32⟩ : BufTy).Contents (Elt F)),
    unary main_v40 main_indices ((fun x => (Host.topK S32x8x640x1 3 (FloatOps.cmpfTotal .gt) x sliceFits_S32x8x640x10_S32x8x640x1).2) : (⟨S32x8x640x10, .f32⟩ : BufTy).Contents (Elt F) → (⟨S32x8x640x1, .i32⟩ : BufTy).Contents (Elt F)),
    reshape main_indices main_v41 (rfl : (.i32 : EltTy) = .i32) shapeCasts_S32x8x640x1_S32x8x640,
    nullary main_v42 (iotaInDim S8 32 0),
    nullary main_c (constantI S_ 32 10#32),
    unary main_c main_v43 (broadcastInDim S8 ![] bcast_S_S8 : (⟨S_, .i32⟩ : BufTy).Contents (Elt F) → (⟨S8, .i32⟩ : BufTy).Contents (Elt F)),
    binary main_v42 main_v43 main_v44 (muli : (⟨S8, .i32⟩ : BufTy).Contents (Elt F) → (⟨S8, .i32⟩ : BufTy).Contents (Elt F) → (⟨S8, .i32⟩ : BufTy).Contents (Elt F)),
    unary main_v44 main_v45 (broadcastInDim S1x8x1 ![1] bcast_S8_S1x8x1_1 : (⟨S8, .i32⟩ : BufTy).Contents (Elt F) → (⟨S1x8x1, .i32⟩ : BufTy).Contents (Elt F)),
    unary main_v45 main_v46 (broadcastInDim S32x8x640 ![0, 1, 2] bcast_S1x8x1_S32x8x640_0_1_2 : (⟨S1x8x1, .i32⟩ : BufTy).Contents (Elt F) → (⟨S32x8x640, .i32⟩ : BufTy).Contents (Elt F)),
    binary main_v41 main_v46 main_v47 (addi : (⟨S32x8x640, .i32⟩ : BufTy).Contents (Elt F) → (⟨S32x8x640, .i32⟩ : BufTy).Contents (Elt F) → (⟨S32x8x640, .i32⟩ : BufTy).Contents (Elt F)),
    reshape main_v47 main_v48 (rfl : (.i32 : EltTy) = .i32) shapeCasts_S32x8x640_S32x5120,
    nullary main_v49 (iotaInDim S5120 32 0),
    unary main_v49 main_v50 (broadcastInDim S1x5120 ![1] bcast_S5120_S1x5120_1 : (⟨S5120, .i32⟩ : BufTy).Contents (Elt F) → (⟨S1x5120, .i32⟩ : BufTy).Contents (Elt F)),
    nullary main_c_4 (constantI S_ 32 640#32) ]

/-- @main's operations 61 … 90 of 233 (window `main_part1`). -/
abbrev ops_part1_0 : List (HloOp τ sig (Elt F)) :=
  [ TRef.unary (TRef.of (T := ⟨S_, .i32⟩) main_c_4) (TRef.of (T := ⟨S_, .i32⟩) main_call0_v0) id,
    TRef.nullary (TRef.of (T := ⟨S_, .i32⟩) main_call0_c) (constantI S_ 32 0#32),
    TRef.binary (TRef.of (T := ⟨S_, .i32⟩) main_call0_v0) (TRef.of (T := ⟨S_, .i32⟩) main_call0_c) (TRef.of (T := ⟨S_, .i1⟩) main_call0_v1) (cmpi .eq),
    TRef.nullary (TRef.of (T := ⟨S_, .i32⟩) main_call0_c_0) (constantI S_ 32 1#32),
    TRef.ternary (TRef.of (T := ⟨S_, .i1⟩) main_call0_v1) (TRef.of (T := ⟨S_, .i32⟩) main_call0_c_0) (TRef.of (T := ⟨S_, .i32⟩) main_call0_v0) (TRef.of (T := ⟨S_, .i32⟩) main_call0_v2) select,
    TRef.unary (TRef.of (T := ⟨S_, .i32⟩) main_call0_v2) (TRef.of (T := ⟨S1x5120, .i32⟩) main_call0_v3) (broadcastInDim S1x5120 ![] bcast_S_S1x5120),
    TRef.binary (TRef.of (T := ⟨S1x5120, .i32⟩) main_v50) (TRef.of (T := ⟨S1x5120, .i32⟩) main_call0_v3) (TRef.of (T := ⟨S1x5120, .i32⟩) main_call0_v4) Host.remsi,
    TRef.nullary (TRef.of (T := ⟨S_, .i32⟩) main_call0_c_1) (constantI S_ 32 0#32),
    TRef.unary (TRef.of (T := ⟨S_, .i32⟩) main_call0_c_1) (TRef.of (T := ⟨S1x5120, .i32⟩) main_call0_v5) (broadcastInDim S1x5120 ![] bcast_S_S1x5120),
    TRef.binary (TRef.of (T := ⟨S1x5120, .i32⟩) main_call0_v4) (TRef.of (T := ⟨S1x5120, .i32⟩) main_call0_v5) (TRef.of (T := ⟨S1x5120, .i1⟩) main_call0_v6) (cmpi .ne),
    TRef.nullary (TRef.of (T := ⟨S_, .i32⟩) main_call0_c_2) (constantI S_ 32 0#32),
    TRef.unary (TRef.of (T := ⟨S_, .i32⟩) main_call0_c_2) (TRef.of (T := ⟨S1x5120, .i32⟩) main_call0_v7) (broadcastInDim S1x5120 ![] bcast_S_S1x5120),
    TRef.binary (TRef.of (T := ⟨S1x5120, .i32⟩) main_call0_v4) (TRef.of (T := ⟨S1x5120, .i32⟩) main_call0_v7) (TRef.of (T := ⟨S1x5120, .i1⟩) main_call0_v8) (cmpi .slt),
    TRef.nullary (TRef.of (T := ⟨S_, .i32⟩) main_call0_c_3) (constantI S_ 32 0#32),
    TRef.binary (TRef.of (T := ⟨S_, .i32⟩) main_call0_v2) (TRef.of (T := ⟨S_, .i32⟩) main_call0_c_3) (TRef.of (T := ⟨S_, .i1⟩) main_call0_v9) (cmpi .slt),
    TRef.unary (TRef.of (T := ⟨S_, .i1⟩) main_call0_v9) (TRef.of (T := ⟨S1x5120, .i1⟩) main_call0_v10) (broadcastInDim S1x5120 ![] bcast_S_S1x5120),
    TRef.binary (TRef.of (T := ⟨S1x5120, .i1⟩) main_call0_v8) (TRef.of (T := ⟨S1x5120, .i1⟩) main_call0_v10) (TRef.of (T := ⟨S1x5120, .i1⟩) main_call0_v11) (cmpi .ne),
    TRef.binary (TRef.of (T := ⟨S1x5120, .i1⟩) main_call0_v11) (TRef.of (T := ⟨S1x5120, .i1⟩) main_call0_v6) (TRef.of (T := ⟨S1x5120, .i1⟩) main_call0_v12) andi,
    TRef.unary (TRef.of (T := ⟨S_, .i32⟩) main_call0_v2) (TRef.of (T := ⟨S1x5120, .i32⟩) main_call0_v13) (broadcastInDim S1x5120 ![] bcast_S_S1x5120),
    TRef.binary (TRef.of (T := ⟨S1x5120, .i32⟩) main_call0_v4) (TRef.of (T := ⟨S1x5120, .i32⟩) main_call0_v13) (TRef.of (T := ⟨S1x5120, .i32⟩) main_call0_v14) addi,
    TRef.ternary (TRef.of (T := ⟨S1x5120, .i1⟩) main_call0_v12) (TRef.of (T := ⟨S1x5120, .i32⟩) main_call0_v14) (TRef.of (T := ⟨S1x5120, .i32⟩) main_call0_v4) (TRef.of (T := ⟨S1x5120, .i32⟩) main_v51) select,
    nullary main_c_5 (constantI S_ 32 640#32),
    unary main_c_5 main_v52 (broadcastInDim S32x5120 ![] bcast_S_S32x5120 : (⟨S_, .i32⟩ : BufTy).Contents (Elt F) → (⟨S32x5120, .i32⟩ : BufTy).Contents (Elt F)),
    binary main_v48 main_v52 main_v53 (muli : (⟨S32x5120, .i32⟩ : BufTy).Contents (Elt F) → (⟨S32x5120, .i32⟩ : BufTy).Contents (Elt F) → (⟨S32x5120, .i32⟩ : BufTy).Contents (Elt F)),
    unary main_v51 main_v54 (broadcastInDim S32x5120 ![0, 1] bcast_S1x5120_S32x5120_0_1 : (⟨S1x5120, .i32⟩ : BufTy).Contents (Elt F) → (⟨S32x5120, .i32⟩ : BufTy).Contents (Elt F)),
    binary main_v53 main_v54 main_v55 (addi : (⟨S32x5120, .i32⟩ : BufTy).Contents (Elt F) → (⟨S32x5120, .i32⟩ : BufTy).Contents (Elt F) → (⟨S32x5120, .i32⟩ : BufTy).Contents (Elt F)),
    TRef.nullary (TRef.of (T := ⟨S32x5120, .i32⟩) main_call1_v0) (iotaInDim S32x5120 32 1),
    TRef.binary (TRef.of (T := ⟨S32x5120, .i32⟩) main_v55) (TRef.of (T := ⟨S32x5120, .i32⟩) main_call1_v0) (TRef.of (T := ⟨S32x5120, .i32⟩) main_call1_v1_0) (fun x y => (Host.sort2 S32x5120 1 comparator_i32_i32_d1 x y).1),
    TRef.binary (TRef.of (T := ⟨S32x5120, .i32⟩) main_v55) (TRef.of (T := ⟨S32x5120, .i32⟩) main_call1_v0) (TRef.of (T := ⟨S32x5120, .i32⟩) main_v56) (fun x y => (Host.sort2 S32x5120 1 comparator_i32_i32_d1 x y).2),
    TRef.nullary (TRef.of (T := ⟨S32x5120, .i32⟩) main_call2_v0) (iotaInDim S32x5120 32 1) ]

/-- @main's operations 91 … 120 of 233 (window `main_part1`). -/
abbrev ops_part1_1 : List (HloOp τ sig (Elt F)) :=
  [ TRef.binary (TRef.of (T := ⟨S32x5120, .i32⟩) main_v56) (TRef.of (T := ⟨S32x5120, .i32⟩) main_call2_v0) (TRef.of (T := ⟨S32x5120, .i32⟩) main_call2_v1_0) (fun x y => (Host.sort2 S32x5120 1 comparator_i32_i32_d1 x y).1),
    TRef.binary (TRef.of (T := ⟨S32x5120, .i32⟩) main_v56) (TRef.of (T := ⟨S32x5120, .i32⟩) main_call2_v0) (TRef.of (T := ⟨S32x5120, .i32⟩) main_v57) (fun x y => (Host.sort2 S32x5120 1 comparator_i32_i32_d1 x y).2),
    nullary main_c_6 (constantI S_ 32 640#32),
    TRef.unary (TRef.of (T := ⟨S_, .i32⟩) main_c_6) (TRef.of (T := ⟨S_, .i32⟩) main_call3_v0) id,
    TRef.nullary (TRef.of (T := ⟨S_, .i32⟩) main_call3_c) (constantI S_ 32 0#32),
    TRef.binary (TRef.of (T := ⟨S_, .i32⟩) main_call3_v0) (TRef.of (T := ⟨S_, .i32⟩) main_call3_c) (TRef.of (T := ⟨S_, .i1⟩) main_call3_v1) (cmpi .eq),
    TRef.nullary (TRef.of (T := ⟨S_, .i32⟩) main_call3_c_0) (constantI S_ 32 1#32),
    TRef.ternary (TRef.of (T := ⟨S_, .i1⟩) main_call3_v1) (TRef.of (T := ⟨S_, .i32⟩) main_call3_c_0) (TRef.of (T := ⟨S_, .i32⟩) main_call3_v0) (TRef.of (T := ⟨S_, .i32⟩) main_call3_v2) select,
    TRef.unary (TRef.of (T := ⟨S_, .i32⟩) main_call3_v2) (TRef.of (T := ⟨S32x5120, .i32⟩) main_call3_v3) (broadcastInDim S32x5120 ![] bcast_S_S32x5120),
    TRef.binary (TRef.of (T := ⟨S32x5120, .i32⟩) main_v56) (TRef.of (T := ⟨S32x5120, .i32⟩) main_call3_v3) (TRef.of (T := ⟨S32x5120, .i32⟩) main_call3_v4) Host.remsi,
    TRef.nullary (TRef.of (T := ⟨S_, .i32⟩) main_call3_c_1) (constantI S_ 32 0#32),
    TRef.unary (TRef.of (T := ⟨S_, .i32⟩) main_call3_c_1) (TRef.of (T := ⟨S32x5120, .i32⟩) main_call3_v5) (broadcastInDim S32x5120 ![] bcast_S_S32x5120),
    TRef.binary (TRef.of (T := ⟨S32x5120, .i32⟩) main_call3_v4) (TRef.of (T := ⟨S32x5120, .i32⟩) main_call3_v5) (TRef.of (T := ⟨S32x5120, .i1⟩) main_call3_v6) (cmpi .ne),
    TRef.nullary (TRef.of (T := ⟨S_, .i32⟩) main_call3_c_2) (constantI S_ 32 0#32),
    TRef.unary (TRef.of (T := ⟨S_, .i32⟩) main_call3_c_2) (TRef.of (T := ⟨S32x5120, .i32⟩) main_call3_v7) (broadcastInDim S32x5120 ![] bcast_S_S32x5120),
    TRef.binary (TRef.of (T := ⟨S32x5120, .i32⟩) main_call3_v4) (TRef.of (T := ⟨S32x5120, .i32⟩) main_call3_v7) (TRef.of (T := ⟨S32x5120, .i1⟩) main_call3_v8) (cmpi .slt),
    TRef.nullary (TRef.of (T := ⟨S_, .i32⟩) main_call3_c_3) (constantI S_ 32 0#32),
    TRef.binary (TRef.of (T := ⟨S_, .i32⟩) main_call3_v2) (TRef.of (T := ⟨S_, .i32⟩) main_call3_c_3) (TRef.of (T := ⟨S_, .i1⟩) main_call3_v9) (cmpi .slt),
    TRef.unary (TRef.of (T := ⟨S_, .i1⟩) main_call3_v9) (TRef.of (T := ⟨S32x5120, .i1⟩) main_call3_v10) (broadcastInDim S32x5120 ![] bcast_S_S32x5120),
    TRef.binary (TRef.of (T := ⟨S32x5120, .i1⟩) main_call3_v8) (TRef.of (T := ⟨S32x5120, .i1⟩) main_call3_v10) (TRef.of (T := ⟨S32x5120, .i1⟩) main_call3_v11) (cmpi .ne),
    TRef.binary (TRef.of (T := ⟨S32x5120, .i1⟩) main_call3_v11) (TRef.of (T := ⟨S32x5120, .i1⟩) main_call3_v6) (TRef.of (T := ⟨S32x5120, .i1⟩) main_call3_v12) andi,
    TRef.unary (TRef.of (T := ⟨S_, .i32⟩) main_call3_v2) (TRef.of (T := ⟨S32x5120, .i32⟩) main_call3_v13) (broadcastInDim S32x5120 ![] bcast_S_S32x5120),
    TRef.binary (TRef.of (T := ⟨S32x5120, .i32⟩) main_call3_v4) (TRef.of (T := ⟨S32x5120, .i32⟩) main_call3_v13) (TRef.of (T := ⟨S32x5120, .i32⟩) main_call3_v14) addi,
    TRef.ternary (TRef.of (T := ⟨S32x5120, .i1⟩) main_call3_v12) (TRef.of (T := ⟨S32x5120, .i32⟩) main_call3_v14) (TRef.of (T := ⟨S32x5120, .i32⟩) main_call3_v4) (TRef.of (T := ⟨S32x5120, .i32⟩) main_v58) select,
    nullary main_c_7 (constantI S_ 32 0#32),
    unary main_c_7 main_v59 (broadcastInDim S32x5120 ![] bcast_S_S32x5120 : (⟨S_, .i32⟩ : BufTy).Contents (Elt F) → (⟨S32x5120, .i32⟩ : BufTy).Contents (Elt F)),
    binary main_v58 main_v59 main_v60 (cmpi .slt : (⟨S32x5120, .i32⟩ : BufTy).Contents (Elt F) → (⟨S32x5120, .i32⟩ : BufTy).Contents (Elt F) → (⟨S32x5120, .i1⟩ : BufTy).Contents (Elt F)),
    nullary main_c_8 (constantI S_ 32 640#32),
    unary main_c_8 main_v61 (broadcastInDim S32x5120 ![] bcast_S_S32x5120 : (⟨S_, .i32⟩ : BufTy).Contents (Elt F) → (⟨S32x5120, .i32⟩ : BufTy).Contents (Elt F)),
    binary main_v58 main_v61 main_v62 (addi : (⟨S32x5120, .i32⟩ : BufTy).Contents (Elt F) → (⟨S32x5120, .i32⟩ : BufTy).Contents (Elt F) → (⟨S32x5120, .i32⟩ : BufTy).Contents (Elt F)) ]

/-- @main's operations 121 … 150 of 233 (window `main_part1`). -/
abbrev ops_part1_2 : List (HloOp τ sig (Elt F)) :=
  [ ternary main_v60 main_v62 main_v58 main_v63 (select : (⟨S32x5120, .i1⟩ : BufTy).Contents (Elt F) → (⟨S32x5120, .i32⟩ : BufTy).Contents (Elt F) → (⟨S32x5120, .i32⟩ : BufTy).Contents (Elt F) → (⟨S32x5120, .i32⟩ : BufTy).Contents (Elt F)),
    unary main_v63 main_v64 (broadcastInDim S32x5120x1 ![0, 1] bcast_S32x5120_S32x5120x1_0_1 : (⟨S32x5120, .i32⟩ : BufTy).Contents (Elt F) → (⟨S32x5120x1, .i32⟩ : BufTy).Contents (Elt F)),
    binary main_v33 main_v64 main_v65 ((fun x i => Host.gather gather_S32x640x128_S32x5120x1_S32x5120x128_2_1_0_0_1_2_11128 x i) : (⟨S32x640x128, .f32⟩ : BufTy).Contents (Elt F) → (⟨S32x5120x1, .i32⟩ : BufTy).Contents (Elt F) → (⟨S32x5120x128, .f32⟩ : BufTy).Contents (Elt F)),
    nullary main_c_9 (constantI S_ 32 0#32),
    unary main_c_9 main_v66 (broadcastInDim S32x5120 ![] bcast_S_S32x5120 : (⟨S_, .i32⟩ : BufTy).Contents (Elt F) → (⟨S32x5120, .i32⟩ : BufTy).Contents (Elt F)),
    binary main_v58 main_v66 main_v67 (cmpi .slt : (⟨S32x5120, .i32⟩ : BufTy).Contents (Elt F) → (⟨S32x5120, .i32⟩ : BufTy).Contents (Elt F) → (⟨S32x5120, .i1⟩ : BufTy).Contents (Elt F)),
    nullary main_c_10 (constantI S_ 32 640#32),
    unary main_c_10 main_v68 (broadcastInDim S32x5120 ![] bcast_S_S32x5120 : (⟨S_, .i32⟩ : BufTy).Contents (Elt F) → (⟨S32x5120, .i32⟩ : BufTy).Contents (Elt F)),
    binary main_v58 main_v68 main_v69 (addi : (⟨S32x5120, .i32⟩ : BufTy).Contents (Elt F) → (⟨S32x5120, .i32⟩ : BufTy).Contents (Elt F) → (⟨S32x5120, .i32⟩ : BufTy).Contents (Elt F)),
    ternary main_v67 main_v69 main_v58 main_v70 (select : (⟨S32x5120, .i1⟩ : BufTy).Contents (Elt F) → (⟨S32x5120, .i32⟩ : BufTy).Contents (Elt F) → (⟨S32x5120, .i32⟩ : BufTy).Contents (Elt F) → (⟨S32x5120, .i32⟩ : BufTy).Contents (Elt F)),
    unary main_v70 main_v71 (broadcastInDim S32x5120x1 ![0, 1] bcast_S32x5120_S32x5120x1_0_1 : (⟨S32x5120, .i32⟩ : BufTy).Contents (Elt F) → (⟨S32x5120x1, .i32⟩ : BufTy).Contents (Elt F)),
    binary main_v36 main_v71 main_v72 ((fun x i => Host.gather gather_S32x640x128_S32x5120x1_S32x5120x128_2_1_0_0_1_2_11128 x i) : (⟨S32x640x128, .f32⟩ : BufTy).Contents (Elt F) → (⟨S32x5120x1, .i32⟩ : BufTy).Contents (Elt F) → (⟨S32x5120x128, .f32⟩ : BufTy).Contents (Elt F)),
    reshape main_v58 main_v73 (rfl : (.i32 : EltTy) = .i32) shapeCasts_S32x5120_S32x80x64,
    reshape main_v65 main_v74 (rfl : (.f32 : EltTy) = .f32) shapeCasts_S32x5120x128_S32x80x64x128,
    reshape main_v72 main_v75 (rfl : (.f32 : EltTy) = .f32) shapeCasts_S32x5120x128_S32x80x64x128,
    TRef.binary (TRef.of (T := ⟨S32x80x64x128, .f32⟩) main_v74) (TRef.of (T := ⟨S32x80x64x128, .f32⟩) main_v74) (TRef.of (T := ⟨S32x80x64x128, .f32⟩) main_call4_v0) mulf,
    TRef.nullary (TRef.of (T := ⟨S_, .f32⟩) main_call4_cst) (constant S_ .f32 0x00000000#32),
    TRef.binary (TRef.of (T := ⟨S32x80x64x128, .f32⟩) main_call4_v0) (TRef.of (T := ⟨S_, .f32⟩) main_call4_cst) (TRef.of (T := ⟨S32x80x64, .f32⟩) main_call4_v1) (fun x v => Host.reduceAdd x v reducesTo_S32x80x64x128_S32x80x64_d3 h_S_),
    TRef.unary (TRef.of (T := ⟨S32x80x64, .f32⟩) main_call4_v1) (TRef.of (T := ⟨S32x80x64x1, .f32⟩) main_call4_v2) (broadcastInDim S32x80x64x1 ![0, 1, 2] bcast_S32x80x64_S32x80x64x1_0_1_2),
    TRef.unary (TRef.of (T := ⟨S32x80x64x1, .f32⟩) main_call4_v2) (TRef.of (T := ⟨S32x80x64x1, .f32⟩) main_v76) Host.sqrt,
    nullary main_cst_11 (constant S_ .f32 0x2B8CBCCC#32),
    unary main_cst_11 main_v77 (broadcastInDim S32x80x64x1 ![] bcast_S_S32x80x64x1 : (⟨S_, .f32⟩ : BufTy).Contents (Elt F) → (⟨S32x80x64x1, .f32⟩ : BufTy).Contents (Elt F)),
    binary main_v76 main_v77 main_v78 (maximumf : (⟨S32x80x64x1, .f32⟩ : BufTy).Contents (Elt F) → (⟨S32x80x64x1, .f32⟩ : BufTy).Contents (Elt F) → (⟨S32x80x64x1, .f32⟩ : BufTy).Contents (Elt F)),
    unary main_v78 main_v79 (broadcastInDim S32x80x64x128 ![0, 1, 2, 3] bcast_S32x80x64x1_S32x80x64x128_0_1_2_3 : (⟨S32x80x64x1, .f32⟩ : BufTy).Contents (Elt F) → (⟨S32x80x64x128, .f32⟩ : BufTy).Contents (Elt F)),
    binary main_v74 main_v79 main_v80 (Host.divf : (⟨S32x80x64x128, .f32⟩ : BufTy).Contents (Elt F) → (⟨S32x80x64x128, .f32⟩ : BufTy).Contents (Elt F) → (⟨S32x80x64x128, .f32⟩ : BufTy).Contents (Elt F)),
    TRef.unary (TRef.of (T := ⟨S32x80x64x128, .f32⟩) main_v80) (TRef.of (T := ⟨S32x1x64x128, .f32⟩) main_call5_v0) (extractStridedSlice S32x1x64x128 ![0, 79, 0, 0] · slices_S32x80x64x128_S32x1x64x128_0_79_0_0),
    TRef.unary (TRef.of (T := ⟨S32x80x64x128, .f32⟩) main_v80) (TRef.of (T := ⟨S32x79x64x128, .f32⟩) main_call5_v1) (extractStridedSlice S32x79x64x128 ![0, 0, 0, 0] · slices_S32x80x64x128_S32x79x64x128_0_0_0_0),
    TRef.binary (TRef.of (T := ⟨S32x1x64x128, .f32⟩) main_call5_v0) (TRef.of (T := ⟨S32x79x64x128, .f32⟩) main_call5_v1) (TRef.of (T := ⟨S32x80x64x128, .f32⟩) main_v81) (fn_main_v81 (F := F)),
    binary main_v80 main_v81 main_v82 (fn_main_v82 (F := F)),
    TRef.unary (TRef.of (T := ⟨S32x80x64x128, .f32⟩) main_v75) (TRef.of (T := ⟨S32x1x64x128, .f32⟩) main_call6_v0) (extractStridedSlice S32x1x64x128 ![0, 79, 0, 0] · slices_S32x80x64x128_S32x1x64x128_0_79_0_0) ]

/-- @main's operations 151 … 176 of 233 (window `main_part1`). -/
abbrev ops_part1_3 : List (HloOp τ sig (Elt F)) :=
  [ TRef.unary (TRef.of (T := ⟨S32x80x64x128, .f32⟩) main_v75) (TRef.of (T := ⟨S32x79x64x128, .f32⟩) main_call6_v1) (extractStridedSlice S32x79x64x128 ![0, 0, 0, 0] · slices_S32x80x64x128_S32x79x64x128_0_0_0_0),
    TRef.binary (TRef.of (T := ⟨S32x1x64x128, .f32⟩) main_call6_v0) (TRef.of (T := ⟨S32x79x64x128, .f32⟩) main_call6_v1) (TRef.of (T := ⟨S32x80x64x128, .f32⟩) main_v83) (fn_main_v83 (F := F)),
    binary main_v75 main_v83 main_v84 (fn_main_v84 (F := F)),
    TRef.unary (TRef.of (T := ⟨S32x80x64, .i32⟩) main_v73) (TRef.of (T := ⟨S32x1x64, .i32⟩) main_call7_v0) (extractStridedSlice S32x1x64 ![0, 79, 0] · slices_S32x80x64_S32x1x64_0_79_0),
    TRef.unary (TRef.of (T := ⟨S32x80x64, .i32⟩) main_v73) (TRef.of (T := ⟨S32x79x64, .i32⟩) main_call7_v1) (extractStridedSlice S32x79x64 ![0, 0, 0] · slices_S32x80x64_S32x79x64_0_0_0),
    TRef.binary (TRef.of (T := ⟨S32x1x64, .i32⟩) main_call7_v0) (TRef.of (T := ⟨S32x79x64, .i32⟩) main_call7_v1) (TRef.of (T := ⟨S32x80x64, .i32⟩) main_v85) (fn_main_v85 (F := F)),
    binary main_v73 main_v85 main_v86 (fn_main_v86 (F := F)),
    binary main_v74 main_v82 main_v87 ((fun l r => Host.dotGeneral dot_S32x80x64x128_S32x80x128x128_S32x80x64x128_3_3_2_2_01_01 none l r) : (⟨S32x80x64x128, .f32⟩ : BufTy).Contents (Elt F) → (⟨S32x80x128x128, .f32⟩ : BufTy).Contents (Elt F) → (⟨S32x80x64x128, .f32⟩ : BufTy).Contents (Elt F)),
    nullary main_cst_12 (constant S_ .f32 0x3DB504F3#32),
    unary main_cst_12 main_v88 (broadcastInDim S32x80x64x128 ![] bcast_S_S32x80x64x128 : (⟨S_, .f32⟩ : BufTy).Contents (Elt F) → (⟨S32x80x64x128, .f32⟩ : BufTy).Contents (Elt F)),
    binary main_v87 main_v88 main_v89 (mulf : (⟨S32x80x64x128, .f32⟩ : BufTy).Contents (Elt F) → (⟨S32x80x64x128, .f32⟩ : BufTy).Contents (Elt F) → (⟨S32x80x64x128, .f32⟩ : BufTy).Contents (Elt F)),
    unary main_v73 main_v90 (broadcastInDim S32x80x64x1 ![0, 1, 2] bcast_S32x80x64_S32x80x64x1_0_1_2 : (⟨S32x80x64, .i32⟩ : BufTy).Contents (Elt F) → (⟨S32x80x64x1, .i32⟩ : BufTy).Contents (Elt F)),
    unary main_v86 main_v91 (broadcastInDim S32x80x1x128 ![0, 1, 3] bcast_S32x80x128_S32x80x1x128_0_1_3 : (⟨S32x80x128, .i32⟩ : BufTy).Contents (Elt F) → (⟨S32x80x1x128, .i32⟩ : BufTy).Contents (Elt F)),
    unary main_v90 main_v92 (broadcastInDim S32x80x64x128 ![0, 1, 2, 3] bcast_S32x80x64x1_S32x80x64x128_0_1_2_3 : (⟨S32x80x64x1, .i32⟩ : BufTy).Contents (Elt F) → (⟨S32x80x64x128, .i32⟩ : BufTy).Contents (Elt F)),
    unary main_v91 main_v93 (broadcastInDim S32x80x64x128 ![0, 1, 2, 3] bcast_S32x80x1x128_S32x80x64x128_0_1_2_3 : (⟨S32x80x1x128, .i32⟩ : BufTy).Contents (Elt F) → (⟨S32x80x64x128, .i32⟩ : BufTy).Contents (Elt F)),
    binary main_v92 main_v93 main_v94 (cmpi .eq : (⟨S32x80x64x128, .i32⟩ : BufTy).Contents (Elt F) → (⟨S32x80x64x128, .i32⟩ : BufTy).Contents (Elt F) → (⟨S32x80x64x128, .i1⟩ : BufTy).Contents (Elt F)),
    nullary main_cst_13 (constant S_ .f32 0xC7435000#32),
    TRef.unary (TRef.of (T := ⟨S_, .f32⟩) main_cst_13) (TRef.of (T := ⟨S_, .f32⟩) main_call8_v0) id,
    TRef.unary (TRef.of (T := ⟨S_, .f32⟩) main_call8_v0) (TRef.of (T := ⟨S32x80x64x128, .f32⟩) main_call8_v1) (broadcastInDim S32x80x64x128 ![] bcast_S_S32x80x64x128),
    TRef.ternary (TRef.of (T := ⟨S32x80x64x128, .i1⟩) main_v94) (TRef.of (T := ⟨S32x80x64x128, .f32⟩) main_call8_v1) (TRef.of (T := ⟨S32x80x64x128, .f32⟩) main_v89) (TRef.of (T := ⟨S32x80x64x128, .f32⟩) main_v95) select,
    nullary main_cst_14 (constant S_ .f32 0xFF800000#32),
    binary main_v95 main_cst_14 main_v96 ((fun x v => Host.reduce FloatOps.maximumf x v reducesTo_S32x80x64x128_S32x80x64_d3 h_S_) : (⟨S32x80x64x128, .f32⟩ : BufTy).Contents (Elt F) → (⟨S_, .f32⟩ : BufTy).Contents (Elt F) → (⟨S32x80x64, .f32⟩ : BufTy).Contents (Elt F)),
    unary main_v96 main_v97 (broadcastInDim S32x80x64x1 ![0, 1, 2] bcast_S32x80x64_S32x80x64x1_0_1_2 : (⟨S32x80x64, .f32⟩ : BufTy).Contents (Elt F) → (⟨S32x80x64x1, .f32⟩ : BufTy).Contents (Elt F)),
    unary main_v97 main_v98 (broadcastInDim S32x80x64x128 ![0, 1, 2, 3] bcast_S32x80x64x1_S32x80x64x128_0_1_2_3 : (⟨S32x80x64x1, .f32⟩ : BufTy).Contents (Elt F) → (⟨S32x80x64x128, .f32⟩ : BufTy).Contents (Elt F)),
    binary main_v95 main_v98 main_v99 (subf : (⟨S32x80x64x128, .f32⟩ : BufTy).Contents (Elt F) → (⟨S32x80x64x128, .f32⟩ : BufTy).Contents (Elt F) → (⟨S32x80x64x128, .f32⟩ : BufTy).Contents (Elt F)),
    unary main_v99 main_v100 (Host.exp : (⟨S32x80x64x128, .f32⟩ : BufTy).Contents (Elt F) → (⟨S32x80x64x128, .f32⟩ : BufTy).Contents (Elt F)) ]

/-- Window `main_part1`'s operations. Not an abbreviation: `main_eq` below splits `ops` into the windows and no further. -/
def ops_part1 : List (HloOp τ sig (Elt F)) :=
  ops_part1_0 ++ (ops_part1_1 ++ (ops_part1_2 ++ (ops_part1_3)))

/-- @main's operations 177 … 233 of 233 (window `main_part2`). -/
abbrev ops_part2 : List (HloOp τ sig (Elt F)) :=
  [ nullary main_cst_15 (constant S_ .f32 0x00000000#32),
    binary main_v100 main_cst_15 main_v101 ((fun x v => Host.reduceAdd x v reducesTo_S32x80x64x128_S32x80x64_d3 h_S_) : (⟨S32x80x64x128, .f32⟩ : BufTy).Contents (Elt F) → (⟨S_, .f32⟩ : BufTy).Contents (Elt F) → (⟨S32x80x64, .f32⟩ : BufTy).Contents (Elt F)),
    unary main_v101 main_v102 (broadcastInDim S32x80x64x1 ![0, 1, 2] bcast_S32x80x64_S32x80x64x1_0_1_2 : (⟨S32x80x64, .f32⟩ : BufTy).Contents (Elt F) → (⟨S32x80x64x1, .f32⟩ : BufTy).Contents (Elt F)),
    unary main_v102 main_v103 (Host.log : (⟨S32x80x64x1, .f32⟩ : BufTy).Contents (Elt F) → (⟨S32x80x64x1, .f32⟩ : BufTy).Contents (Elt F)),
    binary main_v103 main_v97 main_v104 (addf : (⟨S32x80x64x1, .f32⟩ : BufTy).Contents (Elt F) → (⟨S32x80x64x1, .f32⟩ : BufTy).Contents (Elt F) → (⟨S32x80x64x1, .f32⟩ : BufTy).Contents (Elt F)),
    unary main_v104 main_v105 (broadcastInDim S32x80x64x128 ![0, 1, 2, 3] bcast_S32x80x64x1_S32x80x64x128_0_1_2_3 : (⟨S32x80x64x1, .f32⟩ : BufTy).Contents (Elt F) → (⟨S32x80x64x128, .f32⟩ : BufTy).Contents (Elt F)),
    binary main_v95 main_v105 main_v106 (subf : (⟨S32x80x64x128, .f32⟩ : BufTy).Contents (Elt F) → (⟨S32x80x64x128, .f32⟩ : BufTy).Contents (Elt F) → (⟨S32x80x64x128, .f32⟩ : BufTy).Contents (Elt F)),
    unary main_v106 main_v107 (Host.exp : (⟨S32x80x64x128, .f32⟩ : BufTy).Contents (Elt F) → (⟨S32x80x64x128, .f32⟩ : BufTy).Contents (Elt F)),
    binary main_v107 main_v84 main_v108 ((fun l r => Host.dotGeneral dot_S32x80x64x128_S32x80x128x128_S32x80x64x128_3_2_2_3_01_01 none l r) : (⟨S32x80x64x128, .f32⟩ : BufTy).Contents (Elt F) → (⟨S32x80x128x128, .f32⟩ : BufTy).Contents (Elt F) → (⟨S32x80x64x128, .f32⟩ : BufTy).Contents (Elt F)),
    reshape main_v108 main_v109 (rfl : (.f32 : EltTy) = .f32) shapeCasts_S32x80x64x128_S32x5120x128,
    reshape main_v104 main_v110 (rfl : (.f32 : EltTy) = .f32) shapeCasts_S32x80x64x1_S32x5120,
    nullary main_c_16 (constantI S_ 32 0#32),
    unary main_c_16 main_v111 (broadcastInDim S32x5120 ![] bcast_S_S32x5120 : (⟨S_, .i32⟩ : BufTy).Contents (Elt F) → (⟨S32x5120, .i32⟩ : BufTy).Contents (Elt F)),
    binary main_v57 main_v111 main_v112 (cmpi .slt : (⟨S32x5120, .i32⟩ : BufTy).Contents (Elt F) → (⟨S32x5120, .i32⟩ : BufTy).Contents (Elt F) → (⟨S32x5120, .i1⟩ : BufTy).Contents (Elt F)),
    nullary main_c_17 (constantI S_ 32 5120#32),
    unary main_c_17 main_v113 (broadcastInDim S32x5120 ![] bcast_S_S32x5120 : (⟨S_, .i32⟩ : BufTy).Contents (Elt F) → (⟨S32x5120, .i32⟩ : BufTy).Contents (Elt F)),
    binary main_v57 main_v113 main_v114 (addi : (⟨S32x5120, .i32⟩ : BufTy).Contents (Elt F) → (⟨S32x5120, .i32⟩ : BufTy).Contents (Elt F) → (⟨S32x5120, .i32⟩ : BufTy).Contents (Elt F)),
    ternary main_v112 main_v114 main_v57 main_v115 (select : (⟨S32x5120, .i1⟩ : BufTy).Contents (Elt F) → (⟨S32x5120, .i32⟩ : BufTy).Contents (Elt F) → (⟨S32x5120, .i32⟩ : BufTy).Contents (Elt F) → (⟨S32x5120, .i32⟩ : BufTy).Contents (Elt F)),
    unary main_v115 main_v116 (broadcastInDim S32x5120x1 ![0, 1] bcast_S32x5120_S32x5120x1_0_1 : (⟨S32x5120, .i32⟩ : BufTy).Contents (Elt F) → (⟨S32x5120x1, .i32⟩ : BufTy).Contents (Elt F)),
    binary main_v109 main_v116 main_v117 ((fun x i => Host.gather gather_S32x5120x128_S32x5120x1_S32x5120x128_2_1_0_0_1_2_11128 x i) : (⟨S32x5120x128, .f32⟩ : BufTy).Contents (Elt F) → (⟨S32x5120x1, .i32⟩ : BufTy).Contents (Elt F) → (⟨S32x5120x128, .f32⟩ : BufTy).Contents (Elt F)),
    nullary main_c_18 (constantI S_ 32 0#32),
    unary main_c_18 main_v118 (broadcastInDim S32x5120 ![] bcast_S_S32x5120 : (⟨S_, .i32⟩ : BufTy).Contents (Elt F) → (⟨S32x5120, .i32⟩ : BufTy).Contents (Elt F)),
    binary main_v57 main_v118 main_v119 (cmpi .slt : (⟨S32x5120, .i32⟩ : BufTy).Contents (Elt F) → (⟨S32x5120, .i32⟩ : BufTy).Contents (Elt F) → (⟨S32x5120, .i1⟩ : BufTy).Contents (Elt F)),
    nullary main_c_19 (constantI S_ 32 5120#32),
    unary main_c_19 main_v120 (broadcastInDim S32x5120 ![] bcast_S_S32x5120 : (⟨S_, .i32⟩ : BufTy).Contents (Elt F) → (⟨S32x5120, .i32⟩ : BufTy).Contents (Elt F)),
    binary main_v57 main_v120 main_v121 (addi : (⟨S32x5120, .i32⟩ : BufTy).Contents (Elt F) → (⟨S32x5120, .i32⟩ : BufTy).Contents (Elt F) → (⟨S32x5120, .i32⟩ : BufTy).Contents (Elt F)),
    ternary main_v119 main_v121 main_v57 main_v122 (select : (⟨S32x5120, .i1⟩ : BufTy).Contents (Elt F) → (⟨S32x5120, .i32⟩ : BufTy).Contents (Elt F) → (⟨S32x5120, .i32⟩ : BufTy).Contents (Elt F) → (⟨S32x5120, .i32⟩ : BufTy).Contents (Elt F)),
    unary main_v122 main_v123 (broadcastInDim S32x5120x1 ![0, 1] bcast_S32x5120_S32x5120x1_0_1 : (⟨S32x5120, .i32⟩ : BufTy).Contents (Elt F) → (⟨S32x5120x1, .i32⟩ : BufTy).Contents (Elt F)),
    binary main_v110 main_v123 main_v124 ((fun x i => Host.gather gather_S32x5120_S32x5120x1_S32x5120_n_1_0_0_1_2_11 x i) : (⟨S32x5120, .f32⟩ : BufTy).Contents (Elt F) → (⟨S32x5120x1, .i32⟩ : BufTy).Contents (Elt F) → (⟨S32x5120, .f32⟩ : BufTy).Contents (Elt F)),
    reshape main_v117 main_v125 (rfl : (.f32 : EltTy) = .f32) shapeCasts_S32x5120x128_S32x8x640x128,
    reshape main_v124 main_v126 (rfl : (.f32 : EltTy) = .f32) shapeCasts_S32x5120_S32x8x640x1,
    nullary main_cst_20 (constant S_ .f32 0xFF800000#32),
    binary main_v126 main_cst_20 main_v127 ((fun x v => Host.reduce FloatOps.maximumf x v reducesTo_S32x8x640x1_S32x640x1_d1 h_S_) : (⟨S32x8x640x1, .f32⟩ : BufTy).Contents (Elt F) → (⟨S_, .f32⟩ : BufTy).Contents (Elt F) → (⟨S32x640x1, .f32⟩ : BufTy).Contents (Elt F)),
    unary main_v127 main_v128 (broadcastInDim S32x1x640x1 ![0, 2, 3] bcast_S32x640x1_S32x1x640x1_0_2_3 : (⟨S32x640x1, .f32⟩ : BufTy).Contents (Elt F) → (⟨S32x1x640x1, .f32⟩ : BufTy).Contents (Elt F)),
    unary main_v128 main_v129 (broadcastInDim S32x8x640x1 ![0, 1, 2, 3] bcast_S32x1x640x1_S32x8x640x1_0_1_2_3 : (⟨S32x1x640x1, .f32⟩ : BufTy).Contents (Elt F) → (⟨S32x8x640x1, .f32⟩ : BufTy).Contents (Elt F)),
    binary main_v126 main_v129 main_v130 (subf : (⟨S32x8x640x1, .f32⟩ : BufTy).Contents (Elt F) → (⟨S32x8x640x1, .f32⟩ : BufTy).Contents (Elt F) → (⟨S32x8x640x1, .f32⟩ : BufTy).Contents (Elt F)),
    unary main_v130 main_v131 (Host.exp : (⟨S32x8x640x1, .f32⟩ : BufTy).Contents (Elt F) → (⟨S32x8x640x1, .f32⟩ : BufTy).Contents (Elt F)),
    nullary main_cst_21 (constant S_ .f32 0x00000000#32),
    binary main_v131 main_cst_21 main_v132 ((fun x v => Host.reduceAdd x v reducesTo_S32x8x640x1_S32x640x1_d1 h_S_) : (⟨S32x8x640x1, .f32⟩ : BufTy).Contents (Elt F) → (⟨S_, .f32⟩ : BufTy).Contents (Elt F) → (⟨S32x640x1, .f32⟩ : BufTy).Contents (Elt F)),
    unary main_v132 main_v133 (broadcastInDim S32x1x640x1 ![0, 2, 3] bcast_S32x640x1_S32x1x640x1_0_2_3 : (⟨S32x640x1, .f32⟩ : BufTy).Contents (Elt F) → (⟨S32x1x640x1, .f32⟩ : BufTy).Contents (Elt F)),
    unary main_v133 main_v134 (Host.log : (⟨S32x1x640x1, .f32⟩ : BufTy).Contents (Elt F) → (⟨S32x1x640x1, .f32⟩ : BufTy).Contents (Elt F)),
    binary main_v134 main_v128 main_v135 (addf : (⟨S32x1x640x1, .f32⟩ : BufTy).Contents (Elt F) → (⟨S32x1x640x1, .f32⟩ : BufTy).Contents (Elt F) → (⟨S32x1x640x1, .f32⟩ : BufTy).Contents (Elt F)),
    unary main_v135 main_v136 (broadcastInDim S32x8x640x1 ![0, 1, 2, 3] bcast_S32x1x640x1_S32x8x640x1_0_1_2_3 : (⟨S32x1x640x1, .f32⟩ : BufTy).Contents (Elt F) → (⟨S32x8x640x1, .f32⟩ : BufTy).Contents (Elt F)),
    binary main_v126 main_v136 main_v137 (subf : (⟨S32x8x640x1, .f32⟩ : BufTy).Contents (Elt F) → (⟨S32x8x640x1, .f32⟩ : BufTy).Contents (Elt F) → (⟨S32x8x640x1, .f32⟩ : BufTy).Contents (Elt F)),
    unary main_v137 main_v138 (Host.exp : (⟨S32x8x640x1, .f32⟩ : BufTy).Contents (Elt F) → (⟨S32x8x640x1, .f32⟩ : BufTy).Contents (Elt F)),
    unary main_v138 main_v139 (broadcastInDim S32x8x640x128 ![0, 1, 2, 3] bcast_S32x8x640x1_S32x8x640x128_0_1_2_3 : (⟨S32x8x640x1, .f32⟩ : BufTy).Contents (Elt F) → (⟨S32x8x640x128, .f32⟩ : BufTy).Contents (Elt F)),
    binary main_v125 main_v139 main_v140 (mulf : (⟨S32x8x640x128, .f32⟩ : BufTy).Contents (Elt F) → (⟨S32x8x640x128, .f32⟩ : BufTy).Contents (Elt F) → (⟨S32x8x640x128, .f32⟩ : BufTy).Contents (Elt F)),
    nullary main_cst_22 (constant S_ .f32 0x00000000#32),
    binary main_v140 main_cst_22 main_v141 ((fun x v => Host.reduceAdd x v reducesTo_S32x8x640x128_S32x640x128_d1 h_S_) : (⟨S32x8x640x128, .f32⟩ : BufTy).Contents (Elt F) → (⟨S_, .f32⟩ : BufTy).Contents (Elt F) → (⟨S32x640x128, .f32⟩ : BufTy).Contents (Elt F)),
    reshape main_v141 main_v142 (rfl : (.f32 : EltTy) = .f32) shapeCasts_S32x640x128_S4x8x640x128,
    unary main_v142 main_v143 ((transpose S4x640x8x128 [0, 2, 1, 3] · transposes_S4x8x640x128_S4x640x8x128_0_2_1_3) : (⟨S4x8x640x128, .f32⟩ : BufTy).Contents (Elt F) → (⟨S4x640x8x128, .f32⟩ : BufTy).Contents (Elt F)),
    reshape main_v143 main_v144 (rfl : (.f32 : EltTy) = .f32) shapeCasts_S4x640x8x128_S4x640x1024,
    binary main_v144 main_arg3 main_v145 ((fun l r => Host.dotGeneral dot_S4x640x1024_S1024x1024_S4x640x1024_2_0_01_1_n_n none l r) : (⟨S4x640x1024, .f32⟩ : BufTy).Contents (Elt F) → (⟨S1024x1024, .f32⟩ : BufTy).Contents (Elt F) → (⟨S4x640x1024, .f32⟩ : BufTy).Contents (Elt F)),
    unary main_arg4 main_v146 (broadcastInDim S1x1x1024 ![2] bcast_S1024_S1x1x1024_2 : (⟨S1024, .f32⟩ : BufTy).Contents (Elt F) → (⟨S1x1x1024, .f32⟩ : BufTy).Contents (Elt F)),
    unary main_v146 main_v147 (broadcastInDim S4x640x1024 ![0, 1, 2] bcast_S1x1x1024_S4x640x1024_0_1_2 : (⟨S1x1x1024, .f32⟩ : BufTy).Contents (Elt F) → (⟨S4x640x1024, .f32⟩ : BufTy).Contents (Elt F)),
    binary main_v145 main_v147 main_v148 (addf : (⟨S4x640x1024, .f32⟩ : BufTy).Contents (Elt F) → (⟨S4x640x1024, .f32⟩ : BufTy).Contents (Elt F) → (⟨S4x640x1024, .f32⟩ : BufTy).Contents (Elt F)),
    reshape main_v148 main_v149 (rfl : (.f32 : EltTy) = .f32) shapeCasts_S4x640x1024_S4x640x32x32 ]

/-- @main's 233 operations, in order (a called function's operations stand in its call's place, spelt `TRef.…`). -/
abbrev ops : List (HloOp τ sig (Elt F)) :=
  ops_part0 ++ (ops_part1 ++ (ops_part2))

set_option maxRecDepth 8192 in
theorem main_part0_eq (c : Dev nD) : main_part0 (F := F) c = seq ops_part0 := rfl
set_option maxRecDepth 8192 in
set_option maxHeartbeats 2000000 in
theorem main_part1_eq (c : Dev nD) : main_part1 (F := F) c = seq ops_part1 := by
  unfold main_part1 fn_remainder.body fn_argsort.body fn_remainder_0.body fn_norm.body fn_roll_static.body fn_roll_static_1.body fn_where_2.body
  simp only [fn_where.body, bind_assoc, pure_bind]
  rfl
set_option maxRecDepth 8192 in
theorem main_part2_eq (c : Dev nD) : main_part2 (F := F) c = seq ops_part2 := rfl
set_option maxRecDepth 8192 in
theorem main_eq (c : Dev nD) : main (F := F) c = seq ops := by
  simp only [ops, seq_append, ← main_part0_eq c, ← main_part1_eq c, ← main_part2_eq c]
  rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_part0_sub : (ops_part0 : List (HloOp τ sig (Elt F))).Forall fun op => op.bufs ⊆ tcRefs τ sig :=
  ⟨nullary_bufs_sub .., unary_bufs_sub .., binary_bufs_sub .., unary_bufs_sub .., unary_bufs_sub .., unary_bufs_sub .., unary_bufs_sub .., binary_bufs_sub .., binary_bufs_sub .., binary_bufs_sub .., nullary_bufs_sub .., unary_bufs_sub .., binary_bufs_sub .., binary_bufs_sub .., binary_bufs_sub .., binary_bufs_sub .., nullary_bufs_sub .., unary_bufs_sub .., binary_bufs_sub .., binary_bufs_sub .., binary_bufs_sub .., binary_bufs_sub .., nullary_bufs_sub .., unary_bufs_sub .., binary_bufs_sub .., binary_bufs_sub .., binary_bufs_sub .., binary_bufs_sub .., nullary_bufs_sub .., unary_bufs_sub .., binary_bufs_sub .., nary_bufs_sub .., binary_bufs_sub .., reshape_bufs_sub .., binary_bufs_sub .., binary_bufs_sub .., reshape_bufs_sub .., unary_bufs_sub .., reshape_bufs_sub .., reshape_bufs_sub .., unary_bufs_sub .., reshape_bufs_sub .., binary_bufs_sub .., unary_bufs_sub .., unary_bufs_sub .., binary_bufs_sub .., unary_bufs_sub .., unary_bufs_sub .., reshape_bufs_sub .., nullary_bufs_sub .., nullary_bufs_sub .., unary_bufs_sub .., binary_bufs_sub .., unary_bufs_sub .., unary_bufs_sub .., binary_bufs_sub .., reshape_bufs_sub .., nullary_bufs_sub .., unary_bufs_sub .., nullary_bufs_sub ..⟩
set_option maxRecDepth 8192 in
theorem ops_part0_fresh : (ops_part0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part1_0_sub : (ops_part1_0 : List (HloOp τ sig (Elt F))).Forall fun op => op.bufs ⊆ tcRefs τ sig :=
  ⟨unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., nullary_bufs_sub .., unary_bufs_sub .., binary_bufs_sub .., unary_bufs_sub .., binary_bufs_sub .., nullary_bufs_sub .., binary_bufs_sub .., binary_bufs_sub .., nullary_bufs_sub ..⟩
set_option maxRecDepth 8192 in
theorem ops_part1_0_fresh : (ops_part1_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part1_1_sub : (ops_part1_1 : List (HloOp τ sig (Elt F))).Forall fun op => op.bufs ⊆ tcRefs τ sig :=
  ⟨binary_bufs_sub .., binary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., nullary_bufs_sub .., unary_bufs_sub .., binary_bufs_sub .., nullary_bufs_sub .., unary_bufs_sub .., binary_bufs_sub ..⟩
set_option maxRecDepth 8192 in
theorem ops_part1_1_fresh : (ops_part1_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part1_2_sub : (ops_part1_2 : List (HloOp τ sig (Elt F))).Forall fun op => op.bufs ⊆ tcRefs τ sig :=
  ⟨ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., reshape_bufs_sub .., reshape_bufs_sub .., reshape_bufs_sub .., binary_bufs_sub .., nullary_bufs_sub .., binary_bufs_sub .., unary_bufs_sub .., unary_bufs_sub .., nullary_bufs_sub .., unary_bufs_sub .., binary_bufs_sub .., unary_bufs_sub .., binary_bufs_sub .., unary_bufs_sub .., unary_bufs_sub .., binary_bufs_sub .., binary_bufs_sub .., unary_bufs_sub ..⟩
set_option maxRecDepth 8192 in
theorem ops_part1_2_fresh : (ops_part1_2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part1_3_sub : (ops_part1_3 : List (HloOp τ sig (Elt F))).Forall fun op => op.bufs ⊆ tcRefs τ sig :=
  ⟨unary_bufs_sub .., binary_bufs_sub .., binary_bufs_sub .., unary_bufs_sub .., unary_bufs_sub .., binary_bufs_sub .., binary_bufs_sub .., binary_bufs_sub .., nullary_bufs_sub .., unary_bufs_sub .., binary_bufs_sub .., unary_bufs_sub .., unary_bufs_sub .., unary_bufs_sub .., unary_bufs_sub .., binary_bufs_sub .., nullary_bufs_sub .., unary_bufs_sub .., unary_bufs_sub .., ternary_bufs_sub .., nullary_bufs_sub .., binary_bufs_sub .., unary_bufs_sub .., unary_bufs_sub .., binary_bufs_sub .., unary_bufs_sub ..⟩
set_option maxRecDepth 8192 in
theorem ops_part1_3_fresh : (ops_part1_3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part2_sub : (ops_part2 : List (HloOp τ sig (Elt F))).Forall fun op => op.bufs ⊆ tcRefs τ sig :=
  ⟨nullary_bufs_sub .., binary_bufs_sub .., unary_bufs_sub .., unary_bufs_sub .., binary_bufs_sub .., unary_bufs_sub .., binary_bufs_sub .., unary_bufs_sub .., binary_bufs_sub .., reshape_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., reshape_bufs_sub .., reshape_bufs_sub .., nullary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub .., binary_bufs_sub .., unary_bufs_sub .., unary_bufs_sub .., binary_bufs_sub .., nullary_bufs_sub .., binary_bufs_sub .., reshape_bufs_sub .., unary_bufs_sub .., reshape_bufs_sub .., binary_bufs_sub .., unary_bufs_sub .., unary_bufs_sub .., binary_bufs_sub .., reshape_bufs_sub ..⟩
set_option maxRecDepth 8192 in
theorem ops_part2_fresh : (ops_part2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem ops_sub : (ops : List (HloOp τ sig (Elt F))).Forall fun op => op.bufs ⊆ tcRefs τ sig :=
  List.forall_iff_forall_mem.mpr fun op h => by
    simp only [ops, ops_part1, List.mem_append, or_assoc] at h
    rcases h with h | h | h | h | h | h
    exacts [List.forall_iff_forall_mem.mp ops_part0_sub op h, List.forall_iff_forall_mem.mp ops_part1_0_sub op h, List.forall_iff_forall_mem.mp ops_part1_1_sub op h, List.forall_iff_forall_mem.mp ops_part1_2_sub op h, List.forall_iff_forall_mem.mp ops_part1_3_sub op h, List.forall_iff_forall_mem.mp ops_part2_sub op h]
theorem ops_fresh : ∀ op ∈ (ops : List (HloOp τ sig (Elt F))), op.fresh = ∅ := fun op h => by
    simp only [ops, ops_part1, List.mem_append, or_assoc] at h
    rcases h with h | h | h | h | h | h
    exacts [List.forall_iff_forall_mem.mp ops_part0_fresh op h, List.forall_iff_forall_mem.mp ops_part1_0_fresh op h, List.forall_iff_forall_mem.mp ops_part1_1_fresh op h, List.forall_iff_forall_mem.mp ops_part1_2_fresh op h, List.forall_iff_forall_mem.mp ops_part1_3_fresh op h, List.forall_iff_forall_mem.mp ops_part2_fresh op h]

end Cert.ReferenceIdeal.RV

end
-- ==== Proof.RefRun.lean ====
/- The reference's run read back: every run ends with the result buffer at the composed term of the
   arguments, and with the arguments as they were. -/
module

public import proofs.«01_k».proof.Proof.RefOps
public import Idealize.ShloMosaic.Lib.StableHlo.Run
public import Idealize.ShloMosaic.Lib.Pipeline.Frame

@[expose] public section

set_option Elab.async false

noncomputable section

namespace Cert.ReferenceIdeal.RV

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
/-- `main_v2`'s composed term of the arguments (named: it is used 4 times). -/
def res_main_v2 (V0 : Valuation τ sig (Elt F)) : (Proc.devRef .tc main_v2 : DevRef τ sig).ty.Contents (Elt F) :=
  Host.slice S4x128x32x32 ![0, 0, 0, 0] ![1, 1, 2, 2] (V0 (Proc.devRef .tc main_arg0)) slicesBy_S4x128x64x64_S4x128x32x32_0s1_0s1_0s2_0s2

set_option maxRecDepth 8192 in
/-- `main_v3`'s composed term of the arguments (named: it is used 4 times). -/
def res_main_v3 (V0 : Valuation τ sig (Elt F)) : (Proc.devRef .tc main_v3 : DevRef τ sig).ty.Contents (Elt F) :=
  Host.slice S4x128x32x32 ![0, 0, 0, 1] ![1, 1, 2, 2] (V0 (Proc.devRef .tc main_arg0)) slicesBy_S4x128x64x64_S4x128x32x32_0s1_0s1_0s2_1s2

set_option maxRecDepth 8192 in
/-- `main_v4`'s composed term of the arguments (named: it is used 4 times). -/
def res_main_v4 (V0 : Valuation τ sig (Elt F)) : (Proc.devRef .tc main_v4 : DevRef τ sig).ty.Contents (Elt F) :=
  Host.slice S4x128x32x32 ![0, 0, 1, 0] ![1, 1, 2, 2] (V0 (Proc.devRef .tc main_arg0)) slicesBy_S4x128x64x64_S4x128x32x32_0s1_0s1_1s2_0s2

set_option maxRecDepth 8192 in
/-- `main_v5`'s composed term of the arguments (named: it is used 4 times). -/
def res_main_v5 (V0 : Valuation τ sig (Elt F)) : (Proc.devRef .tc main_v5 : DevRef τ sig).ty.Contents (Elt F) :=
  Host.slice S4x128x32x32 ![0, 0, 1, 1] ![1, 1, 2, 2] (V0 (Proc.devRef .tc main_arg0)) slicesBy_S4x128x64x64_S4x128x32x32_0s1_0s1_1s2_1s2

set_option maxRecDepth 8192 in
/-- `main_v28`'s composed term of the arguments (named: it is used 2 times). -/
def res_main_v28 (V0 : Valuation τ sig (Elt F)) : (Proc.devRef .tc main_v28 : DevRef τ sig).ty.Contents (Elt F) :=
  shapeCast _ (concatenate S4x640x32x32 1 [⟨S4x128x32x32, (Host.reduceWindow FloatOps.maximumf ![1, 1, 3, 3] ![1, 1, 2, 2] ![0, 0, 1, 1] ![0, 0, 1, 1] (V0 (Proc.devRef .tc main_arg0)) (broadcastInDim S_ ![] bcast_S_S_ (constant S_ .f32 0xFF800000#32)) reduceWindows_S4x128x64x64_S4x128x32x32_w1s1p0_0_w1s1p0_0_w3s2p1_1_w3s2p1_1 h_S_)⟩, ⟨S4x512x32x32, ((concatenate S4x512x32x32 1 [⟨S4x128x32x32, ((mulf (addf (addf (addf (res_main_v2 V0) (res_main_v3 V0)) (res_main_v4 V0)) (res_main_v5 V0)) (broadcastInDim S4x128x32x32 ![] bcast_S_S4x128x32x32 (constant S_ .f32 0x3F000000#32))) : (⟨S4x128x32x32, .f32⟩ : BufTy).Contents (Elt F))⟩, ⟨S4x128x32x32, ((mulf (subf (subf (addf (res_main_v4 V0) (res_main_v5 V0)) (res_main_v2 V0)) (res_main_v3 V0)) (broadcastInDim S4x128x32x32 ![] bcast_S_S4x128x32x32 (constant S_ .f32 0x3F000000#32))) : (⟨S4x128x32x32, .f32⟩ : BufTy).Contents (Elt F))⟩, ⟨S4x128x32x32, ((mulf (subf (subf (addf (res_main_v3 V0) (res_main_v5 V0)) (res_main_v2 V0)) (res_main_v4 V0)) (broadcastInDim S4x128x32x32 ![] bcast_S_S4x128x32x32 (constant S_ .f32 0x3F000000#32))) : (⟨S4x128x32x32, .f32⟩ : BufTy).Contents (Elt F))⟩, ⟨S4x128x32x32, ((mulf (addf (subf (subf (res_main_v2 V0) (res_main_v3 V0)) (res_main_v4 V0)) (res_main_v5 V0)) (broadcastInDim S4x128x32x32 ![] bcast_S_S4x128x32x32 (constant S_ .f32 0x3F000000#32))) : (⟨S4x128x32x32, .f32⟩ : BufTy).Contents (Elt F))⟩] concatenates_S4x128x32x32_S4x128x32x32_S4x128x32x32_S4x128x32x32_S4x512x32x32_d1 : (⟨S4x512x32x32, .f32⟩ : BufTy).Contents (Elt F)))⟩] concatenates_S4x128x32x32_S4x512x32x32_S4x640x32x32_d1) shapeCasts_S4x640x32x32_S4x640x1024

set_option maxRecDepth 8192 in
/-- `main_v33`'s composed term of the arguments (named: it is used 2 times). -/
def res_main_v33 (V0 : Valuation τ sig (Elt F)) : (Proc.devRef .tc main_v33 : DevRef τ sig).ty.Contents (Elt F) :=
  shapeCast _ (transpose S4x8x640x128 [0, 2, 1, 3] (shapeCast _ (Host.dotGeneral dot_S4x640x1024_S1024x1024_S4x640x1024_2_0_01_1_n_n none (res_main_v28 V0) (V0 (Proc.devRef .tc main_arg1))) shapeCasts_S4x640x1024_S4x640x8x128) transposes_S4x640x8x128_S4x8x640x128_0_2_1_3) shapeCasts_S4x8x640x128_S32x640x128

set_option maxRecDepth 8192 in
/-- `main_v38`'s composed term of the arguments (named: it is used 2 times). -/
def res_main_v38 (V0 : Valuation τ sig (Elt F)) : (Proc.devRef .tc main_v38 : DevRef τ sig).ty.Contents (Elt F) :=
  transpose S32x8x640x5 [2, 0, 3, 1] (Host.dotGeneral dot_S128x8x5_S32x640x128_S8x5x32x640_0_2_12_01_n_n none (V0 (Proc.devRef .tc main_arg5)) (res_main_v33 V0)) transposes_S8x5x32x640_S32x8x640x5_2_0_3_1

set_option maxRecDepth 8192 in
/-- `main_v40`'s composed term of the arguments (named: it is used 2 times). -/
def res_main_v40 (V0 : Valuation τ sig (Elt F)) : (Proc.devRef .tc main_v40 : DevRef τ sig).ty.Contents (Elt F) :=
  concatenate S32x8x640x10 3 [⟨S32x8x640x5, (res_main_v38 V0)⟩, ⟨S32x8x640x5, (Host.negf (res_main_v38 V0))⟩] concatenates_S32x8x640x5_S32x8x640x5_S32x8x640x10_d3

set_option maxRecDepth 8192 in
/-- `main_call0_v0`'s composed term of the arguments (named: it is used 2 times). -/
def res_main_call0_v0 (V0 : Valuation τ sig (Elt F)) : (Proc.devRef .tc main_call0_v0 : DevRef τ sig).ty.Contents (Elt F) :=
  id (constantI S_ 32 640#32)

set_option maxRecDepth 8192 in
/-- `main_call0_v2`'s composed term of the arguments (named: it is used 3 times). -/
def res_main_call0_v2 (V0 : Valuation τ sig (Elt F)) : (Proc.devRef .tc main_call0_v2 : DevRef τ sig).ty.Contents (Elt F) :=
  select (cmpi .eq (res_main_call0_v0 V0) (constantI S_ 32 0#32)) (constantI S_ 32 1#32) (res_main_call0_v0 V0)

set_option maxRecDepth 8192 in
/-- `main_call0_v4`'s composed term of the arguments (named: it is used 4 times). -/
def res_main_call0_v4 (V0 : Valuation τ sig (Elt F)) : (Proc.devRef .tc main_call0_v4 : DevRef τ sig).ty.Contents (Elt F) :=
  Host.remsi (broadcastInDim S1x5120 ![1] bcast_S5120_S1x5120_1 (iotaInDim S5120 32 0)) (broadcastInDim S1x5120 ![] bcast_S_S1x5120 (res_main_call0_v2 V0))

set_option maxRecDepth 8192 in
/-- `main_v55`'s composed term of the arguments (named: it is used 2 times). -/
def res_main_v55 (V0 : Valuation τ sig (Elt F)) : (Proc.devRef .tc main_v55 : DevRef τ sig).ty.Contents (Elt F) :=
  addi (muli (shapeCast _ (addi (shapeCast _ ((Host.topK S32x8x640x1 3 (FloatOps.cmpfTotal .gt) (res_main_v40 V0) sliceFits_S32x8x640x10_S32x8x640x1).2) shapeCasts_S32x8x640x1_S32x8x640) (broadcastInDim S32x8x640 ![0, 1, 2] bcast_S1x8x1_S32x8x640_0_1_2 (broadcastInDim S1x8x1 ![1] bcast_S8_S1x8x1_1 (muli (iotaInDim S8 32 0) (broadcastInDim S8 ![] bcast_S_S8 (constantI S_ 32 10#32)))))) shapeCasts_S32x8x640_S32x5120) (broadcastInDim S32x5120 ![] bcast_S_S32x5120 (constantI S_ 32 640#32))) (broadcastInDim S32x5120 ![0, 1] bcast_S1x5120_S32x5120_0_1 (select (andi (cmpi .ne (cmpi .slt (res_main_call0_v4 V0) (broadcastInDim S1x5120 ![] bcast_S_S1x5120 (constantI S_ 32 0#32))) (broadcastInDim S1x5120 ![] bcast_S_S1x5120 (cmpi .slt (res_main_call0_v2 V0) (constantI S_ 32 0#32)))) (cmpi .ne (res_main_call0_v4 V0) (broadcastInDim S1x5120 ![] bcast_S_S1x5120 (constantI S_ 32 0#32)))) (addi (res_main_call0_v4 V0) (broadcastInDim S1x5120 ![] bcast_S_S1x5120 (res_main_call0_v2 V0))) (res_main_call0_v4 V0)))

set_option maxRecDepth 8192 in
/-- `main_call1_v0`'s composed term of the arguments (named: it is used 2 times). -/
def res_main_call1_v0 (V0 : Valuation τ sig (Elt F)) : (Proc.devRef .tc main_call1_v0 : DevRef τ sig).ty.Contents (Elt F) :=
  iotaInDim S32x5120 32 1

set_option maxRecDepth 8192 in
/-- `main_v56`'s composed term of the arguments (named: it is used 3 times). -/
def res_main_v56 (V0 : Valuation τ sig (Elt F)) : (Proc.devRef .tc main_v56 : DevRef τ sig).ty.Contents (Elt F) :=
  (Host.sort2 S32x5120 1 comparator_i32_i32_d1 (res_main_v55 V0) (res_main_call1_v0 V0)).2

set_option maxRecDepth 8192 in
/-- `main_call2_v0`'s composed term of the arguments (named: it is used 2 times). -/
def res_main_call2_v0 (V0 : Valuation τ sig (Elt F)) : (Proc.devRef .tc main_call2_v0 : DevRef τ sig).ty.Contents (Elt F) :=
  iotaInDim S32x5120 32 1

set_option maxRecDepth 8192 in
/-- `main_v57`'s composed term of the arguments (named: it is used 6 times). -/
def res_main_v57 (V0 : Valuation τ sig (Elt F)) : (Proc.devRef .tc main_v57 : DevRef τ sig).ty.Contents (Elt F) :=
  (Host.sort2 S32x5120 1 comparator_i32_i32_d1 (res_main_v56 V0) (res_main_call2_v0 V0)).2

set_option maxRecDepth 8192 in
/-- `main_call3_v0`'s composed term of the arguments (named: it is used 2 times). -/
def res_main_call3_v0 (V0 : Valuation τ sig (Elt F)) : (Proc.devRef .tc main_call3_v0 : DevRef τ sig).ty.Contents (Elt F) :=
  id (constantI S_ 32 640#32)

set_option maxRecDepth 8192 in
/-- `main_call3_v2`'s composed term of the arguments (named: it is used 3 times). -/
def res_main_call3_v2 (V0 : Valuation τ sig (Elt F)) : (Proc.devRef .tc main_call3_v2 : DevRef τ sig).ty.Contents (Elt F) :=
  select (cmpi .eq (res_main_call3_v0 V0) (constantI S_ 32 0#32)) (constantI S_ 32 1#32) (res_main_call3_v0 V0)

set_option maxRecDepth 8192 in
/-- `main_call3_v4`'s composed term of the arguments (named: it is used 4 times). -/
def res_main_call3_v4 (V0 : Valuation τ sig (Elt F)) : (Proc.devRef .tc main_call3_v4 : DevRef τ sig).ty.Contents (Elt F) :=
  Host.remsi (res_main_v56 V0) (broadcastInDim S32x5120 ![] bcast_S_S32x5120 (res_main_call3_v2 V0))

set_option maxRecDepth 8192 in
/-- `main_v58`'s composed term of the arguments (named: it is used 7 times). -/
def res_main_v58 (V0 : Valuation τ sig (Elt F)) : (Proc.devRef .tc main_v58 : DevRef τ sig).ty.Contents (Elt F) :=
  select (andi (cmpi .ne (cmpi .slt (res_main_call3_v4 V0) (broadcastInDim S32x5120 ![] bcast_S_S32x5120 (constantI S_ 32 0#32))) (broadcastInDim S32x5120 ![] bcast_S_S32x5120 (cmpi .slt (res_main_call3_v2 V0) (constantI S_ 32 0#32)))) (cmpi .ne (res_main_call3_v4 V0) (broadcastInDim S32x5120 ![] bcast_S_S32x5120 (constantI S_ 32 0#32)))) (addi (res_main_call3_v4 V0) (broadcastInDim S32x5120 ![] bcast_S_S32x5120 (res_main_call3_v2 V0))) (res_main_call3_v4 V0)

set_option maxRecDepth 8192 in
/-- `main_v73`'s composed term of the arguments (named: it is used 4 times). -/
def res_main_v73 (V0 : Valuation τ sig (Elt F)) : (Proc.devRef .tc main_v73 : DevRef τ sig).ty.Contents (Elt F) :=
  shapeCast _ (res_main_v58 V0) shapeCasts_S32x5120_S32x80x64

set_option maxRecDepth 8192 in
/-- `main_v74`'s composed term of the arguments (named: it is used 4 times). -/
def res_main_v74 (V0 : Valuation τ sig (Elt F)) : (Proc.devRef .tc main_v74 : DevRef τ sig).ty.Contents (Elt F) :=
  shapeCast _ (Host.gather gather_S32x640x128_S32x5120x1_S32x5120x128_2_1_0_0_1_2_11128 (res_main_v33 V0) (broadcastInDim S32x5120x1 ![0, 1] bcast_S32x5120_S32x5120x1_0_1 (select (cmpi .slt (res_main_v58 V0) (broadcastInDim S32x5120 ![] bcast_S_S32x5120 (constantI S_ 32 0#32))) (addi (res_main_v58 V0) (broadcastInDim S32x5120 ![] bcast_S_S32x5120 (constantI S_ 32 640#32))) (res_main_v58 V0)))) shapeCasts_S32x5120x128_S32x80x64x128

set_option maxRecDepth 8192 in
/-- `main_v75`'s composed term of the arguments (named: it is used 3 times). -/
def res_main_v75 (V0 : Valuation τ sig (Elt F)) : (Proc.devRef .tc main_v75 : DevRef τ sig).ty.Contents (Elt F) :=
  shapeCast _ (Host.gather gather_S32x640x128_S32x5120x1_S32x5120x128_2_1_0_0_1_2_11128 (shapeCast _ (transpose S4x8x640x128 [0, 2, 1, 3] (shapeCast _ (Host.dotGeneral dot_S4x640x1024_S1024x1024_S4x640x1024_2_0_01_1_n_n none (res_main_v28 V0) (V0 (Proc.devRef .tc main_arg2))) shapeCasts_S4x640x1024_S4x640x8x128) transposes_S4x640x8x128_S4x8x640x128_0_2_1_3) shapeCasts_S4x8x640x128_S32x640x128) (broadcastInDim S32x5120x1 ![0, 1] bcast_S32x5120_S32x5120x1_0_1 (select (cmpi .slt (res_main_v58 V0) (broadcastInDim S32x5120 ![] bcast_S_S32x5120 (constantI S_ 32 0#32))) (addi (res_main_v58 V0) (broadcastInDim S32x5120 ![] bcast_S_S32x5120 (constantI S_ 32 640#32))) (res_main_v58 V0)))) shapeCasts_S32x5120x128_S32x80x64x128

set_option maxRecDepth 8192 in
/-- `main_v80`'s composed term of the arguments (named: it is used 3 times). -/
def res_main_v80 (V0 : Valuation τ sig (Elt F)) : (Proc.devRef .tc main_v80 : DevRef τ sig).ty.Contents (Elt F) :=
  Host.divf (res_main_v74 V0) (broadcastInDim S32x80x64x128 ![0, 1, 2, 3] bcast_S32x80x64x1_S32x80x64x128_0_1_2_3 (maximumf (Host.sqrt (broadcastInDim S32x80x64x1 ![0, 1, 2] bcast_S32x80x64_S32x80x64x1_0_1_2 (Host.reduceAdd (mulf (res_main_v74 V0) (res_main_v74 V0)) (constant S_ .f32 0x00000000#32) reducesTo_S32x80x64x128_S32x80x64_d3 h_S_))) (broadcastInDim S32x80x64x1 ![] bcast_S_S32x80x64x1 (constant S_ .f32 0x2B8CBCCC#32))))

set_option maxRecDepth 8192 in
/-- `main_v95`'s composed term of the arguments (named: it is used 3 times). -/
def res_main_v95 (V0 : Valuation τ sig (Elt F)) : (Proc.devRef .tc main_v95 : DevRef τ sig).ty.Contents (Elt F) :=
  select (cmpi .eq (broadcastInDim S32x80x64x128 ![0, 1, 2, 3] bcast_S32x80x64x1_S32x80x64x128_0_1_2_3 (broadcastInDim S32x80x64x1 ![0, 1, 2] bcast_S32x80x64_S32x80x64x1_0_1_2 (res_main_v73 V0))) (broadcastInDim S32x80x64x128 ![0, 1, 2, 3] bcast_S32x80x1x128_S32x80x64x128_0_1_2_3 (broadcastInDim S32x80x1x128 ![0, 1, 3] bcast_S32x80x128_S32x80x1x128_0_1_3 (concatenate S32x80x128 2 [⟨S32x80x64, (res_main_v73 V0)⟩, ⟨S32x80x64, (concatenate S32x80x64 1 [⟨S32x1x64, (extractStridedSlice S32x1x64 ![0, 79, 0] (res_main_v73 V0) slices_S32x80x64_S32x1x64_0_79_0)⟩, ⟨S32x79x64, (extractStridedSlice S32x79x64 ![0, 0, 0] (res_main_v73 V0) slices_S32x80x64_S32x79x64_0_0_0)⟩] concatenates_S32x1x64_S32x79x64_S32x80x64_d1)⟩] concatenates_S32x80x64_S32x80x64_S32x80x128_d2)))) (broadcastInDim S32x80x64x128 ![] bcast_S_S32x80x64x128 (id (constant S_ .f32 0xC7435000#32))) (mulf (Host.dotGeneral dot_S32x80x64x128_S32x80x128x128_S32x80x64x128_3_3_2_2_01_01 none (res_main_v74 V0) (concatenate S32x80x128x128 2 [⟨S32x80x64x128, (res_main_v80 V0)⟩, ⟨S32x80x64x128, (concatenate S32x80x64x128 1 [⟨S32x1x64x128, (extractStridedSlice S32x1x64x128 ![0, 79, 0, 0] (res_main_v80 V0) slices_S32x80x64x128_S32x1x64x128_0_79_0_0)⟩, ⟨S32x79x64x128, (extractStridedSlice S32x79x64x128 ![0, 0, 0, 0] (res_main_v80 V0) slices_S32x80x64x128_S32x79x64x128_0_0_0_0)⟩] concatenates_S32x1x64x128_S32x79x64x128_S32x80x64x128_d1)⟩] concatenates_S32x80x64x128_S32x80x64x128_S32x80x128x128_d2)) (broadcastInDim S32x80x64x128 ![] bcast_S_S32x80x64x128 (constant S_ .f32 0x3DB504F3#32)))

set_option maxRecDepth 8192 in
/-- `main_v97`'s composed term of the arguments (named: it is used 2 times). -/
def res_main_v97 (V0 : Valuation τ sig (Elt F)) : (Proc.devRef .tc main_v97 : DevRef τ sig).ty.Contents (Elt F) :=
  broadcastInDim S32x80x64x1 ![0, 1, 2] bcast_S32x80x64_S32x80x64x1_0_1_2 (Host.reduce FloatOps.maximumf (res_main_v95 V0) (constant S_ .f32 0xFF800000#32) reducesTo_S32x80x64x128_S32x80x64_d3 h_S_)

set_option maxRecDepth 8192 in
/-- `main_v104`'s composed term of the arguments (named: it is used 2 times). -/
def res_main_v104 (V0 : Valuation τ sig (Elt F)) : (Proc.devRef .tc main_v104 : DevRef τ sig).ty.Contents (Elt F) :=
  addf (Host.log (broadcastInDim S32x80x64x1 ![0, 1, 2] bcast_S32x80x64_S32x80x64x1_0_1_2 (Host.reduceAdd (Host.exp (subf (res_main_v95 V0) (broadcastInDim S32x80x64x128 ![0, 1, 2, 3] bcast_S32x80x64x1_S32x80x64x128_0_1_2_3 (res_main_v97 V0)))) (constant S_ .f32 0x00000000#32) reducesTo_S32x80x64x128_S32x80x64_d3 h_S_))) (res_main_v97 V0)

set_option maxRecDepth 8192 in
/-- `main_v126`'s composed term of the arguments (named: it is used 3 times). -/
def res_main_v126 (V0 : Valuation τ sig (Elt F)) : (Proc.devRef .tc main_v126 : DevRef τ sig).ty.Contents (Elt F) :=
  shapeCast _ (Host.gather gather_S32x5120_S32x5120x1_S32x5120_n_1_0_0_1_2_11 (shapeCast _ (res_main_v104 V0) shapeCasts_S32x80x64x1_S32x5120) (broadcastInDim S32x5120x1 ![0, 1] bcast_S32x5120_S32x5120x1_0_1 (select (cmpi .slt (res_main_v57 V0) (broadcastInDim S32x5120 ![] bcast_S_S32x5120 (constantI S_ 32 0#32))) (addi (res_main_v57 V0) (broadcastInDim S32x5120 ![] bcast_S_S32x5120 (constantI S_ 32 5120#32))) (res_main_v57 V0)))) shapeCasts_S32x5120_S32x8x640x1

set_option maxRecDepth 8192 in
/-- `main_v128`'s composed term of the arguments (named: it is used 2 times). -/
def res_main_v128 (V0 : Valuation τ sig (Elt F)) : (Proc.devRef .tc main_v128 : DevRef τ sig).ty.Contents (Elt F) :=
  broadcastInDim S32x1x640x1 ![0, 2, 3] bcast_S32x640x1_S32x1x640x1_0_2_3 (Host.reduce FloatOps.maximumf (res_main_v126 V0) (constant S_ .f32 0xFF800000#32) reducesTo_S32x8x640x1_S32x640x1_d1 h_S_)

/-- The device's buffer contents before @main's first window. -/
def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl
theorem val0_main_arg1 (V0 : Valuation τ sig (Elt F)) : val0 V0 (no_index (Proc.devRef .tc main_arg1)) = V0 (Proc.devRef .tc main_arg1) := rfl
theorem val0_main_arg2 (V0 : Valuation τ sig (Elt F)) : val0 V0 (no_index (Proc.devRef .tc main_arg2)) = V0 (Proc.devRef .tc main_arg2) := rfl
theorem val0_main_arg3 (V0 : Valuation τ sig (Elt F)) : val0 V0 (no_index (Proc.devRef .tc main_arg3)) = V0 (Proc.devRef .tc main_arg3) := rfl
theorem val0_main_arg4 (V0 : Valuation τ sig (Elt F)) : val0 V0 (no_index (Proc.devRef .tc main_arg4)) = V0 (Proc.devRef .tc main_arg4) := rfl
theorem val0_main_arg5 (V0 : Valuation τ sig (Elt F)) : val0 V0 (no_index (Proc.devRef .tc main_arg5)) = V0 (Proc.devRef .tc main_arg5) := rfl

/-- The device's buffer contents after @main's first 1 window. -/
def val1 (V0 : Valuation τ sig (Elt F)) : Valuation τ sig (Elt F) := after ops_part0 (val0 V0)
/-- The buffers that window `main_part0`'s operations write. -/
abbrev ops_part0_W : List (Ref sig .tc) := [main_cst, main_v0, main_v1, main_v2, main_v3, main_v4, main_v5, main_v6, main_v7, main_v8, main_cst_0, main_v9, main_v10, main_v11, main_v12, main_v13, main_cst_1, main_v14, main_v15, main_v16, main_v17, main_v18, main_cst_2, main_v19, main_v20, main_v21, main_v22, main_v23, main_cst_3, main_v24, main_v25, main_v26, main_v27, main_v28, main_v29, main_v30, main_v31, main_v32, main_v33, main_v34, main_v35, main_v36, main_v37, main_v38, main_v39, main_v40, main_values, main_indices, main_v41, main_v42, main_c, main_v43, main_v44, main_v45, main_v46, main_v47, main_v48, main_v49, main_v50, main_c_4]
set_option maxRecDepth 8192 in
theorem ops_part0_writes : (ops_part0 : List (HloOp τ sig (Elt F))).Forall fun op => op.writes ⊆ (ops_part0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `main_part0` does not write keeps its contents through it. -/
theorem val1_keep (V0 : Valuation τ sig (Elt F)) (r : Ref sig .tc) (h : r ∉ ops_part0_W) :
    val1 V0 (Proc.devRef .tc r) = val0 V0 (Proc.devRef .tc r) :=
  after_of_writes_sub ops_part0 _ ops_part0_writes h
theorem val1_main_arg0 (V0 : Valuation τ sig (Elt F)) : val1 V0 (no_index (Proc.devRef .tc main_arg0)) = V0 (Proc.devRef .tc main_arg0) :=
  (val1_keep V0 main_arg0 (by decide)).trans (val0_main_arg0 V0)
theorem val1_main_arg1 (V0 : Valuation τ sig (Elt F)) : val1 V0 (no_index (Proc.devRef .tc main_arg1)) = V0 (Proc.devRef .tc main_arg1) :=
  (val1_keep V0 main_arg1 (by decide)).trans (val0_main_arg1 V0)
theorem val1_main_arg2 (V0 : Valuation τ sig (Elt F)) : val1 V0 (no_index (Proc.devRef .tc main_arg2)) = V0 (Proc.devRef .tc main_arg2) :=
  (val1_keep V0 main_arg2 (by decide)).trans (val0_main_arg2 V0)
theorem val1_main_arg3 (V0 : Valuation τ sig (Elt F)) : val1 V0 (no_index (Proc.devRef .tc main_arg3)) = V0 (Proc.devRef .tc main_arg3) :=
  (val1_keep V0 main_arg3 (by decide)).trans (val0_main_arg3 V0)
theorem val1_main_arg4 (V0 : Valuation τ sig (Elt F)) : val1 V0 (no_index (Proc.devRef .tc main_arg4)) = V0 (Proc.devRef .tc main_arg4) :=
  (val1_keep V0 main_arg4 (by decide)).trans (val0_main_arg4 V0)
theorem val1_main_arg5 (V0 : Valuation τ sig (Elt F)) : val1 V0 (no_index (Proc.devRef .tc main_arg5)) = V0 (Proc.devRef .tc main_arg5) :=
  (val1_keep V0 main_arg5 (by decide)).trans (val0_main_arg5 V0)
set_option maxRecDepth 8192 in
set_option maxHeartbeats 2000000 in
theorem val1_main_v33 (V0 : Valuation τ sig (Elt F)) : val1 V0 (no_index (Proc.devRef .tc main_v33)) = res_main_v33 V0 := by
  unfold val1
  simp only [ops_part0]
  after_results_simp
  try dsimp only [Matrix.cons_val]
  try after_results_simp
  simp only [val0_main_arg1, val0_main_arg0] <;> rfl
set_option maxRecDepth 8192 in
set_option maxHeartbeats 2000000 in
theorem val1_main_v36 (V0 : Valuation τ sig (Elt F)) : val1 V0 (no_index (Proc.devRef .tc main_v36)) = shapeCast _ (transpose S4x8x640x128 [0, 2, 1, 3] (shapeCast _ (Host.dotGeneral dot_S4x640x1024_S1024x1024_S4x640x1024_2_0_01_1_n_n none (res_main_v28 V0) (V0 (Proc.devRef .tc main_arg2))) shapeCasts_S4x640x1024_S4x640x8x128) transposes_S4x640x8x128_S4x8x640x128_0_2_1_3) shapeCasts_S4x8x640x128_S32x640x128 := by
  unfold val1
  simp only [ops_part0]
  after_results_simp
  try dsimp only [Matrix.cons_val]
  try after_results_simp
  simp only [val0_main_arg2, val0_main_arg0] <;> rfl
set_option maxRecDepth 8192 in
set_option maxHeartbeats 2000000 in
theorem val1_main_v48 (V0 : Valuation τ sig (Elt F)) : val1 V0 (no_index (Proc.devRef .tc main_v48)) = shapeCast _ (addi (shapeCast _ ((Host.topK S32x8x640x1 3 (FloatOps.cmpfTotal .gt) (res_main_v40 V0) sliceFits_S32x8x640x10_S32x8x640x1).2) shapeCasts_S32x8x640x1_S32x8x640) (broadcastInDim S32x8x640 ![0, 1, 2] bcast_S1x8x1_S32x8x640_0_1_2 (broadcastInDim S1x8x1 ![1] bcast_S8_S1x8x1_1 (muli (iotaInDim S8 32 0) (broadcastInDim S8 ![] bcast_S_S8 (constantI S_ 32 10#32)))))) shapeCasts_S32x8x640_S32x5120 := by
  unfold val1
  simp only [ops_part0]
  after_results_simp
  try dsimp only [Matrix.cons_val]
  try after_results_simp
  simp only [val0_main_arg1, val0_main_arg0, val0_main_arg5] <;> rfl
set_option maxRecDepth 8192 in
set_option maxHeartbeats 2000000 in
theorem val1_main_v50 (V0 : Valuation τ sig (Elt F)) : val1 V0 (no_index (Proc.devRef .tc main_v50)) = broadcastInDim S1x5120 ![1] bcast_S5120_S1x5120_1 (iotaInDim S5120 32 0) := by
  unfold val1
  simp only [ops_part0]
  after_results_simp
  try dsimp only [Matrix.cons_val]
  try after_results_simp
  all_goals rfl
set_option maxRecDepth 8192 in
set_option maxHeartbeats 2000000 in
theorem val1_main_c_4 (V0 : Valuation τ sig (Elt F)) : val1 V0 (no_index (Proc.devRef .tc main_c_4)) = constantI S_ 32 640#32 := by
  unfold val1
  simp only [ops_part0]
  after_results_simp
  try dsimp only [Matrix.cons_val]
  try after_results_simp
  all_goals rfl

/-- The device's buffer contents after @main's first 90 operations. -/
def val1_1 (V0 : Valuation τ sig (Elt F)) : Valuation τ sig (Elt F) := after ops_part1_0 (val1 V0)
/-- The buffers that window `ops_part1_0`'s operations write. -/
abbrev ops_part1_0_W : List (Ref sig .tc) := [main_call0_v0, main_call0_c, main_call0_v1, main_call0_c_0, main_call0_v2, main_call0_v3, main_call0_v4, main_call0_c_1, main_call0_v5, main_call0_v6, main_call0_c_2, main_call0_v7, main_call0_v8, main_call0_c_3, main_call0_v9, main_call0_v10, main_call0_v11, main_call0_v12, main_call0_v13, main_call0_v14, main_v51, main_c_5, main_v52, main_v53, main_v54, main_v55, main_call1_v0, main_call1_v1_0, main_v56, main_call2_v0]
set_option maxRecDepth 8192 in
theorem ops_part1_0_writes : (ops_part1_0 : List (HloOp τ sig (Elt F))).Forall fun op => op.writes ⊆ (ops_part1_0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part1_0` does not write keeps its contents through it. -/
theorem val1_1_keep (V0 : Valuation τ sig (Elt F)) (r : Ref sig .tc) (h : r ∉ ops_part1_0_W) :
    val1_1 V0 (Proc.devRef .tc r) = val1 V0 (Proc.devRef .tc r) :=
  after_of_writes_sub ops_part1_0 _ ops_part1_0_writes h
theorem val1_1_main_arg0 (V0 : Valuation τ sig (Elt F)) : val1_1 V0 (no_index (Proc.devRef .tc main_arg0)) = V0 (Proc.devRef .tc main_arg0) :=
  (val1_1_keep V0 main_arg0 (by decide)).trans (val1_main_arg0 V0)
theorem val1_1_main_arg1 (V0 : Valuation τ sig (Elt F)) : val1_1 V0 (no_index (Proc.devRef .tc main_arg1)) = V0 (Proc.devRef .tc main_arg1) :=
  (val1_1_keep V0 main_arg1 (by decide)).trans (val1_main_arg1 V0)
theorem val1_1_main_arg2 (V0 : Valuation τ sig (Elt F)) : val1_1 V0 (no_index (Proc.devRef .tc main_arg2)) = V0 (Proc.devRef .tc main_arg2) :=
  (val1_1_keep V0 main_arg2 (by decide)).trans (val1_main_arg2 V0)
theorem val1_1_main_arg3 (V0 : Valuation τ sig (Elt F)) : val1_1 V0 (no_index (Proc.devRef .tc main_arg3)) = V0 (Proc.devRef .tc main_arg3) :=
  (val1_1_keep V0 main_arg3 (by decide)).trans (val1_main_arg3 V0)
theorem val1_1_main_arg4 (V0 : Valuation τ sig (Elt F)) : val1_1 V0 (no_index (Proc.devRef .tc main_arg4)) = V0 (Proc.devRef .tc main_arg4) :=
  (val1_1_keep V0 main_arg4 (by decide)).trans (val1_main_arg4 V0)
theorem val1_1_main_arg5 (V0 : Valuation τ sig (Elt F)) : val1_1 V0 (no_index (Proc.devRef .tc main_arg5)) = V0 (Proc.devRef .tc main_arg5) :=
  (val1_1_keep V0 main_arg5 (by decide)).trans (val1_main_arg5 V0)
theorem val1_1_main_v33 (V0 : Valuation τ sig (Elt F)) : val1_1 V0 (no_index (Proc.devRef .tc main_v33)) = res_main_v33 V0 :=
  (val1_1_keep V0 main_v33 (by decide)).trans (val1_main_v33 V0)
theorem val1_1_main_v36 (V0 : Valuation τ sig (Elt F)) : val1_1 V0 (no_index (Proc.devRef .tc main_v36)) = shapeCast _ (transpose S4x8x640x128 [0, 2, 1, 3] (shapeCast _ (Host.dotGeneral dot_S4x640x1024_S1024x1024_S4x640x1024_2_0_01_1_n_n none (res_main_v28 V0) (V0 (Proc.devRef .tc main_arg2))) shapeCasts_S4x640x1024_S4x640x8x128) transposes_S4x640x8x128_S4x8x640x128_0_2_1_3) shapeCasts_S4x8x640x128_S32x640x128 :=
  (val1_1_keep V0 main_v36 (by decide)).trans (val1_main_v36 V0)
set_option maxRecDepth 8192 in
set_option maxHeartbeats 2000000 in
theorem val1_1_main_v56 (V0 : Valuation τ sig (Elt F)) : val1_1 V0 (no_index (Proc.devRef .tc main_v56)) = res_main_v56 V0 := by
  unfold val1_1
  simp only [ops_part1_0, TRef.binary, TRef.nullary, TRef.ternary, TRef.unary, TRef.toBuf, TRef.ofBuf, cast_eq]
  after_results_simp
  simp only [val1_main_c_4, val1_main_v50, val1_main_v48] <;> rfl
set_option maxRecDepth 8192 in
set_option maxHeartbeats 2000000 in
theorem val1_1_main_call2_v0 (V0 : Valuation τ sig (Elt F)) : val1_1 V0 (no_index (Proc.devRef .tc main_call2_v0)) = res_main_call2_v0 V0 := by
  unfold val1_1
  simp only [ops_part1_0, TRef.binary, TRef.nullary, TRef.ternary, TRef.unary, TRef.toBuf, TRef.ofBuf, cast_eq]
  after_results_simp
  all_goals rfl

/-- The device's buffer contents after @main's first 120 operations. -/
def val1_2 (V0 : Valuation τ sig (Elt F)) : Valuation τ sig (Elt F) := after ops_part1_1 (val1_1 V0)
/-- The buffers that window `ops_part1_1`'s operations write. -/
abbrev ops_part1_1_W : List (Ref sig .tc) := [main_call2_v1_0, main_v57, main_c_6, main_call3_v0, main_call3_c, main_call3_v1, main_call3_c_0, main_call3_v2, main_call3_v3, main_call3_v4, main_call3_c_1, main_call3_v5, main_call3_v6, main_call3_c_2, main_call3_v7, main_call3_v8, main_call3_c_3, main_call3_v9, main_call3_v10, main_call3_v11, main_call3_v12, main_call3_v13, main_call3_v14, main_v58, main_c_7, main_v59, main_v60, main_c_8, main_v61, main_v62]
set_option maxRecDepth 8192 in
theorem ops_part1_1_writes : (ops_part1_1 : List (HloOp τ sig (Elt F))).Forall fun op => op.writes ⊆ (ops_part1_1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part1_1` does not write keeps its contents through it. -/
theorem val1_2_keep (V0 : Valuation τ sig (Elt F)) (r : Ref sig .tc) (h : r ∉ ops_part1_1_W) :
    val1_2 V0 (Proc.devRef .tc r) = val1_1 V0 (Proc.devRef .tc r) :=
  after_of_writes_sub ops_part1_1 _ ops_part1_1_writes h
theorem val1_2_main_arg0 (V0 : Valuation τ sig (Elt F)) : val1_2 V0 (no_index (Proc.devRef .tc main_arg0)) = V0 (Proc.devRef .tc main_arg0) :=
  (val1_2_keep V0 main_arg0 (by decide)).trans (val1_1_main_arg0 V0)
theorem val1_2_main_arg1 (V0 : Valuation τ sig (Elt F)) : val1_2 V0 (no_index (Proc.devRef .tc main_arg1)) = V0 (Proc.devRef .tc main_arg1) :=
  (val1_2_keep V0 main_arg1 (by decide)).trans (val1_1_main_arg1 V0)
theorem val1_2_main_arg2 (V0 : Valuation τ sig (Elt F)) : val1_2 V0 (no_index (Proc.devRef .tc main_arg2)) = V0 (Proc.devRef .tc main_arg2) :=
  (val1_2_keep V0 main_arg2 (by decide)).trans (val1_1_main_arg2 V0)
theorem val1_2_main_arg3 (V0 : Valuation τ sig (Elt F)) : val1_2 V0 (no_index (Proc.devRef .tc main_arg3)) = V0 (Proc.devRef .tc main_arg3) :=
  (val1_2_keep V0 main_arg3 (by decide)).trans (val1_1_main_arg3 V0)
theorem val1_2_main_arg4 (V0 : Valuation τ sig (Elt F)) : val1_2 V0 (no_index (Proc.devRef .tc main_arg4)) = V0 (Proc.devRef .tc main_arg4) :=
  (val1_2_keep V0 main_arg4 (by decide)).trans (val1_1_main_arg4 V0)
theorem val1_2_main_arg5 (V0 : Valuation τ sig (Elt F)) : val1_2 V0 (no_index (Proc.devRef .tc main_arg5)) = V0 (Proc.devRef .tc main_arg5) :=
  (val1_2_keep V0 main_arg5 (by decide)).trans (val1_1_main_arg5 V0)
theorem val1_2_main_v33 (V0 : Valuation τ sig (Elt F)) : val1_2 V0 (no_index (Proc.devRef .tc main_v33)) = res_main_v33 V0 :=
  (val1_2_keep V0 main_v33 (by decide)).trans (val1_1_main_v33 V0)
theorem val1_2_main_v36 (V0 : Valuation τ sig (Elt F)) : val1_2 V0 (no_index (Proc.devRef .tc main_v36)) = shapeCast _ (transpose S4x8x640x128 [0, 2, 1, 3] (shapeCast _ (Host.dotGeneral dot_S4x640x1024_S1024x1024_S4x640x1024_2_0_01_1_n_n none (res_main_v28 V0) (V0 (Proc.devRef .tc main_arg2))) shapeCasts_S4x640x1024_S4x640x8x128) transposes_S4x640x8x128_S4x8x640x128_0_2_1_3) shapeCasts_S4x8x640x128_S32x640x128 :=
  (val1_2_keep V0 main_v36 (by decide)).trans (val1_1_main_v36 V0)
set_option maxRecDepth 8192 in
set_option maxHeartbeats 2000000 in
theorem val1_2_main_v57 (V0 : Valuation τ sig (Elt F)) : val1_2 V0 (no_index (Proc.devRef .tc main_v57)) = res_main_v57 V0 := by
  unfold val1_2
  simp only [ops_part1_1, TRef.binary, TRef.nullary, TRef.ternary, TRef.unary, TRef.toBuf, TRef.ofBuf, cast_eq]
  after_results_simp
  simp only [val1_1_main_call2_v0, val1_1_main_v56] <;> rfl
set_option maxRecDepth 8192 in
set_option maxHeartbeats 2000000 in
theorem val1_2_main_v58 (V0 : Valuation τ sig (Elt F)) : val1_2 V0 (no_index (Proc.devRef .tc main_v58)) = res_main_v58 V0 := by
  unfold val1_2
  simp only [ops_part1_1, TRef.binary, TRef.nullary, TRef.ternary, TRef.unary, TRef.toBuf, TRef.ofBuf, cast_eq]
  after_results_simp
  simp only [val1_1_main_v56] <;> rfl
set_option maxRecDepth 8192 in
set_option maxHeartbeats 2000000 in
theorem val1_2_main_v60 (V0 : Valuation τ sig (Elt F)) : val1_2 V0 (no_index (Proc.devRef .tc main_v60)) = cmpi .slt (res_main_v58 V0) (broadcastInDim S32x5120 ![] bcast_S_S32x5120 (constantI S_ 32 0#32)) := by
  unfold val1_2
  simp only [ops_part1_1, TRef.binary, TRef.nullary, TRef.ternary, TRef.unary, TRef.toBuf, TRef.ofBuf, cast_eq]
  after_results_simp
  simp only [val1_1_main_v56] <;> rfl
set_option maxRecDepth 8192 in
set_option maxHeartbeats 2000000 in
theorem val1_2_main_v62 (V0 : Valuation τ sig (Elt F)) : val1_2 V0 (no_index (Proc.devRef .tc main_v62)) = addi (res_main_v58 V0) (broadcastInDim S32x5120 ![] bcast_S_S32x5120 (constantI S_ 32 640#32)) := by
  unfold val1_2
  simp only [ops_part1_1, TRef.binary, TRef.nullary, TRef.ternary, TRef.unary, TRef.toBuf, TRef.ofBuf, cast_eq]
  after_results_simp
  simp only [val1_1_main_v56] <;> rfl

/-- The device's buffer contents after @main's first 150 operations. -/
def val1_3 (V0 : Valuation τ sig (Elt F)) : Valuation τ sig (Elt F) := after ops_part1_2 (val1_2 V0)
/-- The buffers that window `ops_part1_2`'s operations write. -/
abbrev ops_part1_2_W : List (Ref sig .tc) := [main_v63, main_v64, main_v65, main_c_9, main_v66, main_v67, main_c_10, main_v68, main_v69, main_v70, main_v71, main_v72, main_v73, main_v74, main_v75, main_call4_v0, main_call4_cst, main_call4_v1, main_call4_v2, main_v76, main_cst_11, main_v77, main_v78, main_v79, main_v80, main_call5_v0, main_call5_v1, main_v81, main_v82, main_call6_v0]
set_option maxRecDepth 8192 in
theorem ops_part1_2_writes : (ops_part1_2 : List (HloOp τ sig (Elt F))).Forall fun op => op.writes ⊆ (ops_part1_2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part1_2` does not write keeps its contents through it. -/
theorem val1_3_keep (V0 : Valuation τ sig (Elt F)) (r : Ref sig .tc) (h : r ∉ ops_part1_2_W) :
    val1_3 V0 (Proc.devRef .tc r) = val1_2 V0 (Proc.devRef .tc r) :=
  after_of_writes_sub ops_part1_2 _ ops_part1_2_writes h
theorem val1_3_main_arg0 (V0 : Valuation τ sig (Elt F)) : val1_3 V0 (no_index (Proc.devRef .tc main_arg0)) = V0 (Proc.devRef .tc main_arg0) :=
  (val1_3_keep V0 main_arg0 (by decide)).trans (val1_2_main_arg0 V0)
theorem val1_3_main_arg1 (V0 : Valuation τ sig (Elt F)) : val1_3 V0 (no_index (Proc.devRef .tc main_arg1)) = V0 (Proc.devRef .tc main_arg1) :=
  (val1_3_keep V0 main_arg1 (by decide)).trans (val1_2_main_arg1 V0)
theorem val1_3_main_arg2 (V0 : Valuation τ sig (Elt F)) : val1_3 V0 (no_index (Proc.devRef .tc main_arg2)) = V0 (Proc.devRef .tc main_arg2) :=
  (val1_3_keep V0 main_arg2 (by decide)).trans (val1_2_main_arg2 V0)
theorem val1_3_main_arg3 (V0 : Valuation τ sig (Elt F)) : val1_3 V0 (no_index (Proc.devRef .tc main_arg3)) = V0 (Proc.devRef .tc main_arg3) :=
  (val1_3_keep V0 main_arg3 (by decide)).trans (val1_2_main_arg3 V0)
theorem val1_3_main_arg4 (V0 : Valuation τ sig (Elt F)) : val1_3 V0 (no_index (Proc.devRef .tc main_arg4)) = V0 (Proc.devRef .tc main_arg4) :=
  (val1_3_keep V0 main_arg4 (by decide)).trans (val1_2_main_arg4 V0)
theorem val1_3_main_arg5 (V0 : Valuation τ sig (Elt F)) : val1_3 V0 (no_index (Proc.devRef .tc main_arg5)) = V0 (Proc.devRef .tc main_arg5) :=
  (val1_3_keep V0 main_arg5 (by decide)).trans (val1_2_main_arg5 V0)
theorem val1_3_main_v57 (V0 : Valuation τ sig (Elt F)) : val1_3 V0 (no_index (Proc.devRef .tc main_v57)) = res_main_v57 V0 :=
  (val1_3_keep V0 main_v57 (by decide)).trans (val1_2_main_v57 V0)
set_option maxRecDepth 8192 in
set_option maxHeartbeats 2000000 in
theorem val1_3_main_v73 (V0 : Valuation τ sig (Elt F)) : val1_3 V0 (no_index (Proc.devRef .tc main_v73)) = res_main_v73 V0 := by
  unfold val1_3
  simp only [ops_part1_2, TRef.binary, TRef.nullary, TRef.unary, TRef.toBuf, TRef.ofBuf, cast_eq]
  after_results_simp
  simp only [val1_2_main_v58] <;> rfl
set_option maxRecDepth 8192 in
set_option maxHeartbeats 2000000 in
theorem val1_3_main_v74 (V0 : Valuation τ sig (Elt F)) : val1_3 V0 (no_index (Proc.devRef .tc main_v74)) = res_main_v74 V0 := by
  unfold val1_3
  simp only [ops_part1_2, TRef.binary, TRef.nullary, TRef.unary, TRef.toBuf, TRef.ofBuf, cast_eq]
  after_results_simp
  simp only [val1_2_main_v58, val1_2_main_v62, val1_2_main_v60, val1_2_main_v33] <;> rfl
set_option maxRecDepth 8192 in
set_option maxHeartbeats 2000000 in
theorem val1_3_main_v75 (V0 : Valuation τ sig (Elt F)) : val1_3 V0 (no_index (Proc.devRef .tc main_v75)) = res_main_v75 V0 := by
  unfold val1_3
  simp only [ops_part1_2, TRef.binary, TRef.nullary, TRef.unary, TRef.toBuf, TRef.ofBuf, cast_eq]
  after_results_simp
  simp only [val1_2_main_v58, val1_2_main_v36] <;> rfl
set_option maxRecDepth 8192 in
set_option maxHeartbeats 2000000 in
theorem val1_3_main_v82 (V0 : Valuation τ sig (Elt F)) : val1_3 V0 (no_index (Proc.devRef .tc main_v82)) = concatenate S32x80x128x128 2 [⟨S32x80x64x128, (res_main_v80 V0)⟩, ⟨S32x80x64x128, (concatenate S32x80x64x128 1 [⟨S32x1x64x128, (extractStridedSlice S32x1x64x128 ![0, 79, 0, 0] (res_main_v80 V0) slices_S32x80x64x128_S32x1x64x128_0_79_0_0)⟩, ⟨S32x79x64x128, (extractStridedSlice S32x79x64x128 ![0, 0, 0, 0] (res_main_v80 V0) slices_S32x80x64x128_S32x79x64x128_0_0_0_0)⟩] concatenates_S32x1x64x128_S32x79x64x128_S32x80x64x128_d1)⟩] concatenates_S32x80x64x128_S32x80x64x128_S32x80x128x128_d2 := by
  unfold val1_3
  simp only [ops_part1_2, TRef.binary, TRef.nullary, TRef.unary, TRef.toBuf, TRef.ofBuf, cast_eq]
  after_results_simp
  simp only [val1_2_main_v58, val1_2_main_v62, val1_2_main_v60, val1_2_main_v33] <;> rfl
set_option maxRecDepth 8192 in
set_option maxHeartbeats 2000000 in
theorem val1_3_main_call6_v0 (V0 : Valuation τ sig (Elt F)) : val1_3 V0 (no_index (Proc.devRef .tc main_call6_v0)) = extractStridedSlice S32x1x64x128 ![0, 79, 0, 0] (res_main_v75 V0) slices_S32x80x64x128_S32x1x64x128_0_79_0_0 := by
  unfold val1_3
  simp only [ops_part1_2, TRef.binary, TRef.nullary, TRef.unary, TRef.toBuf, TRef.ofBuf, cast_eq]
  after_results_simp
  simp only [val1_2_main_v58, val1_2_main_v36] <;> rfl

/-- The device's buffer contents after @main's first 2 windows. -/
def val2 (V0 : Valuation τ sig (Elt F)) : Valuation τ sig (Elt F) := after ops_part1_3 (val1_3 V0)
/-- The buffers that window `ops_part1_3`'s operations write. -/
abbrev ops_part1_3_W : List (Ref sig .tc) := [main_call6_v1, main_v83, main_v84, main_call7_v0, main_call7_v1, main_v85, main_v86, main_v87, main_cst_12, main_v88, main_v89, main_v90, main_v91, main_v92, main_v93, main_v94, main_cst_13, main_call8_v0, main_call8_v1, main_v95, main_cst_14, main_v96, main_v97, main_v98, main_v99, main_v100]
set_option maxRecDepth 8192 in
theorem ops_part1_3_writes : (ops_part1_3 : List (HloOp τ sig (Elt F))).Forall fun op => op.writes ⊆ (ops_part1_3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part1_3` does not write keeps its contents through it. -/
theorem val2_keep (V0 : Valuation τ sig (Elt F)) (r : Ref sig .tc) (h : r ∉ ops_part1_3_W) :
    val2 V0 (Proc.devRef .tc r) = val1_3 V0 (Proc.devRef .tc r) :=
  after_of_writes_sub ops_part1_3 _ ops_part1_3_writes h
theorem val2_main_arg0 (V0 : Valuation τ sig (Elt F)) : val2 V0 (no_index (Proc.devRef .tc main_arg0)) = V0 (Proc.devRef .tc main_arg0) :=
  (val2_keep V0 main_arg0 (by decide)).trans (val1_3_main_arg0 V0)
theorem val2_main_arg1 (V0 : Valuation τ sig (Elt F)) : val2 V0 (no_index (Proc.devRef .tc main_arg1)) = V0 (Proc.devRef .tc main_arg1) :=
  (val2_keep V0 main_arg1 (by decide)).trans (val1_3_main_arg1 V0)
theorem val2_main_arg2 (V0 : Valuation τ sig (Elt F)) : val2 V0 (no_index (Proc.devRef .tc main_arg2)) = V0 (Proc.devRef .tc main_arg2) :=
  (val2_keep V0 main_arg2 (by decide)).trans (val1_3_main_arg2 V0)
theorem val2_main_arg3 (V0 : Valuation τ sig (Elt F)) : val2 V0 (no_index (Proc.devRef .tc main_arg3)) = V0 (Proc.devRef .tc main_arg3) :=
  (val2_keep V0 main_arg3 (by decide)).trans (val1_3_main_arg3 V0)
theorem val2_main_arg4 (V0 : Valuation τ sig (Elt F)) : val2 V0 (no_index (Proc.devRef .tc main_arg4)) = V0 (Proc.devRef .tc main_arg4) :=
  (val2_keep V0 main_arg4 (by decide)).trans (val1_3_main_arg4 V0)
theorem val2_main_arg5 (V0 : Valuation τ sig (Elt F)) : val2 V0 (no_index (Proc.devRef .tc main_arg5)) = V0 (Proc.devRef .tc main_arg5) :=
  (val2_keep V0 main_arg5 (by decide)).trans (val1_3_main_arg5 V0)
theorem val2_main_v57 (V0 : Valuation τ sig (Elt F)) : val2 V0 (no_index (Proc.devRef .tc main_v57)) = res_main_v57 V0 :=
  (val2_keep V0 main_v57 (by decide)).trans (val1_3_main_v57 V0)
set_option maxRecDepth 8192 in
set_option maxHeartbeats 2000000 in
theorem val2_main_v84 (V0 : Valuation τ sig (Elt F)) : val2 V0 (no_index (Proc.devRef .tc main_v84)) = concatenate S32x80x128x128 2 [⟨S32x80x64x128, (res_main_v75 V0)⟩, ⟨S32x80x64x128, (concatenate S32x80x64x128 1 [⟨S32x1x64x128, (extractStridedSlice S32x1x64x128 ![0, 79, 0, 0] (res_main_v75 V0) slices_S32x80x64x128_S32x1x64x128_0_79_0_0)⟩, ⟨S32x79x64x128, (extractStridedSlice S32x79x64x128 ![0, 0, 0, 0] (res_main_v75 V0) slices_S32x80x64x128_S32x79x64x128_0_0_0_0)⟩] concatenates_S32x1x64x128_S32x79x64x128_S32x80x64x128_d1)⟩] concatenates_S32x80x64x128_S32x80x64x128_S32x80x128x128_d2 := by
  unfold val2
  simp only [ops_part1_3, TRef.binary, TRef.ternary, TRef.unary, TRef.toBuf, TRef.ofBuf, cast_eq]
  after_results_simp
  simp only [val1_3_main_call6_v0, val1_3_main_v75] <;> rfl
set_option maxRecDepth 8192 in
set_option maxHeartbeats 2000000 in
theorem val2_main_v95 (V0 : Valuation τ sig (Elt F)) : val2 V0 (no_index (Proc.devRef .tc main_v95)) = res_main_v95 V0 := by
  unfold val2
  simp only [ops_part1_3, TRef.binary, TRef.ternary, TRef.unary, TRef.toBuf, TRef.ofBuf, cast_eq]
  after_results_simp
  simp only [val1_3_main_v82, val1_3_main_v74, val1_3_main_v73] <;> rfl
set_option maxRecDepth 8192 in
set_option maxHeartbeats 2000000 in
theorem val2_main_v97 (V0 : Valuation τ sig (Elt F)) : val2 V0 (no_index (Proc.devRef .tc main_v97)) = res_main_v97 V0 := by
  unfold val2
  simp only [ops_part1_3, TRef.binary, TRef.ternary, TRef.unary, TRef.toBuf, TRef.ofBuf, cast_eq]
  after_results_simp
  simp only [val1_3_main_v82, val1_3_main_v74, val1_3_main_v73] <;> rfl
set_option maxRecDepth 8192 in
set_option maxHeartbeats 2000000 in
theorem val2_main_v100 (V0 : Valuation τ sig (Elt F)) : val2 V0 (no_index (Proc.devRef .tc main_v100)) = Host.exp (subf (res_main_v95 V0) (broadcastInDim S32x80x64x128 ![0, 1, 2, 3] bcast_S32x80x64x1_S32x80x64x128_0_1_2_3 (res_main_v97 V0))) := by
  unfold val2
  simp only [ops_part1_3, TRef.binary, TRef.ternary, TRef.unary, TRef.toBuf, TRef.ofBuf, cast_eq]
  after_results_simp
  simp only [val1_3_main_v82, val1_3_main_v74, val1_3_main_v73] <;> rfl

/-- The device's buffer contents after @main's first 3 windows. -/
def val3 (V0 : Valuation τ sig (Elt F)) : Valuation τ sig (Elt F) := after ops_part2 (val2 V0)
/-- The buffers that window `main_part2`'s operations write. -/
abbrev ops_part2_W : List (Ref sig .tc) := [main_cst_15, main_v101, main_v102, main_v103, main_v104, main_v105, main_v106, main_v107, main_v108, main_v109, main_v110, main_c_16, main_v111, main_v112, main_c_17, main_v113, main_v114, main_v115, main_v116, main_v117, main_c_18, main_v118, main_v119, main_c_19, main_v120, main_v121, main_v122, main_v123, main_v124, main_v125, main_v126, main_cst_20, main_v127, main_v128, main_v129, main_v130, main_v131, main_cst_21, main_v132, main_v133, main_v134, main_v135, main_v136, main_v137, main_v138, main_v139, main_v140, main_cst_22, main_v141, main_v142, main_v143, main_v144, main_v145, main_v146, main_v147, main_v148, main_v149]
set_option maxRecDepth 8192 in
theorem ops_part2_writes : (ops_part2 : List (HloOp τ sig (Elt F))).Forall fun op => op.writes ⊆ (ops_part2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `main_part2` does not write keeps its contents through it. -/
theorem val3_keep (V0 : Valuation τ sig (Elt F)) (r : Ref sig .tc) (h : r ∉ ops_part2_W) :
    val3 V0 (Proc.devRef .tc r) = val2 V0 (Proc.devRef .tc r) :=
  after_of_writes_sub ops_part2 _ ops_part2_writes h
theorem val3_main_arg0 (V0 : Valuation τ sig (Elt F)) : val3 V0 (no_index (Proc.devRef .tc main_arg0)) = V0 (Proc.devRef .tc main_arg0) :=
  (val3_keep V0 main_arg0 (by decide)).trans (val2_main_arg0 V0)
theorem val3_main_arg1 (V0 : Valuation τ sig (Elt F)) : val3 V0 (no_index (Proc.devRef .tc main_arg1)) = V0 (Proc.devRef .tc main_arg1) :=
  (val3_keep V0 main_arg1 (by decide)).trans (val2_main_arg1 V0)
theorem val3_main_arg2 (V0 : Valuation τ sig (Elt F)) : val3 V0 (no_index (Proc.devRef .tc main_arg2)) = V0 (Proc.devRef .tc main_arg2) :=
  (val3_keep V0 main_arg2 (by decide)).trans (val2_main_arg2 V0)
theorem val3_main_arg3 (V0 : Valuation τ sig (Elt F)) : val3 V0 (no_index (Proc.devRef .tc main_arg3)) = V0 (Proc.devRef .tc main_arg3) :=
  (val3_keep V0 main_arg3 (by decide)).trans (val2_main_arg3 V0)
theorem val3_main_arg4 (V0 : Valuation τ sig (Elt F)) : val3 V0 (no_index (Proc.devRef .tc main_arg4)) = V0 (Proc.devRef .tc main_arg4) :=
  (val3_keep V0 main_arg4 (by decide)).trans (val2_main_arg4 V0)
theorem val3_main_arg5 (V0 : Valuation τ sig (Elt F)) : val3 V0 (no_index (Proc.devRef .tc main_arg5)) = V0 (Proc.devRef .tc main_arg5) :=
  (val3_keep V0 main_arg5 (by decide)).trans (val2_main_arg5 V0)
set_option maxRecDepth 8192 in
set_option maxHeartbeats 2000000 in
theorem val3_main_v149 (V0 : Valuation τ sig (Elt F)) : val3 V0 (no_index (Proc.devRef .tc main_v149)) = shapeCast _ (addf (Host.dotGeneral dot_S4x640x1024_S1024x1024_S4x640x1024_2_0_01_1_n_n none (shapeCast _ (transpose S4x640x8x128 [0, 2, 1, 3] (shapeCast _ (Host.reduceAdd (mulf (shapeCast _ (Host.gather gather_S32x5120x128_S32x5120x1_S32x5120x128_2_1_0_0_1_2_11128 (shapeCast _ (Host.dotGeneral dot_S32x80x64x128_S32x80x128x128_S32x80x64x128_3_2_2_3_01_01 none (Host.exp (subf (res_main_v95 V0) (broadcastInDim S32x80x64x128 ![0, 1, 2, 3] bcast_S32x80x64x1_S32x80x64x128_0_1_2_3 (res_main_v104 V0)))) (concatenate S32x80x128x128 2 [⟨S32x80x64x128, (res_main_v75 V0)⟩, ⟨S32x80x64x128, (concatenate S32x80x64x128 1 [⟨S32x1x64x128, (extractStridedSlice S32x1x64x128 ![0, 79, 0, 0] (res_main_v75 V0) slices_S32x80x64x128_S32x1x64x128_0_79_0_0)⟩, ⟨S32x79x64x128, (extractStridedSlice S32x79x64x128 ![0, 0, 0, 0] (res_main_v75 V0) slices_S32x80x64x128_S32x79x64x128_0_0_0_0)⟩] concatenates_S32x1x64x128_S32x79x64x128_S32x80x64x128_d1)⟩] concatenates_S32x80x64x128_S32x80x64x128_S32x80x128x128_d2)) shapeCasts_S32x80x64x128_S32x5120x128) (broadcastInDim S32x5120x1 ![0, 1] bcast_S32x5120_S32x5120x1_0_1 (select (cmpi .slt (res_main_v57 V0) (broadcastInDim S32x5120 ![] bcast_S_S32x5120 (constantI S_ 32 0#32))) (addi (res_main_v57 V0) (broadcastInDim S32x5120 ![] bcast_S_S32x5120 (constantI S_ 32 5120#32))) (res_main_v57 V0)))) shapeCasts_S32x5120x128_S32x8x640x128) (broadcastInDim S32x8x640x128 ![0, 1, 2, 3] bcast_S32x8x640x1_S32x8x640x128_0_1_2_3 (Host.exp (subf (res_main_v126 V0) (broadcastInDim S32x8x640x1 ![0, 1, 2, 3] bcast_S32x1x640x1_S32x8x640x1_0_1_2_3 (addf (Host.log (broadcastInDim S32x1x640x1 ![0, 2, 3] bcast_S32x640x1_S32x1x640x1_0_2_3 (Host.reduceAdd (Host.exp (subf (res_main_v126 V0) (broadcastInDim S32x8x640x1 ![0, 1, 2, 3] bcast_S32x1x640x1_S32x8x640x1_0_1_2_3 (res_main_v128 V0)))) (constant S_ .f32 0x00000000#32) reducesTo_S32x8x640x1_S32x640x1_d1 h_S_))) (res_main_v128 V0))))))) (constant S_ .f32 0x00000000#32) reducesTo_S32x8x640x128_S32x640x128_d1 h_S_) shapeCasts_S32x640x128_S4x8x640x128) transposes_S4x8x640x128_S4x640x8x128_0_2_1_3) shapeCasts_S4x640x8x128_S4x640x1024) (V0 (Proc.devRef .tc main_arg3))) (broadcastInDim S4x640x1024 ![0, 1, 2] bcast_S1x1x1024_S4x640x1024_0_1_2 (broadcastInDim S1x1x1024 ![2] bcast_S1024_S1x1x1024_2 (V0 (Proc.devRef .tc main_arg4))))) shapeCasts_S4x640x1024_S4x640x32x32 := by
  unfold val3
  simp only [ops_part2]
  after_results_simp
  simp only [val2_main_arg4, val2_main_arg3, val2_main_v57, val2_main_v97, val2_main_v100, val2_main_v84, val2_main_v95] <;> rfl

theorem after_ops (V0 : Valuation τ sig (Elt F)) : after ops V0 = val3 V0 := by
  simp only [ops, ops_part1, after_append]
  rfl

set_option maxRecDepth 8192 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v149) = shapeCast _ (addf (Host.dotGeneral dot_S4x640x1024_S1024x1024_S4x640x1024_2_0_01_1_n_n none (shapeCast _ (transpose S4x640x8x128 [0, 2, 1, 3] (shapeCast _ (Host.reduceAdd (mulf (shapeCast _ (Host.gather gather_S32x5120x128_S32x5120x1_S32x5120x128_2_1_0_0_1_2_11128 (shapeCast _ (Host.dotGeneral dot_S32x80x64x128_S32x80x128x128_S32x80x64x128_3_2_2_3_01_01 none (Host.exp (subf (res_main_v95 (launchContents m c)) (broadcastInDim S32x80x64x128 ![0, 1, 2, 3] bcast_S32x80x64x1_S32x80x64x128_0_1_2_3 (res_main_v104 (launchContents m c))))) (concatenate S32x80x128x128 2 [⟨S32x80x64x128, (res_main_v75 (launchContents m c))⟩, ⟨S32x80x64x128, (concatenate S32x80x64x128 1 [⟨S32x1x64x128, (extractStridedSlice S32x1x64x128 ![0, 79, 0, 0] (res_main_v75 (launchContents m c)) slices_S32x80x64x128_S32x1x64x128_0_79_0_0)⟩, ⟨S32x79x64x128, (extractStridedSlice S32x79x64x128 ![0, 0, 0, 0] (res_main_v75 (launchContents m c)) slices_S32x80x64x128_S32x79x64x128_0_0_0_0)⟩] concatenates_S32x1x64x128_S32x79x64x128_S32x80x64x128_d1)⟩] concatenates_S32x80x64x128_S32x80x64x128_S32x80x128x128_d2)) shapeCasts_S32x80x64x128_S32x5120x128) (broadcastInDim S32x5120x1 ![0, 1] bcast_S32x5120_S32x5120x1_0_1 (select (cmpi .slt (res_main_v57 (launchContents m c)) (broadcastInDim S32x5120 ![] bcast_S_S32x5120 (constantI S_ 32 0#32))) (addi (res_main_v57 (launchContents m c)) (broadcastInDim S32x5120 ![] bcast_S_S32x5120 (constantI S_ 32 5120#32))) (res_main_v57 (launchContents m c))))) shapeCasts_S32x5120x128_S32x8x640x128) (broadcastInDim S32x8x640x128 ![0, 1, 2, 3] bcast_S32x8x640x1_S32x8x640x128_0_1_2_3 (Host.exp (subf (res_main_v126 (launchContents m c)) (broadcastInDim S32x8x640x1 ![0, 1, 2, 3] bcast_S32x1x640x1_S32x8x640x1_0_1_2_3 (addf (Host.log (broadcastInDim S32x1x640x1 ![0, 2, 3] bcast_S32x640x1_S32x1x640x1_0_2_3 (Host.reduceAdd (Host.exp (subf (res_main_v126 (launchContents m c)) (broadcastInDim S32x8x640x1 ![0, 1, 2, 3] bcast_S32x1x640x1_S32x8x640x1_0_1_2_3 (res_main_v128 (launchContents m c))))) (constant S_ .f32 0x00000000#32) reducesTo_S32x8x640x1_S32x640x1_d1 h_S_))) (res_main_v128 (launchContents m c)))))))) (constant S_ .f32 0x00000000#32) reducesTo_S32x8x640x128_S32x640x128_d1 h_S_) shapeCasts_S32x640x128_S4x8x640x128) transposes_S4x8x640x128_S4x640x8x128_0_2_1_3) shapeCasts_S4x640x8x128_S4x640x1024) ((launchContents m c) (Proc.devRef .tc main_arg3))) (broadcastInDim S4x640x1024 ![0, 1, 2] bcast_S1x1x1024_S4x640x1024_0_1_2 (broadcastInDim S1x1x1024 ![2] bcast_S1024_S1x1x1024_2 ((launchContents m c) (Proc.devRef .tc main_arg4))))) shapeCasts_S4x640x1024_S4x640x32x32
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v149).trans ((congrFun (after_ops (launchContents m c)) (Proc.devRef .tc main_v149)).trans (val3_main_v149 (launchContents m c))),
      (h c main_arg0).trans ((congrFun (after_ops (launchContents m c)) (Proc.devRef .tc main_arg0)).trans (val3_main_arg0 (launchContents m c))),
      (h c main_arg1).trans ((congrFun (after_ops (launchContents m c)) (Proc.devRef .tc main_arg1)).trans (val3_main_arg1 (launchContents m c))),
      (h c main_arg2).trans ((congrFun (after_ops (launchContents m c)) (Proc.devRef .tc main_arg2)).trans (val3_main_arg2 (launchContents m c))),
      (h c main_arg3).trans ((congrFun (after_ops (launchContents m c)) (Proc.devRef .tc main_arg3)).trans (val3_main_arg3 (launchContents m c))),
      (h c main_arg4).trans ((congrFun (after_ops (launchContents m c)) (Proc.devRef .tc main_arg4)).trans (val3_main_arg4 (launchContents m c))),
      (h c main_arg5).trans ((congrFun (after_ops (launchContents m c)) (Proc.devRef .tc main_arg5)).trans (val3_main_arg5 (launchContents m c)))⟩)
    (run_seq scopedRefs_eq scopedSems_eq defs main (fun _ => ops) main_eq (fun _ => ops_sub) m ρ fun _ => ops_fresh)

end Cert.ReferenceIdeal.RV

end
-- ==== Proof.RefTools.lean ====
module

public import proofs.«01_k».proof.Proof.FrontSpec
public import proofs.«01_k».proof.Proof.RefRun

@[expose] public section

/-
  The reference's gathers and its window maximum, at coordinates.
-/

set_option maxRecDepth 16384

noncomputable section

namespace Cert.ReferenceIdeal.Sem
open Idealize.ShloMosaic Cert.ReferenceIdeal Cert.ReferenceIdeal.Gen Cert.Tools Cert.Spec

/-- A gather of rows within each of 32 batches. -/
abbrev rowDims (N : ℕ) (wf : GatherDims.WF ⟨3, ![32, N, 128]⟩ ⟨3, ![32, 5120, 1]⟩ ⟨3, ![32, 5120, 128]⟩ [2] [1] [0] [1] [0] 2 ![1, 1, 128]) :
    GatherDims ⟨3, ![32, N, 128]⟩ ⟨3, ![32, 5120, 1]⟩ ⟨3, ![32, 5120, 128]⟩ where
  offsetDims := [2]
  collapsedSliceDims := [1]
  operandBatchingDims := [0]
  startIndicesBatchingDims := [0]
  startIndexMap := [1]
  indexVectorDim := 2
  sliceSizes := ![1, 1, 128]
  wf := wf

theorem gather_rows {α : Type} (N : ℕ) (hN : N ≤ 5120) (wf : GatherDims.WF ⟨3, ![32, N, 128]⟩ ⟨3, ![32, 5120, 1]⟩ ⟨3, ![32, 5120, 128]⟩ [2] [1] [0] [1] [0] 2 ![1, 1, 128])
    (x : (⟨3, ![32, N, 128]⟩ : Shape).Idx → α) (idx : IVec ⟨3, ![32, 5120, 1]⟩ 32) (n : Fin 32) (p : Fin 5120) (d : Fin 128) (t : Fin N)
    (hi : idx (ix3 n p 0) = BitVec.ofNat 32 t.val) :
    Host.gather (rowDims N wf) x idx (ix3 n p d) = x (ix3 n t d) := by
  unfold Host.gather
  refine congrArg x (funext fun a => Fin.ext ?_)
  show (rowDims N wf).start (ix3 n p d) idx a + (rowDims N wf).batchCoord (ix3 n p d) a + (rowDims N wf).offCoord (ix3 n p d) a = _
  have h01 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h01 with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (List.mem_singleton.mpr rfl)]
    rfl
  · rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (rowDims N wf).startIndexMap from List.mem_singleton.mpr rfl)]
    have hsi : (rowDims N wf).siIdx (ix3 n p d) ⟨List.idxOf (1 : Fin 3) (rowDims N wf).startIndexMap,
        List.idxOf_lt_length_iff.2 (List.mem_singleton.mpr rfl)⟩ = ix3 n p 0 := by
      funext b; refine Fin.ext ?_
      match b with
      | ⟨0, _⟩ => rfl
      | ⟨1, _⟩ => rfl
      | ⟨2, _⟩ => rfl
    rw [hsi, hi, toInt_nat (n := t.val) (by omega)]
    show min t.val (N - 1) = t.val
    omega
  · have h1 : (rowDims N wf).start (ix3 n p d) idx 2 = 0 := by
      unfold GatherDims.start; rw [dif_neg (show (2 : Fin 3) ∉ [1] by decide)]
    rw [h1, GatherDims.batchCoord_eq_zero _ _ _ (show (2 : Fin 3) ∉ [0] by decide)]
    simp only [Nat.zero_add, Nat.add_zero]
    unfold GatherDims.offCoord
    rw [dif_pos ((GatherDims.mem_sKept _ _).mpr ⟨show (2 : Fin 3) ∉ [1] by decide, show (2 : Fin 3) ∉ [0] by decide⟩)]
    rfl

theorem gather_640 {α : Type} (x : S32x640x128.Idx → α) (idx : IVec S32x5120x1 32) (n : Fin 32) (p : Fin 5120) (d : Fin 128) (t : Fin 640)
    (hi : idx (ix3 n p 0) = BitVec.ofNat 32 t.val) :
    Host.gather gather_S32x640x128_S32x5120x1_S32x5120x128_2_1_0_0_1_2_11128 x idx (ix3 n p d) = x (ix3 n t d) :=
  gather_rows 640 (by decide) _ x idx n p d t hi

theorem gather_5120 {α : Type} (x : S32x5120x128.Idx → α) (idx : IVec S32x5120x1 32) (n : Fin 32) (p : Fin 5120) (d : Fin 128) (t : Fin 5120)
    (hi : idx (ix3 n p 0) = BitVec.ofNat 32 t.val) :
    Host.gather gather_S32x5120x128_S32x5120x1_S32x5120x128_2_1_0_0_1_2_11128 x idx (ix3 n p d) = x (ix3 n t d) :=
  gather_rows 5120 (by decide) _ x idx n p d t hi

/-- A gather of entries within each of 32 batches. -/
abbrev oneDims (wf : GatherDims.WF ⟨2, ![32, 5120]⟩ ⟨3, ![32, 5120, 1]⟩ ⟨2, ![32, 5120]⟩ [] [1] [0] [1] [0] 2 ![1, 1]) :
    GatherDims ⟨2, ![32, 5120]⟩ ⟨3, ![32, 5120, 1]⟩ ⟨2, ![32, 5120]⟩ where
  offsetDims := []
  collapsedSliceDims := [1]
  operandBatchingDims := [0]
  startIndicesBatchingDims := [0]
  startIndexMap := [1]
  indexVectorDim := 2
  sliceSizes := ![1, 1]
  wf := wf

theorem gather_entries {α : Type} (wf : GatherDims.WF ⟨2, ![32, 5120]⟩ ⟨3, ![32, 5120, 1]⟩ ⟨2, ![32, 5120]⟩ [] [1] [0] [1] [0] 2 ![1, 1])
    (x : (⟨2, ![32, 5120]⟩ : Shape).Idx → α) (idx : IVec ⟨3, ![32, 5120, 1]⟩ 32) (n : Fin 32) (p t : Fin 5120)
    (hi : idx (ix3 n p 0) = BitVec.ofNat 32 t.val) : Host.gather (oneDims wf) x idx (ix2 n p) = x (ix2 n t) := by
  unfold Host.gather
  refine congrArg x (funext fun a => Fin.ext ?_)
  show (oneDims wf).start (ix2 n p) idx a + (oneDims wf).batchCoord (ix2 n p) a + (oneDims wf).offCoord (ix2 n p) a = _
  have h01 : a = (0 : Fin 2) ∨ a = (1 : Fin 2) := by
    match a with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (List.mem_singleton.mpr rfl)]
    rfl
  · rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (oneDims wf).startIndexMap from List.mem_singleton.mpr rfl)]
    have hsi : (oneDims wf).siIdx (ix2 n p) ⟨List.idxOf (1 : Fin 2) (oneDims wf).startIndexMap,
        List.idxOf_lt_length_iff.2 (List.mem_singleton.mpr rfl)⟩ = ix3 n p 0 := by
      funext b; refine Fin.ext ?_
      match b with
      | ⟨0, _⟩ => rfl
      | ⟨1, _⟩ => rfl
      | ⟨2, _⟩ => rfl
    rw [hsi, hi, toInt_nat (n := t.val) (by omega)]
    show min t.val (5120 - 1) = t.val
    omega

theorem gather_one {α : Type} (x : S32x5120.Idx → α) (idx : IVec S32x5120x1 32) (n : Fin 32) (p t : Fin 5120)
    (hi : idx (ix3 n p 0) = BitVec.ofNat 32 t.val) :
    Host.gather gather_S32x5120_S32x5120x1_S32x5120_n_1_0_0_1_2_11 x idx (ix2 n p) = x (ix2 n t) :=
  gather_entries _ x idx n p t hi

/-- A window element: minus infinity on the padding. -/
def wel (X : Fin 64 → Fin 64 → ℝ) (r l : Fin 32) (u v : ℕ) : EReal :=
  if h : (1 ≤ 2 * r.val + u ∧ 2 * r.val + u - 1 < 64) ∧ (1 ≤ 2 * l.val + v ∧ 2 * l.val + v - 1 < 64) then
    ((X ⟨2 * r.val + u - 1, h.1.2⟩ ⟨2 * l.val + v - 1, h.2.2⟩ : ℝ) : EReal) else ⊥

theorem wel_in (X : Fin 64 → Fin 64 → ℝ) (r l : Fin 32) (u v : ℕ) (i j : Fin 64) (hi : i.val + 1 = 2 * r.val + u) (hj : j.val + 1 = 2 * l.val + v) :
    wel X r l u v = ((X i j : ℝ) : EReal) := by
  unfold wel
  rw [dif_pos (by omega)]
  have e1 : (⟨2 * r.val + u - 1, by omega⟩ : Fin 64) = i := Fin.ext (show 2 * r.val + u - 1 = i.val by omega)
  have e2 : (⟨2 * l.val + v - 1, by omega⟩ : Fin 64) = j := Fin.ext (show 2 * l.val + v - 1 = j.val by omega)
  rw [e1, e2]

theorem wel_out (X : Fin 64 → Fin 64 → ℝ) (r l : Fin 32) (u v : ℕ) (h : 2 * r.val + u = 0 ∨ 2 * l.val + v = 0) :
    wel X r l u v = ⊥ := by
  unfold wel; rw [dif_neg (by omega)]

/-- The largest of a 3×3 window, the padding holding minus infinity. -/
theorem window (x : FVec Ideal S4x128x64x64 .f32) (i : FVec Ideal S_ .f32) (X : Fin 64 → Fin 64 → ℝ) (b : Fin 4) (c : Fin 128)
    (hx : ∀ u v, x (ix4 b c u v) = ((X u v : ℝ) : EReal)) (hi : ∀ j, i j = ⊥) (r l : Fin 32) :
    Host.reduceWindow FloatOps.maximumf ![1, 1, 3, 3] ![1, 1, 2, 2] ![0, 0, 1, 1] ![0, 0, 1, 1] x i reduceWindows_S4x128x64x64_S4x128x32x32_w1s1p0_0_w1s1p0_0_w3s2p1_1_w3s2p1_1 h_S_ (ix4 b c r l)
      = ((pool X r l : ℝ) : EReal) := by
  have hn : (⟨4, ![1, 1, 3, 3]⟩ : Shape).numel = 9 := by decide
  have key : ∀ n : Fin (⟨4, ![1, 1, 3, 3]⟩ : Shape).numel, ((⟨4, ![1, 1, 3, 3]⟩ : Shape).rowMajor.symm n 0).val = 0 ∧ ((⟨4, ![1, 1, 3, 3]⟩ : Shape).rowMajor.symm n 1).val = 0
      ∧ ((⟨4, ![1, 1, 3, 3]⟩ : Shape).rowMajor.symm n 2).val = n.val / 3 ∧ ((⟨4, ![1, 1, 3, 3]⟩ : Shape).rowMajor.symm n 3).val = n.val % 3 := by
    decide
  have step : Host.reduceWindow FloatOps.maximumf ![1, 1, 3, 3] ![1, 1, 2, 2] ![0, 0, 1, 1] ![0, 0, 1, 1] x i reduceWindows_S4x128x64x64_S4x128x32x32_w1s1p0_0_w1s1p0_0_w3s2p1_1_w3s2p1_1 h_S_ (ix4 b c r l)
      = (List.finRange (⟨4, ![1, 1, 3, 3]⟩ : Shape).numel).foldl (fun a n => max a (wel X r l (n.val / 3) (n.val % 3))) ⊥ := by
    unfold Host.reduceWindow
    refine congrArg₂ (fun f v => List.foldl f v (List.finRange (⟨4, ![1, 1, 3, 3]⟩ : Shape).numel)) (funext fun a => funext fun n => ?_) (hi _)
    obtain ⟨k0, k1, k2, k3⟩ := key n
    show max a _ = max a _
    refine congrArg (max a) ?_
    dsimp only
    by_cases h : (1 ≤ 2 * r.val + n.val / 3 ∧ 2 * r.val + n.val / 3 - 1 < 64) ∧ (1 ≤ 2 * l.val + n.val % 3 ∧ 2 * l.val + n.val % 3 - 1 < 64)
    · rw [dif_pos]
      · rw [wel_in X r l (n.val / 3) (n.val % 3) ⟨2 * r.val + n.val / 3 - 1, h.1.2⟩ ⟨2 * l.val + n.val % 3 - 1, h.2.2⟩ (by show _ - 1 + 1 = _; omega) (by show _ - 1 + 1 = _; omega), ← hx]
        refine congrArg x (funext fun e => Fin.ext ?_)
        match e with
        | ⟨0, _⟩ => exact (show b.val * 1 + ((⟨4, ![1, 1, 3, 3]⟩ : Shape).rowMajor.symm n 0).val - 0 = b.val by omega)
        | ⟨1, _⟩ => exact (show c.val * 1 + ((⟨4, ![1, 1, 3, 3]⟩ : Shape).rowMajor.symm n 1).val - 0 = c.val by omega)
        | ⟨2, _⟩ => exact (show r.val * 2 + ((⟨4, ![1, 1, 3, 3]⟩ : Shape).rowMajor.symm n 2).val - 1 = 2 * r.val + n.val / 3 - 1 by omega)
        | ⟨3, _⟩ => exact (show l.val * 2 + ((⟨4, ![1, 1, 3, 3]⟩ : Shape).rowMajor.symm n 3).val - 1 = 2 * l.val + n.val % 3 - 1 by omega)
      · intro e
        match e with
        | ⟨0, _⟩ => exact (show 0 ≤ b.val * 1 + ((⟨4, ![1, 1, 3, 3]⟩ : Shape).rowMajor.symm n 0).val ∧ b.val * 1 + ((⟨4, ![1, 1, 3, 3]⟩ : Shape).rowMajor.symm n 0).val - 0 < 4 by omega)
        | ⟨1, _⟩ => exact (show 0 ≤ c.val * 1 + ((⟨4, ![1, 1, 3, 3]⟩ : Shape).rowMajor.symm n 1).val ∧ c.val * 1 + ((⟨4, ![1, 1, 3, 3]⟩ : Shape).rowMajor.symm n 1).val - 0 < 128 by omega)
        | ⟨2, _⟩ => exact (show 1 ≤ r.val * 2 + ((⟨4, ![1, 1, 3, 3]⟩ : Shape).rowMajor.symm n 2).val ∧ r.val * 2 + ((⟨4, ![1, 1, 3, 3]⟩ : Shape).rowMajor.symm n 2).val - 1 < 64 by omega)
        | ⟨3, _⟩ => exact (show 1 ≤ l.val * 2 + ((⟨4, ![1, 1, 3, 3]⟩ : Shape).rowMajor.symm n 3).val ∧ l.val * 2 + ((⟨4, ![1, 1, 3, 3]⟩ : Shape).rowMajor.symm n 3).val - 1 < 64 by omega)
    · rw [dif_neg, hi]
      · unfold wel; rw [dif_neg h]
      · intro hh
        apply h
        have h2 : 1 ≤ r.val * 2 + ((⟨4, ![1, 1, 3, 3]⟩ : Shape).rowMajor.symm n 2).val ∧ r.val * 2 + ((⟨4, ![1, 1, 3, 3]⟩ : Shape).rowMajor.symm n 2).val - 1 < 64 := hh 2
        have h3 : 1 ≤ l.val * 2 + ((⟨4, ![1, 1, 3, 3]⟩ : Shape).rowMajor.symm n 3).val ∧ l.val * 2 + ((⟨4, ![1, 1, 3, 3]⟩ : Shape).rowMajor.symm n 3).val - 1 < 64 := hh 3
        omega
  rw [step]
  show List.foldl (fun (a : EReal) (n : Fin 9) => max a (wel X r l (n.val / 3) (n.val % 3))) ⊥ (List.finRange 9) = _
  rw [show List.finRange 9 = [0, 1, 2, 3, 4, 5, 6, 7, 8] by decide]
  show max (max (max (max (max (max (max (max (max ⊥ (wel X r l 0 0)) (wel X r l 0 1)) (wel X r l 0 2)) (wel X r l 1 0)) (wel X r l 1 1)) (wel X r l 1 2))
    (wel X r l 2 0)) (wel X r l 2 1)) (wel X r l 2 2) = _
  have p1 : ∀ v (j : Fin 64), j.val + 1 = 2 * l.val + v → max (max ⊥ (wel X r l 0 v)) (max (wel X r l 1 v) (wel X r l 2 v)) = ((cm X r j : ℝ) : EReal) := by
    intro v j hj
    rw [wel_in X r l 1 v ⟨2 * r.val, by omega⟩ j rfl hj, wel_in X r l 2 v ⟨2 * r.val + 1, by omega⟩ j rfl hj]
    unfold cm
    rw [coe_max, coe_max]
    by_cases hr : r.val = 0
    · have er : (⟨2 * r.val - 1, by omega⟩ : Fin 64) = ⟨2 * r.val, by omega⟩ := Fin.ext (show 2 * r.val - 1 = 2 * r.val by omega)
      rw [er, wel_out X r l 0 v (by omega)]
      apply le_antisymm <;> simp only [max_le_iff, bot_le, true_and] <;> simp only [le_max_iff, le_refl, true_or, or_true, and_self]
    · rw [wel_in X r l 0 v ⟨2 * r.val - 1, by omega⟩ j (by show _ - 1 + 1 = _; omega) hj]
      apply le_antisymm <;> simp only [max_le_iff, bot_le, true_and] <;> simp only [le_max_iff, le_refl, true_or, or_true, and_self]
  have q1 := p1 1 ⟨2 * l.val, by omega⟩ rfl
  have q2 := p1 2 ⟨min (2 * l.val + 1) 63, by omega⟩ (by show min (2 * l.val + 1) 63 + 1 = _; omega)
  unfold Spec.pool hmx
  rw [coe_max, coe_max]
  by_cases hl : l.val = 0
  · have el : (⟨2 * l.val - 1, by omega⟩ : Fin 64) = ⟨2 * l.val, by omega⟩ := Fin.ext (show 2 * l.val - 1 = 2 * l.val by omega)
    show _ = max _ (max ((cm X r ⟨min (2 * l.val + 1) 63, by omega⟩ : ℝ) : EReal) ((cm X r ⟨2 * l.val - 1, by omega⟩ : ℝ) : EReal))
    rw [el, ← q1, ← q2, wel_out X r l 0 0 (by omega), wel_out X r l 1 0 (by omega), wel_out X r l 2 0 (by omega)]
    apply le_antisymm <;> simp only [max_le_iff, bot_le, true_and] <;> simp only [le_max_iff, le_refl, true_or, or_true, and_self]
  · have q0 := p1 0 ⟨2 * l.val - 1, by omega⟩ (by show _ - 1 + 1 = _; omega)
    show _ = max _ (max ((cm X r ⟨min (2 * l.val + 1) 63, by omega⟩ : ℝ) : EReal) ((cm X r ⟨2 * l.val - 1, by omega⟩ : ℝ) : EReal))
    rw [← q0, ← q1, ← q2]
    apply le_antisymm <;> simp only [max_le_iff, bot_le, true_and] <;> simp only [le_max_iff, le_refl, true_or, or_true, and_self]

end Cert.ReferenceIdeal.Sem
-- ==== Proof.SortTools.lean ====
module

public import proofs.«01_k».proof.Proof.Tools
public import Idealize.ShloMosaic.Lib.SortFacts

@[expose] public section

/-
  Sorts: the permutation a sort of distinct keys applies, and the first place of a stable sort by greatest.
-/

noncomputable section

namespace Cert.Sorts
open Idealize.ShloMosaic Cert.Tools Cert.Spec

/-- A sort by distinct keys applies the permutation that puts the keys in order. -/
theorem sortedFrom_eq {n : ℕ} (before : Fin n → Fin n → Bool) (K : Fin n → ℕ) (τ ι : Fin n → Fin n)
    (hb : ∀ a b, before a b = decide (K a < K b)) (hK : Function.Injective K)
    (hτ : ∀ i j, i < j → K (τ i) < K (τ j)) (hι : ∀ a, τ (ι a) = a) : sortedFrom before = τ := by
  have h1 : StrictMono fun i => K (sortedFrom before i) := by
    intro i j hij
    have h := sortedFrom_noInversion before before
      (fun a b h => by rw [hb, decide_eq_true_eq] at h; rw [hb, decide_eq_false_iff_not]; omega) (fun _ _ h => h)
      (fun a b c h h' => by rw [hb, decide_eq_false_iff_not] at *; omega) i j hij
    rw [hb, decide_eq_false_iff_not, not_lt] at h
    refine lt_of_le_of_ne h fun he => ?_
    exact absurd (sortedFrom_injective before (hK he)) hij.ne
  have h2 : StrictMono fun i => K (τ i) := fun i j => hτ i j
  have h3 : (fun i => K (sortedFrom before i)) = fun i => K (τ i) := by
    refine (StrictMono.range_inj h1 h2).mp (Set.ext fun x => ⟨?_, ?_⟩)
    · rintro ⟨i, rfl⟩
      exact ⟨ι (sortedFrom before i), by show K (τ (ι _)) = _; rw [hι]⟩
    · rintro ⟨i, rfl⟩
      obtain ⟨j, hj⟩ := sortedFrom_surjective before (τ i)
      exact ⟨j, by show K (sortedFrom before j) = _; rw [hj]⟩
  exact funext fun i => hK (congrFun h3 i)

/-- The head of a stable sort of an increasing list. -/
theorem head_stableSort {n m : ℕ} (r : Fin m → ℝ) (l : List (Fin m)) (hl : l.Pairwise (· < ·)) (hne : l ≠ []) :
    ∃ a rest, stableSort (fun k k' => decide (r k' < r k)) l = a :: rest ∧ a ∈ l
      ∧ ∀ k ∈ l, r k ≤ r a ∧ (k < a → r k < r a) := by
  induction l with
  | nil => exact absurd rfl hne
  | cons a l ih =>
    rw [List.pairwise_cons] at hl
    unfold stableSort
    by_cases hl0 : l = []
    · subst hl0
      refine ⟨a, [], rfl, List.mem_cons_self, fun k hk => ?_⟩
      rw [List.mem_singleton] at hk; subst hk
      exact ⟨le_rfl, fun h => absurd h (lt_irrefl _)⟩
    · obtain ⟨c, rest, h1, h2, h3⟩ := ih hl.2 hl0
      rw [h1]; unfold insertBefore
      by_cases hc : r a < r c
      · rw [if_pos (by simpa using hc)]
        refine ⟨c, _, rfl, List.mem_cons_of_mem _ h2, fun k hk => ?_⟩
        rcases List.mem_cons.mp hk with rfl | hk
        · exact ⟨hc.le, fun _ => hc⟩
        · exact h3 k hk
      · rw [if_neg (by simpa using hc)]
        rw [not_lt] at hc
        refine ⟨a, _, rfl, List.mem_cons_self, fun k hk => ?_⟩
        rcases List.mem_cons.mp hk with rfl | hk
        · exact ⟨le_rfl, fun h => absurd h (lt_irrefl _)⟩
        · exact ⟨(h3 k hk).1.trans hc, fun h => absurd (h.trans (hl.1 k hk)) (lt_irrefl _)⟩

/-- The first place of a stable sort of ten reals by greatest is the first index at which they are largest. -/
theorem sortedFrom_zero (before : Fin 10 → Fin 10 → Bool) (r : Fin 10 → ℝ) (hb : ∀ a b, before a b = decide (r b < r a)) :
    sortedFrom before 0 = bucket r := by
  apply eq_bucket
  obtain ⟨a, rest, h1, h2, h3⟩ := head_stableSort (n := 0) r (List.finRange 10) (List.pairwise_lt_finRange 10) (by decide)
  have h0 : sortedFrom before 0 = a := by
    have hs : sortPositions 10 before = a :: rest := by
      rw [← h1, show before = fun k k' => decide (r k' < r k) from funext fun a => funext fun b => hb a b]; rfl
    unfold sortedFrom
    rw [List.get_of_eq hs]; rfl
  rw [h0]
  exact ⟨fun k => (h3 k (List.mem_finRange k)).1, fun k hk => (h3 k (List.mem_finRange k)).2 hk⟩

theorem cmp_lt {a b : ℕ} (ha : a < 2 ^ 31) (hb : b < 2 ^ 31) :
    (IntOp.cmpi .slt (BitVec.ofNat 32 a) (BitVec.ofNat 32 b) == 1#1) = decide (a < b) := by
  have h : (BitVec.ofNat 32 a).slt (BitVec.ofNat 32 b) = decide (a < b) := by
    rw [BitVec.slt, toInt_nat ha, toInt_nat hb]; simp
  show (BitVec.ofBool ((BitVec.ofNat 32 a).slt (BitVec.ofNat 32 b)) == 1#1) = _
  rw [h]; by_cases hab : a < b <;> simp [hab]

theorem cmp_gt (a b : ℝ) : ((FloatOps.cmpfTotal (F := Ideal) (φ := .f32) .gt (a : EReal) (b : EReal)) == 1#1) = decide (b < a) := by
  show (BitVec.ofBool (decide ((b : EReal) < (a : EReal))) == 1#1) = _
  by_cases hab : b < a <;> simp [hab]

/-- The places along an axis of a two-axis array. -/
theorem along2 {a b : ℕ} (n : Fin a) (p k : Fin b) : Shape.Idx.along (ix2 n p) (1 : Fin 2) k = ix2 n k := by
  funext x; fin_cases x <;> rfl
theorem along4 {a b c d : ℕ} (n : Fin a) (h : Fin b) (t : Fin c) (p k : Fin d) :
    Shape.Idx.along (ix4 n h t p) (3 : Fin 4) k = ix4 n h t k := by
  funext x; fin_cases x <;> rfl

/-- An argsort of distinct keys holds the permutation that puts the keys in order. -/
theorem argsort (cmp : BitVec 32 × BitVec 32 → BitVec 32 × BitVec 32 → BitVec 1) (hcmp : ∀ l r, cmp l r = IntOp.cmpi .slt l.1 r.1)
    (x y : IVec ⟨2, ![32, 5120]⟩ 32) (n : Fin 32) (K : Fin 5120 → ℕ) (τ ι : Fin 5120 → Fin 5120)
    (hx : ∀ p, x (ix2 n p) = BitVec.ofNat 32 (K p)) (hlt : ∀ p, K p < 2 ^ 31) (hy : ∀ p, y (ix2 n p) = BitVec.ofNat 32 p.val)
    (hK : Function.Injective K) (hτ : ∀ i j, i < j → K (τ i) < K (τ j)) (hι : ∀ a, τ (ι a) = a) (p : Fin 5120) :
    (Host.sort2 ⟨2, ![32, 5120]⟩ 1 cmp x y).2 (ix2 n p) = BitVec.ofNat 32 (τ p).val := by
  have hs := sortedFrom_eq (fun k k' => cmp (x (ix2 n k), y (ix2 n k)) (x (ix2 n k'), y (ix2 n k')) == 1#1) K τ ι
    (fun a b => by rw [hcmp, hx, hx]; exact cmp_lt (hlt a) (hlt b)) hK hτ hι
  rw [← hy (τ p), ← hs]
  unfold Host.sort2
  rw [dif_pos (show 1 < (⟨2, ![32, 5120]⟩ : Shape).rank by decide)]
  show y (Shape.Idx.along (ix2 n p) (1 : Fin 2) (sortedFrom (fun (k k' : Fin 5120) => cmp (x (Shape.Idx.along (ix2 n p) (1 : Fin 2) k), y (Shape.Idx.along (ix2 n p) (1 : Fin 2) k))
    (x (Shape.Idx.along (ix2 n p) (1 : Fin 2) k'), y (Shape.Idx.along (ix2 n p) (1 : Fin 2) k')) == 1#1) p)) = _
  simp only [along2]
  exact congrArg y (along2 n p _)

/-- The second operand of a two-operand sort along the last of four axes. -/
theorem sort_snd (cmp : EReal × BitVec 32 → EReal × BitVec 32 → BitVec 1) (x : (⟨4, ![32, 8, 640, 10]⟩ : Shape).Idx → EReal)
    (y : (⟨4, ![32, 8, 640, 10]⟩ : Shape).Idx → BitVec 32) (n : Fin 32) (h : Fin 8) (t : Fin 640) (p : Fin 10) :
    (Host.sort2 ⟨4, ![32, 8, 640, 10]⟩ 3 cmp x y).2 (ix4 n h t p)
      = y (ix4 n h t (sortedFrom (fun k k' => cmp (x (ix4 n h t k), y (ix4 n h t k)) (x (ix4 n h t k'), y (ix4 n h t k')) == 1#1) p)) := by
  unfold Host.sort2
  rw [dif_pos (show 3 < (⟨4, ![32, 8, 640, 10]⟩ : Shape).rank by decide)]
  show y (Shape.Idx.along (ix4 n h t p) (3 : Fin 4) (sortedFrom (fun (k k' : Fin 10) => cmp (x (Shape.Idx.along (ix4 n h t p) (3 : Fin 4) k), y (Shape.Idx.along (ix4 n h t p) (3 : Fin 4) k))
    (x (Shape.Idx.along (ix4 n h t p) (3 : Fin 4) k'), y (Shape.Idx.along (ix4 n h t p) (3 : Fin 4) k')) == 1#1) p)) = _
  simp only [along4]
  exact congrArg y (along4 n h t p _)

/-- The index of the greatest of ten reals. -/
theorem top1 (x : FVec Ideal ⟨4, ![32, 8, 640, 10]⟩ .f32) (hs : (⟨4, ![32, 8, 640, 10]⟩ : Shape).Slices (fun _ => 0) ⟨4, ![32, 8, 640, 1]⟩)
    (n : Fin 32) (h : Fin 8) (t : Fin 640) (r : Fin 10 → ℝ) (hx : ∀ k, x (ix4 n h t k) = ((r k : ℝ) : EReal)) :
    (Host.topK ⟨4, ![32, 8, 640, 1]⟩ 3 (FloatOps.cmpfTotal (F := Ideal) (φ := .f32) .gt) x hs).2 (ix4 n h t 0) = BitVec.ofNat 32 (bucket r).val := by
  have h0 := sortedFrom_zero (fun k k' => FloatOps.cmpfTotal (F := Ideal) (φ := .f32) .gt (x (ix4 n h t k)) (x (ix4 n h t k')) == 1#1) r
    (fun a b => by rw [hx, hx]; exact cmp_gt _ _)
  rw [← h0]
  refine Eq.trans ?_ (Eq.trans (sort_snd (fun l r => FloatOps.cmpfTotal (F := Ideal) (φ := .f32) .gt l.1 r.1) x (iotaInDim ⟨4, ![32, 8, 640, 10]⟩ 32 (3 : Fin 4)) n h t 0) rfl)
  show extractStridedSlice ⟨4, ![32, 8, 640, 1]⟩ (fun _ => 0) (Host.sort2 ⟨4, ![32, 8, 640, 10]⟩ 3 (fun l r => FloatOps.cmpfTotal (F := Ideal) (φ := .f32) .gt l.1 r.1) x (iotaInDim ⟨4, ![32, 8, 640, 10]⟩ 32 (3 : Fin 4))).2 hs (ix4 n h t 0) = _
  generalize (Host.sort2 ⟨4, ![32, 8, 640, 10]⟩ 3 (fun l r => FloatOps.cmpfTotal (F := Ideal) (φ := .f32) .gt l.1 r.1) x (iotaInDim ⟨4, ![32, 8, 640, 10]⟩ 32 (3 : Fin 4))).2 = z
  pointwise

end Cert.Sorts
-- ==== Proof.RefHead.lean ====
module

public import proofs.«01_k».proof.Proof.RefInts
public import proofs.«01_k».proof.Proof.RefTools
public import proofs.«01_k».proof.Proof.SortTools
public import proofs.«01_k».proof.Proof.Whole

@[expose] public section

/-
  The reference's front end, its projections and its rotations, at coordinates, from real arguments.
-/

set_option maxRecDepth 16384

noncomputable section

namespace Cert.ReferenceIdeal.Sem
open Idealize.ShloMosaic Idealize.ShloMosaic.TcCoe Idealize.SL.Sem Idealize.ShloMosaic.StableHlo
open Cert.ReferenceIdeal Cert.ReferenceIdeal.Gen Cert.ReferenceIdeal.RV Cert.Tools Cert.Spec

/-- The arguments, real. -/
structure Args (V : Valuation τ sig (Elt Ideal)) (X : Fin 4 → Fin 128 → Fin 64 → Fin 64 → ℝ) (Wqk Wv Wout : Fin 1024 → Fin 1024 → ℝ)
    (bout : Fin 1024 → ℝ) (rot : Fin 128 → Fin 8 → Fin 5 → ℝ) : Prop where
  h0 : ∀ b k i j, (V (Proc.devRef .tc main_arg0) : FVec Ideal S4x128x64x64 .f32) (ix4 b k i j) = ((X b k i j : ℝ) : EReal)
  h1 : ∀ k n, (V (Proc.devRef .tc main_arg1) : FVec Ideal S1024x1024 .f32) (ix2 k n) = ((Wqk k n : ℝ) : EReal)
  h2 : ∀ k n, (V (Proc.devRef .tc main_arg2) : FVec Ideal S1024x1024 .f32) (ix2 k n) = ((Wv k n : ℝ) : EReal)
  h3 : ∀ k n, (V (Proc.devRef .tc main_arg3) : FVec Ideal S1024x1024 .f32) (ix2 k n) = ((Wout k n : ℝ) : EReal)
  h4 : ∀ n, (V (Proc.devRef .tc main_arg4) : FVec Ideal S1024 .f32) (ix1 n) = ((bout n : ℝ) : EReal)
  h5 : ∀ d h k, (V (Proc.devRef .tc main_arg5) : FVec Ideal S128x8x5 .f32) (ix3 d h k) = ((rot d h k : ℝ) : EReal)

theorem px_at (Y : Fin 64 → Fin 64 → ℝ) (r l : Fin 32) (u v : Fin 2) (i j : Fin 64) (hi : i.val = 2 * r.val + u.val) (hj : j.val = 2 * l.val + v.val) :
    Y i j = px Y r l u v := by
  unfold px
  rw [show i = ⟨2 * r.val + u.val, by omega⟩ from Fin.ext hi, show j = ⟨2 * l.val + v.val, by omega⟩ from Fin.ext hj]

variable {V : Valuation τ sig (Elt Ideal)} {X : Fin 4 → Fin 128 → Fin 64 → Fin 64 → ℝ} {Wqk Wv Wout : Fin 1024 → Fin 1024 → ℝ}
  {bout : Fin 1024 → ℝ} {rot : Fin 128 → Fin 8 → Fin 5 → ℝ} (A : Args V X Wqk Wv Wout bout rot)
include A

theorem v2_at (b : Fin 4) (c : Fin 128) (r l : Fin 32) :
    (res_main_v2 V : FVec Ideal S4x128x32x32 .f32) (ix4 b c r l) = ((px (X b c) r l 0 0 : ℝ) : EReal) := by
  unfold res_main_v2; pointwise
  exact (A.h0 _ _ _ _).trans (congrArg _ (px_at _ _ _ _ _ _ _ (by simp; try omega) (by simp; try omega)))
theorem v3_at (b : Fin 4) (c : Fin 128) (r l : Fin 32) :
    (res_main_v3 V : FVec Ideal S4x128x32x32 .f32) (ix4 b c r l) = ((px (X b c) r l 0 1 : ℝ) : EReal) := by
  unfold res_main_v3; pointwise
  exact (A.h0 _ _ _ _).trans (congrArg _ (px_at _ _ _ _ _ _ _ (by simp; try omega) (by simp; try omega)))
theorem v4_at (b : Fin 4) (c : Fin 128) (r l : Fin 32) :
    (res_main_v4 V : FVec Ideal S4x128x32x32 .f32) (ix4 b c r l) = ((px (X b c) r l 1 0 : ℝ) : EReal) := by
  unfold res_main_v4; pointwise
  exact (A.h0 _ _ _ _).trans (congrArg _ (px_at _ _ _ _ _ _ _ (by simp; try omega) (by simp; try omega)))
theorem v5_at (b : Fin 4) (c : Fin 128) (r l : Fin 32) :
    (res_main_v5 V : FVec Ideal S4x128x32x32 .f32) (ix4 b c r l) = ((px (X b c) r l 1 1 : ℝ) : EReal) := by
  unfold res_main_v5; pointwise
  exact (A.h0 _ _ _ _).trans (congrArg _ (px_at _ _ _ _ _ _ _ (by simp; try omega) (by simp; try omega)))

/-- The rows of tokens. -/
theorem v28_at (b : Fin 4) (t : Fin 640) (k : Fin 1024) :
    (res_main_v28 V : FVec Ideal S4x640x1024 .f32) (ix3 b t k) = ((tokens (X b) t k : ℝ) : EReal) := by
  unfold res_main_v28
  have hw := fun c r l => window (V (Proc.devRef .tc main_arg0) : FVec Ideal S4x128x64x64 .f32) (broadcastInDim S_ ![] bcast_S_S_ (constant (F := Ideal) S_ .f32 0xFF800000#32)) (X b c) b c
    (fun u v => A.h0 b c u v) (fun j => ninf) r l
  generalize (Host.reduceWindow FloatOps.maximumf ![1, 1, 3, 3] ![1, 1, 2, 2] ![0, 0, 1, 1] ![0, 0, 1, 1] (V (Proc.devRef .tc main_arg0) : FVec Ideal S4x128x64x64 .f32) (broadcastInDim S_ ![] bcast_S_S_ (constant (F := Ideal) S_ .f32 0xFF800000#32)) reduceWindows_S4x128x64x64_S4x128x32x32_w1s1p0_0_w1s1p0_0_w3s2p1_1_w3s2p1_1 h_S_) = p at hw ⊢
  have h2 := v2_at A b; have h3 := v3_at A b; have h4 := v4_at A b; have h5 := v5_at A b
  generalize res_main_v2 V = p2 at h2 ⊢
  generalize res_main_v3 V = p3 at h3 ⊢
  generalize res_main_v4 V = p4 at h4 ⊢
  generalize res_main_v5 V = p5 at h5 ⊢
  pointwise
  unfold tokens front
  split_ifs <;> simp only [hw, h2, h3, h4, h5, half_eq, ← EReal.coe_add, ← EReal.coe_sub, ← EReal.coe_mul]

/-- The rows of head `n % 8` of batch `n / 8`, in the columns of `W`. -/
abbrev hp (X : Fin 4 → Fin 128 → Fin 64 → Fin 64 → ℝ) (W : Fin 1024 → Fin 1024 → ℝ) (n : Fin 32) : Fin 640 → Fin 128 → ℝ :=
  proj W (tokens (X ⟨n.val / 8, by omega⟩)) ⟨n.val % 8, by omega⟩

omit A in
theorem split_at (x : FVec Ideal S4x640x1024 .f32) (w : FVec Ideal S1024x1024 .f32) (W : Fin 1024 → Fin 1024 → ℝ)
    (hx : ∀ b t k, x (ix3 b t k) = ((tokens (X b) t k : ℝ) : EReal)) (hw : ∀ k n, w (ix2 k n) = ((W k n : ℝ) : EReal)) (n : Fin 32) (t : Fin 640) (d : Fin 128) :
    (shapeCast S32x640x128 (transpose S4x8x640x128 [0, 2, 1, 3] (shapeCast S4x640x8x128 (Host.dotGeneral dot_S4x640x1024_S1024x1024_S4x640x1024_2_0_01_1_n_n none x w) shapeCasts_S4x640x1024_S4x640x8x128) transposes_S4x640x8x128_S4x8x640x128_0_2_1_3) shapeCasts_S4x8x640x128_S32x640x128)
      (ix3 n t d) = ((hp X W n t d : ℝ) : EReal) := by
  pointwise
  simp only [hx, hw, sum_mul_coe]
  refine congrArg _ (Finset.sum_congr rfl fun k _ => congrArg _ (congrArg _ (Fin.ext ?_)))
  show n.val % 8 * 128 + d.val = 128 * (n.val % 8) + d.val
  omega

theorem v33_at (n : Fin 32) (t : Fin 640) (d : Fin 128) : (res_main_v33 V : FVec Ideal S32x640x128 .f32) (ix3 n t d) = ((hp X Wqk n t d : ℝ) : EReal) :=
  split_at _ _ Wqk (v28_at A) A.h1 n t d

theorem v38_at (n : Fin 32) (h : Fin 8) (t : Fin 640) (k : Fin 5) : (res_main_v38 V : FVec Ideal S32x8x640x5 .f32) (ix4 n h t k)
    = ((∑ d, hp X Wqk n t d * rot d h k : ℝ) : EReal) := by
  unfold res_main_v38
  have h33 := v33_at A
  generalize res_main_v33 V = q at h33 ⊢
  have h5 := A.h5
  generalize V (Proc.devRef .tc main_arg5) = z at h5 ⊢
  pointwise
  simp only [h33, h5, sum_mul_coe]
  exact congrArg _ (Finset.sum_congr rfl fun k _ => mul_comm _ _)

theorem v40_at (n : Fin 32) (h : Fin 8) (t : Fin 640) (k : Fin 10) : (res_main_v40 V : FVec Ideal S32x8x640x10 .f32) (ix4 n h t k)
    = ((rb (rrot (fun d j => rot d ⟨j.val / 5, by omega⟩ ⟨j.val % 5, by omega⟩) (hp X Wqk n)) h t k : ℝ) : EReal) := by
  unfold res_main_v40
  have h38 := v38_at A
  generalize res_main_v38 V = q at h38 ⊢
  pointwise
  have e : ∀ (j : Fin 5) (hj : 5 * h.val + j.val < 40), rrot (fun d j => rot d ⟨j.val / 5, by omega⟩ ⟨j.val % 5, by omega⟩) (hp X Wqk n) t ⟨5 * h.val + j.val, hj⟩
      = ∑ d, hp X Wqk n t d * rot d h j := by
    intro j hj
    have e1 : (⟨(5 * h.val + j.val) / 5, by omega⟩ : Fin 8) = h := Fin.ext (show (5 * h.val + j.val) / 5 = h.val by omega)
    have e2 : (⟨(5 * h.val + j.val) % 5, by omega⟩ : Fin 5) = j := Fin.ext (show (5 * h.val + j.val) % 5 = j.val by omega)
    show ∑ d, hp X Wqk n t d * rot d ⟨(5 * h.val + j.val) / 5, _⟩ ⟨(5 * h.val + j.val) % 5, _⟩ = _
    rw [e1, e2]
  unfold rb
  split_ifs with hk
  · rw [h38, e ⟨k.val, hk⟩]
  · rw [h38, e ⟨k.val - 5, by omega⟩, EReal.coe_neg]
  · exact absurd rfl ‹_›

/-- The bucket of token `t` under hash `h`, in head `n % 8` of batch `n / 8`. -/
abbrev bb (X : Fin 4 → Fin 128 → Fin 64 → Fin 64 → ℝ) (Wqk : Fin 1024 → Fin 1024 → ℝ) (rot : Fin 128 → Fin 8 → Fin 5 → ℝ) (n : Fin 32) : Fin 8 → Fin 640 → Fin 10 :=
  bk (rrot (fun d j => rot d ⟨j.val / 5, by omega⟩ ⟨j.val % 5, by omega⟩) (hp X Wqk n))

theorem top_at (n : Fin 32) (h : Fin 8) (t : Fin 640) :
    (Host.topK S32x8x640x1 3 (FloatOps.cmpfTotal (F := Ideal) (φ := .f32) .gt) (res_main_v40 V : FVec Ideal S32x8x640x10 .f32) sliceFits_S32x8x640x10_S32x8x640x1).2 (ix4 n h t 0)
      = BitVec.ofNat 32 (bb X Wqk rot n h t).val :=
  Sorts.top1 _ _ n h t _ fun k => v40_at A n h t k

/-- The key of row `p`: its hash's bucket, then its token. -/
def keyN (b : Fin 8 → Fin 640 → Fin 10) (p : Fin 5120) : ℕ :=
  ((b ⟨p.val / 640, by omega⟩ ⟨p.val % 640, by omega⟩).val + p.val / 640 * 10) * 640 + p.val % 640

theorem v55_at (n : Fin 32) (p : Fin 5120) : (res_main_v55 V : IVec S32x5120 32) (ix2 n p) = BitVec.ofNat 32 (keyN (bb X Wqk rot n) p) := by
  unfold res_main_v55 res_main_call0_v4 res_main_call0_v2 res_main_call0_v0
  have ht := top_at A n
  generalize (Host.topK S32x8x640x1 3 (FloatOps.cmpfTotal (F := Ideal) (φ := .f32) .gt) (res_main_v40 V : FVec Ideal S32x8x640x10 .f32) sliceFits_S32x8x640x10_S32x8x640x1).2 = q at ht ⊢
  pointwise
  have hc : Scalar.select (IntOp.cmpi CmpIPredicate.eq (id (constantI S_ 32 640#32) ix0) 0#32) (1#32) (id (constantI S_ 32 640#32) ix0) = 640#32 := by decide
  rw [hc, mod_640 p.val (by omega), ht]
  unfold keyN IntOp.addi IntOp.muli
  simp only [BitVec.ofNat_add, BitVec.ofNat_mul]

end Cert.ReferenceIdeal.Sem
-- ==== Proof.RefSort.lean ====
module

public import proofs.«01_k».proof.Proof.RefHead

@[expose] public section

/-
  The reference's two sorts: the rows in the order of hash, bucket and token, and that order undone.
-/

set_option maxRecDepth 16384

noncomputable section

namespace Cert.ReferenceIdeal.Sem
open Idealize.ShloMosaic Idealize.ShloMosaic.TcCoe Idealize.SL.Sem Idealize.ShloMosaic.StableHlo
open Cert.ReferenceIdeal Cert.ReferenceIdeal.Gen Cert.ReferenceIdeal.RV Cert.Tools Cert.Spec

section Perm
variable (b : Fin 8 → Fin 640 → Fin 10)

/-- The hash of a row. -/
abbrev hh (p : Fin 5120) : Fin 8 := ⟨p.val / 640, by omega⟩
/-- A row's place in its hash. -/
abbrev tt (p : Fin 5120) : Fin 640 := ⟨p.val % 640, by omega⟩
/-- The row of a hash and a place. -/
abbrev rr (h : Fin 8) (t : Fin 640) : Fin 5120 := ⟨640 * h.val + t.val, by omega⟩

theorem hh_rr (h : Fin 8) (t : Fin 640) : hh (rr h t) = h := Fin.ext (show (640 * h.val + t.val) / 640 = h.val by omega)
theorem tt_rr (h : Fin 8) (t : Fin 640) : tt (rr h t) = t := Fin.ext (show (640 * h.val + t.val) % 640 = t.val by omega)
theorem rr_hh (p : Fin 5120) : rr (hh p) (tt p) = p := Fin.ext (show 640 * (p.val / 640) + p.val % 640 = p.val by omega)

/-- The row that is `p`-th in the order. -/
def perm (p : Fin 5120) : Fin 5120 := rr (hh p) (ord (b (hh p)) (tt p))
/-- A row's place in the order. -/
def back (p : Fin 5120) : Fin 5120 := rr (hh p) (pos (b (hh p)) (tt p))

theorem perm_back (p : Fin 5120) : perm b (back b p) = p := by
  unfold perm back; rw [hh_rr, tt_rr, ord_pos, rr_hh]
theorem back_perm (p : Fin 5120) : back b (perm b p) = p := by
  unfold perm back; rw [hh_rr, tt_rr, pos_ord, rr_hh]

theorem keyN_rr (h : Fin 8) (t : Fin 640) : keyN b (rr h t) = key (b h) t + h.val * 6400 := by
  have := hh_rr h t; have := tt_rr h t
  show ((b (hh (rr h t)) (tt (rr h t))).val + (rr h t).val / 640 * 10) * 640 + (rr h t).val % 640 = (b h t).val * 640 + t.val + h.val * 6400
  rw [hh_rr, tt_rr]
  show ((b h t).val + (640 * h.val + t.val) / 640 * 10) * 640 + (640 * h.val + t.val) % 640 = _
  omega

theorem key_lt (h : Fin 8) (t : Fin 640) : key (b h) t < 6400 := by
  show (b h t).val * 640 + t.val < 6400
  omega

theorem keyN_small (p : Fin 5120) : keyN b p < 2 ^ 31 := by
  rw [← rr_hh p, keyN_rr]; have := key_lt b (hh p) (tt p); have := (hh p).isLt; omega

theorem keyN_inj : Function.Injective (keyN b) := by
  intro p q e
  rw [← rr_hh p, ← rr_hh q, keyN_rr, keyN_rr] at e
  have h1 := key_lt b (hh p) (tt p); have h2 := key_lt b (hh q) (tt q)
  have e1 : hh p = hh q := Fin.ext (by omega)
  rw [e1] at e
  have e2 : tt p = tt q := key_inj _ (show key (b (hh q)) (tt p) = key (b (hh q)) (tt q) by omega)
  rw [← rr_hh p, ← rr_hh q, e1, e2]

theorem keyN_perm (p q : Fin 5120) (hpq : p < q) : keyN b (perm b p) < keyN b (perm b q) := by
  unfold perm
  rw [keyN_rr, keyN_rr]
  have h1 := key_lt b (hh p) (ord (b (hh p)) (tt p)); have h2 := key_lt b (hh q) (ord (b (hh q)) (tt q))
  have hpq' : p.val < q.val := hpq
  by_cases e : p.val / 640 = q.val / 640
  · have e1 : hh p = hh q := Fin.ext e
    rw [e1]
    have ht : tt p < tt q := show p.val % 640 < q.val % 640 by omega
    rcases lt_trichotomy (key (b (hh q)) (ord (b (hh q)) (tt p))) (key (b (hh q)) (ord (b (hh q)) (tt q))) with h | h | h
    · omega
    · exact absurd ((ord (b (hh q))).injective (key_inj _ h)) ht.ne
    · have := posN_strictMono _ h
      have a1 : posN (b (hh q)) (ord (b (hh q)) (tt q)) = (tt q).val := congrArg Fin.val (pos_ord (b (hh q)) (tt q))
      have a2 : posN (b (hh q)) (ord (b (hh q)) (tt p)) = (tt p).val := congrArg Fin.val (pos_ord (b (hh q)) (tt p))
      have ht' : (tt p).val < (tt q).val := ht
      omega
  · have : (hh p).val < (hh q).val := show p.val / 640 < q.val / 640 by omega
    omega

theorem tok_eq (p : Fin 5120) : tok b p = tt (perm b p) := by
  unfold perm; rw [tt_rr]; rfl

theorem back_rr (h : Fin 8) (t : Fin 640) : back b (rr h t) = rowOf b h t := by
  unfold back rowOf; rw [hh_rr, tt_rr]
end Perm

variable {V : Valuation τ sig (Elt Ideal)} {X : Fin 4 → Fin 128 → Fin 64 → Fin 64 → ℝ} {Wqk Wv Wout : Fin 1024 → Fin 1024 → ℝ}
  {bout : Fin 1024 → ℝ} {rot : Fin 128 → Fin 8 → Fin 5 → ℝ} (A : Args V X Wqk Wv Wout bout rot)
include A

theorem v56_at (n : Fin 32) (p : Fin 5120) : (res_main_v56 V : IVec S32x5120 32) (ix2 n p) = BitVec.ofNat 32 (perm (bb X Wqk rot n) p).val :=
  Sorts.argsort comparator_i32_i32_d1 (fun _ _ => rfl) (res_main_v55 V) (res_main_call1_v0 V) n (keyN (bb X Wqk rot n)) (perm (bb X Wqk rot n)) (back (bb X Wqk rot n))
    (v55_at A n) (keyN_small _) (fun _ => rfl) (keyN_inj _) (fun i j h => keyN_perm _ i j h) (perm_back _) p

theorem v57_at (n : Fin 32) (p : Fin 5120) : (res_main_v57 V : IVec S32x5120 32) (ix2 n p) = BitVec.ofNat 32 (back (bb X Wqk rot n) p).val :=
  Sorts.argsort comparator_i32_i32_d1 (fun _ _ => rfl) (res_main_v56 V) (res_main_call2_v0 V) n (fun p => (perm (bb X Wqk rot n) p).val) (back (bb X Wqk rot n)) (perm (bb X Wqk rot n))
    (v56_at A n) (fun p => by show (perm (bb X Wqk rot n) p).val < 2 ^ 31; omega) (fun _ => rfl)
    (fun p q e => by rw [← back_perm (bb X Wqk rot n) p, Fin.ext e, back_perm])
    (fun i j h => by show (perm (bb X Wqk rot n) _).val < (perm (bb X Wqk rot n) _).val; rw [perm_back, perm_back]; exact h) (back_perm _) p

abbrev tk (X : Fin 4 → Fin 128 → Fin 64 → Fin 64 → ℝ) (Wqk : Fin 1024 → Fin 1024 → ℝ) (rot : Fin 128 → Fin 8 → Fin 5 → ℝ) (n : Fin 32) (p : Fin 5120) : Fin 640 :=
  tok (bb X Wqk rot n) p

theorem v58_at (n : Fin 32) (p : Fin 5120) : (res_main_v58 V : IVec S32x5120 32) (ix2 n p) = BitVec.ofNat 32 (tk X Wqk rot n p).val := by
  unfold res_main_v58 res_main_call3_v4 res_main_call3_v2 res_main_call3_v0
  have h := v56_at A n
  generalize res_main_v56 V = q at h ⊢
  pointwise
  have hc : Scalar.select (IntOp.cmpi CmpIPredicate.eq (id (constantI S_ 32 640#32) ix0) 0#32) (1#32) (id (constantI S_ 32 640#32) ix0) = 640#32 := by decide
  rw [hc, h, mod_640 _ (by omega), tk, tok_eq]

theorem v73_at (n : Fin 32) (c : Fin 80) (i : Fin 64) : (res_main_v73 V : IVec S32x80x64 32) (ix3 n c i) = BitVec.ofNat 32 (tk X Wqk rot n (row c i)).val := by
  unfold res_main_v73
  have h := v58_at A n
  generalize res_main_v58 V = q at h ⊢
  pointwise
  rw [h]
  exact congrArg (fun g => BitVec.ofNat 32 (tk X Wqk rot n g).val) (Fin.ext (show c.val * 64 + i.val = 64 * c.val + i.val by omega))

/-- The index vector of the token gathers. -/
theorem gix_at (n : Fin 32) (p : Fin 5120) :
    (broadcastInDim S32x5120x1 ![0, 1] bcast_S32x5120_S32x5120x1_0_1 (select (cmpi .slt (res_main_v58 V : IVec S32x5120 32) (broadcastInDim S32x5120 ![] bcast_S_S32x5120 (constantI S_ 32 0#32))) (addi (res_main_v58 V) (broadcastInDim S32x5120 ![] bcast_S_S32x5120 (constantI S_ 32 640#32))) (res_main_v58 V)) : IVec S32x5120x1 32) (ix3 n p 0) = BitVec.ofNat 32 (tk X Wqk rot n p).val := by
  have h := v58_at A n
  generalize res_main_v58 V = q at h ⊢
  pointwise
  rw [h, fix_neg _ _ (by omega)]

/-- The index vector of the gathers back. -/
theorem gib_at (n : Fin 32) (h : Fin 8) (t : Fin 640) :
    (broadcastInDim S32x5120x1 ![0, 1] bcast_S32x5120_S32x5120x1_0_1 (select (cmpi .slt (res_main_v57 V : IVec S32x5120 32) (broadcastInDim S32x5120 ![] bcast_S_S32x5120 (constantI S_ 32 0#32))) (addi (res_main_v57 V) (broadcastInDim S32x5120 ![] bcast_S_S32x5120 (constantI S_ 32 5120#32))) (res_main_v57 V)) : IVec S32x5120x1 32) (ix3 n (rr h t) 0) = BitVec.ofNat 32 (rowOf (bb X Wqk rot n) h t).val := by
  have e := v57_at A n (rr h t)
  rw [back_rr] at e
  generalize res_main_v57 V = q at e ⊢
  generalize rr h t = p at e ⊢
  pointwise
  rw [e, fix_neg _ _ (by omega)]

/-- A gather of tokens into rows. -/
theorem rows_at (x : FVec Ideal S32x640x128 .f32) (f : Fin 32 → Fin 640 → Fin 128 → ℝ) (hx : ∀ n t d, x (ix3 n t d) = ((f n t d : ℝ) : EReal))
    (n : Fin 32) (c : Fin 80) (i : Fin 64) (d : Fin 128) :
    (shapeCast S32x80x64x128 (Host.gather gather_S32x640x128_S32x5120x1_S32x5120x128_2_1_0_0_1_2_11128 x (broadcastInDim S32x5120x1 ![0, 1] bcast_S32x5120_S32x5120x1_0_1 (select (cmpi .slt (res_main_v58 V : IVec S32x5120 32) (broadcastInDim S32x5120 ![] bcast_S_S32x5120 (constantI S_ 32 0#32))) (addi (res_main_v58 V) (broadcastInDim S32x5120 ![] bcast_S_S32x5120 (constantI S_ 32 640#32))) (res_main_v58 V)))) shapeCasts_S32x5120x128_S32x80x64x128)
      (ix4 n c i d) = ((f n (tk X Wqk rot n (row c i)) d : ℝ) : EReal) := by
  have hg := gix_at A n
  generalize (broadcastInDim S32x5120x1 ![0, 1] bcast_S32x5120_S32x5120x1_0_1 (select (cmpi .slt (res_main_v58 V : IVec S32x5120 32) (broadcastInDim S32x5120 ![] bcast_S_S32x5120 (constantI S_ 32 0#32))) (addi (res_main_v58 V) (broadcastInDim S32x5120 ![] bcast_S_S32x5120 (constantI S_ 32 640#32))) (res_main_v58 V)) : IVec S32x5120x1 32) = g at hg ⊢
  have h : ∀ p, Host.gather gather_S32x640x128_S32x5120x1_S32x5120x128_2_1_0_0_1_2_11128 x g (ix3 n p d) = ((f n (tk X Wqk rot n p) d : ℝ) : EReal) :=
    fun p => (gather_640 x g n p d _ (hg p)).trans (hx _ _ _)
  generalize Host.gather gather_S32x640x128_S32x5120x1_S32x5120x128_2_1_0_0_1_2_11128 x g = q at h ⊢
  pointwise
  rw [h]
  exact congrArg (fun g => ((f n (tk X Wqk rot n g) d : ℝ) : EReal)) (Fin.ext (show c.val * 64 + i.val = 64 * c.val + i.val by omega))

theorem v74_at (n : Fin 32) (c : Fin 80) (i : Fin 64) (d : Fin 128) :
    (res_main_v74 V : FVec Ideal S32x80x64x128 .f32) (ix4 n c i d) = ((hp X Wqk n (tk X Wqk rot n (row c i)) d : ℝ) : EReal) := by
  unfold res_main_v74
  exact rows_at A (res_main_v33 V : FVec Ideal S32x640x128 .f32) (hp X Wqk) (v33_at A) n c i d

theorem v75_at (n : Fin 32) (c : Fin 80) (i : Fin 64) (d : Fin 128) :
    (res_main_v75 V : FVec Ideal S32x80x64x128 .f32) (ix4 n c i d) = ((hp X Wv n (tk X Wqk rot n (row c i)) d : ℝ) : EReal) := by
  have h := split_at (res_main_v28 V : FVec Ideal S4x640x1024 .f32) (V (Proc.devRef .tc main_arg2) : FVec Ideal S1024x1024 .f32) Wv (v28_at A) A.h2
  unfold res_main_v75
  exact rows_at A _ (hp X Wv) h n c i d

end Cert.ReferenceIdeal.Sem
-- ==== Proof.RefLook.lean ====
module

public import proofs.«01_k».proof.Proof.RefSort

@[expose] public section

/-
  Each chunk's rows, followed by those of the chunk before.
-/

set_option maxRecDepth 16384

noncomputable section

namespace Cert.ReferenceIdeal.Sem
open Idealize.ShloMosaic Idealize.ShloMosaic.TcCoe Idealize.SL.Sem Idealize.ShloMosaic.StableHlo
open Cert.ReferenceIdeal Cert.ReferenceIdeal.Gen Cert.ReferenceIdeal.RV Cert.Tools Cert.Spec

theorem row_low (c : Fin 80) (j : Fin 128) (h : j.val < 64) : row c ⟨j.val, h⟩ = keyrow c j := by
  unfold keyrow; rw [dif_pos h]; rfl

theorem row_high (c d : Fin 80) (j : Fin 128) (h : ¬ j.val < 64) (hd : d.val = (c.val + 79) % 80) : row d ⟨j.val - 64, by omega⟩ = keyrow c j := by
  unfold keyrow; rw [dif_neg h]
  exact Fin.ext (show 64 * d.val + (j.val - 64) = 64 * ((c.val + 79) % 80) + (j.val - 64) by rw [hd])

theorem look4 {α : Type} (x : S32x80x64x128.Idx → α) (f : Fin 5120 → α) (n : Fin 32) (d : Fin 128) (hx : ∀ c i, x (ix4 n c i d) = f (row c i)) (c : Fin 80) (j : Fin 128) :
    (concatenate S32x80x128x128 2 [⟨S32x80x64x128, x⟩, ⟨S32x80x64x128, (concatenate S32x80x64x128 1 [⟨S32x1x64x128, (extractStridedSlice S32x1x64x128 ![0, 79, 0, 0] x slices_S32x80x64x128_S32x1x64x128_0_79_0_0)⟩, ⟨S32x79x64x128, (extractStridedSlice S32x79x64x128 ![0, 0, 0, 0] x slices_S32x80x64x128_S32x79x64x128_0_0_0_0)⟩] concatenates_S32x1x64x128_S32x79x64x128_S32x80x64x128_d1)⟩] concatenates_S32x80x64x128_S32x80x64x128_S32x80x128x128_d2)
      (ix4 n c j d) = f (keyrow c j) := by
  pointwise
  by_cases h : j.val < 64
  · rw [dif_pos h, hx, row_low c j h]
  rw [dif_neg h]
  by_cases h1 : c.val < 1
  · rw [dif_pos h1, hx, row_high c ⟨79 + c.val, by omega⟩ j h (show 79 + c.val = (c.val + 79) % 80 by omega)]
  · rw [dif_neg h1, hx, row_high c ⟨c.val - 1, by omega⟩ j h (show c.val - 1 = (c.val + 79) % 80 by omega)]

theorem look3 {α : Type} (x : S32x80x64.Idx → α) (f : Fin 5120 → α) (n : Fin 32) (hx : ∀ c i, x (ix3 n c i) = f (row c i)) (c : Fin 80) (j : Fin 128) :
    (concatenate S32x80x128 2 [⟨S32x80x64, x⟩, ⟨S32x80x64, (concatenate S32x80x64 1 [⟨S32x1x64, (extractStridedSlice S32x1x64 ![0, 79, 0] x slices_S32x80x64_S32x1x64_0_79_0)⟩, ⟨S32x79x64, (extractStridedSlice S32x79x64 ![0, 0, 0] x slices_S32x80x64_S32x79x64_0_0_0)⟩] concatenates_S32x1x64_S32x79x64_S32x80x64_d1)⟩] concatenates_S32x80x64_S32x80x64_S32x80x128_d2)
      (ix3 n c j) = f (keyrow c j) := by
  pointwise
  by_cases h : j.val < 64
  · rw [dif_pos h, hx, row_low c j h]
  rw [dif_neg h]
  by_cases h1 : c.val < 1
  · rw [dif_pos h1, hx, row_high c ⟨79 + c.val, by omega⟩ j h (show 79 + c.val = (c.val + 79) % 80 by omega)]
  · rw [dif_neg h1, hx, row_high c ⟨c.val - 1, by omega⟩ j h (show c.val - 1 = (c.val + 79) % 80 by omega)]

theorem key_of (Q : FVec Ideal S32x80x64x128 .f32) (n : Fin 32) (c : Fin 80) (i : Fin 64) (d : Fin 128) (q : Fin 128 → ℝ) (h : ∀ d, Q (ix4 n c i d) = ((q d : ℝ) : EReal)) :
    (Host.divf Q (broadcastInDim S32x80x64x128 ![0, 1, 2, 3] bcast_S32x80x64x1_S32x80x64x128_0_1_2_3 (maximumf (Host.sqrt (broadcastInDim S32x80x64x1 ![0, 1, 2] bcast_S32x80x64_S32x80x64x1_0_1_2 (Host.reduceAdd (mulf Q Q) (constant S_ .f32 0x00000000#32) reducesTo_S32x80x64x128_S32x80x64_d3 h_S_))) (broadcastInDim S32x80x64x1 ![] bcast_S_S32x80x64x1 (constant S_ .f32 0x2B8CBCCC#32)))) : FVec Ideal S32x80x64x128 .f32)
      (ix4 n c i d) = ((q d / max (Real.sqrt (∑ e, q e * q e)) eps : ℝ) : EReal) := by
  pointwise
  simp only [h, eps_eq, sum_mul_coe]
  rw [ideal_sqrt (Finset.sum_nonneg fun _ _ => mul_self_nonneg _), ← coe_max, ideal_div _ (lt_max_of_lt_right eps_pos).ne']

variable {V : Valuation τ sig (Elt Ideal)} {X : Fin 4 → Fin 128 → Fin 64 → Fin 64 → ℝ} {Wqk Wv Wout : Fin 1024 → Fin 1024 → ℝ}
  {bout : Fin 1024 → ℝ} {rot : Fin 128 → Fin 8 → Fin 5 → ℝ} (A : Args V X Wqk Wv Wout bout rot)
include A

theorem v80_at (n : Fin 32) (c : Fin 80) (i : Fin 64) (d : Fin 128) :
    (res_main_v80 V : FVec Ideal S32x80x64x128 .f32) (ix4 n c i d) = ((kn eps (hp X Wqk n) (tk X Wqk rot n (row c i)) d : ℝ) : EReal) := by
  unfold res_main_v80
  exact key_of (res_main_v74 V) n c i d (hp X Wqk n (tk X Wqk rot n (row c i))) (fun d => v74_at A n c i d)

/-- The scores of a row. -/
abbrev srow (X : Fin 4 → Fin 128 → Fin 64 → Fin 64 → ℝ) (Wqk : Fin 1024 → Fin 1024 → ℝ) (rot : Fin 128 → Fin 8 → Fin 5 → ℝ) (n : Fin 32) (c : Fin 80) (i : Fin 64) : Fin 128 → ℝ :=
  sc eps scl msk (hp X Wqk n) (bb X Wqk rot n) c i

end Cert.ReferenceIdeal.Sem
-- ==== Proof.RefScore.lean ====
module

public import proofs.«01_k».proof.Proof.RefLook

@[expose] public section

/-
  The reference's scores, and their softmax.
-/

set_option maxRecDepth 16384

noncomputable section

namespace Cert.ReferenceIdeal.Sem
open Idealize.ShloMosaic Idealize.ShloMosaic.TcCoe Idealize.SL.Sem Idealize.ShloMosaic.StableHlo
open Cert.ReferenceIdeal Cert.ReferenceIdeal.Gen Cert.ReferenceIdeal.RV Cert.Tools Cert.Spec

/-- The largest of a set of entries, from minus infinity. -/
theorem fold_max_on {ι : Type} {m : ℕ} [NeZero m] (S : Finset ι) (q : ι → EReal) (f : Fin m → ℝ) (h1 : ∀ i ∈ S, ∃ j, q i = (f j : EReal)) (h2 : ∀ j, ∃ i ∈ S, q i = (f j : EReal)) :
    Finset.fold max (⊥ : EReal) q S = ((mx f : ℝ) : EReal) := by
  rw [← fold_max f]
  apply le_antisymm
  · refine (Finset.fold_max_le _).mpr ⟨bot_le, fun i hi => ?_⟩
    obtain ⟨j, e⟩ := h1 i hi
    exact (Finset.le_fold_max _).mpr (Or.inr ⟨j, Finset.mem_univ j, e.le⟩)
  · refine (Finset.fold_max_le _).mpr ⟨bot_le, fun j _ => ?_⟩
    obtain ⟨i, hi, e⟩ := h2 j
    exact (Finset.le_fold_max _).mpr (Or.inr ⟨i, hi, e.ge⟩)

theorem ix4_eta {a b c d : ℕ} (i : (⟨4, ![a, b, c, d]⟩ : Shape).Idx) : i = ix4 (i 0) (i 1) (i 2) (i 3) := by
  funext k; fin_cases k <;> rfl

theorem max_rows (q : S32x80x64x128.Idx → EReal) (n : Fin 32) (c : Fin 80) (i : Fin 64) (f : Fin 128 → ℝ) (h : ∀ j, q (ix4 n c i j) = ((f j : ℝ) : EReal)) :
    Finset.fold max (⊥ : EReal) q (Finset.univ.filter fun k => reducesTo_S32x80x64x128_S32x80x64_d3.drop k = ix3 n c i) = ((mx f : ℝ) : EReal) := by
  have hd : ∀ (a : Fin 32) (b : Fin 80) (d : Fin 64) (j : Fin 128), reducesTo_S32x80x64x128_S32x80x64_d3.drop (ix4 a b d j) = ix3 a b d := fun a b d j => by
    funext k; fin_cases k <;> rfl
  refine fold_max_on _ _ _ (fun k hk => ?_) fun j => ⟨ix4 n c i j, Finset.mem_filter.mpr ⟨Finset.mem_univ _, hd _ _ _ _⟩, h j⟩
  have e := (Finset.mem_filter.mp hk).2
  obtain ⟨a, b, d, j, rfl⟩ : ∃ (a : Fin 32) (b : Fin 80) (d : Fin 64) (j : Fin 128), k = ix4 a b d j := ⟨_, _, _, _, ix4_eta k⟩
  have e' := (hd a b d j).symm.trans e
  obtain rfl : a = n := congrFun e' 0
  obtain rfl : b = c := congrFun e' 1
  obtain rfl : d = i := congrFun e' 2
  exact ⟨j, h j⟩

theorem max_hashes (q : S32x8x640x1.Idx → EReal) (n : Fin 32) (t : Fin 640) (f : Fin 8 → ℝ) (h : ∀ j, q (ix4 n j t 0) = ((f j : ℝ) : EReal)) :
    Finset.fold max (⊥ : EReal) q (Finset.univ.filter fun k => reducesTo_S32x8x640x1_S32x640x1_d1.drop k = ix3 n t 0) = ((mx f : ℝ) : EReal) := by
  have hd : ∀ (a : Fin 32) (j : Fin 8) (d : Fin 640) (z : Fin 1), reducesTo_S32x8x640x1_S32x640x1_d1.drop (ix4 a j d z) = ix3 a d z := fun a b d j => by
    funext k; fin_cases k <;> rfl
  refine fold_max_on _ _ _ (fun k hk => ?_) fun j => ⟨ix4 n j t 0, Finset.mem_filter.mpr ⟨Finset.mem_univ _, hd _ _ _ _⟩, h j⟩
  have e := (Finset.mem_filter.mp hk).2
  obtain ⟨a, j, d, z, rfl⟩ : ∃ (a : Fin 32) (j : Fin 8) (d : Fin 640) (z : Fin 1), k = ix4 a j d z := ⟨_, _, _, _, ix4_eta k⟩
  have e' := (hd a j d z).symm.trans e
  obtain rfl : a = n := congrFun e' 0
  obtain rfl : d = t := congrFun e' 1
  obtain rfl : z = 0 := congrFun e' 2
  exact ⟨j, h j⟩

theorem score_of (I : IVec S32x80x64 32) (T : IVec S32x80x128 32) (Q : FVec Ideal S32x80x64x128 .f32) (K : FVec Ideal S32x80x128x128 .f32)
    (n : Fin 32) (c : Fin 80) (i : Fin 64) (j : Fin 128) (ti tj : Fin 640) (q k : Fin 128 → ℝ)
    (hi : I (ix3 n c i) = BitVec.ofNat 32 ti.val) (ht : T (ix3 n c j) = BitVec.ofNat 32 tj.val)
    (hq : ∀ d, Q (ix4 n c i d) = ((q d : ℝ) : EReal)) (hk : ∀ d, K (ix4 n c j d) = ((k d : ℝ) : EReal)) :
    (select (cmpi .eq (broadcastInDim S32x80x64x128 ![0, 1, 2, 3] bcast_S32x80x64x1_S32x80x64x128_0_1_2_3 (broadcastInDim S32x80x64x1 ![0, 1, 2] bcast_S32x80x64_S32x80x64x1_0_1_2 I)) (broadcastInDim S32x80x64x128 ![0, 1, 2, 3] bcast_S32x80x1x128_S32x80x64x128_0_1_2_3 (broadcastInDim S32x80x1x128 ![0, 1, 3] bcast_S32x80x128_S32x80x1x128_0_1_3 T))) (broadcastInDim S32x80x64x128 ![] bcast_S_S32x80x64x128 (id (constant S_ .f32 0xC7435000#32))) (mulf (Host.dotGeneral dot_S32x80x64x128_S32x80x128x128_S32x80x64x128_3_3_2_2_01_01 none Q K) (broadcastInDim S32x80x64x128 ![] bcast_S_S32x80x64x128 (constant S_ .f32 0x3DB504F3#32))) : FVec Ideal S32x80x64x128 .f32) (ix4 n c i j)
      = (((if ti = tj then msk else (∑ d, q d * k d) * scl : ℝ)) : EReal) := by
  pointwise
  simp only [hk, ht, hq, hi, sum_mul_coe]
  rw [scl_eq]
  unfold IntOp.cmpi Scalar.select
  by_cases e : ti = tj
  · subst e
    simp only [if_true, beq_self_eq_true]
    exact msk_eq
  · have e1 : BitVec.ofNat 32 ti.val ≠ BitVec.ofNat 32 tj.val := fun h => e (Fin.ext ((ofNat_inj (by omega) (by omega)).mp h))
    simp only [beq_eq_false_iff_ne.mpr e1, if_neg e]
    exact (if_neg (by decide)).trans (EReal.coe_mul _ _).symm

variable {V : Valuation τ sig (Elt Ideal)} {X : Fin 4 → Fin 128 → Fin 64 → Fin 64 → ℝ} {Wqk Wv Wout : Fin 1024 → Fin 1024 → ℝ}
  {bout : Fin 1024 → ℝ} {rot : Fin 128 → Fin 8 → Fin 5 → ℝ} (A : Args V X Wqk Wv Wout bout rot)
include A

theorem v95_at (n : Fin 32) (c : Fin 80) (i : Fin 64) (j : Fin 128) :
    (res_main_v95 V : FVec Ideal S32x80x64x128 .f32) (ix4 n c i j) = ((srow X Wqk rot n c i j : ℝ) : EReal) := by
  unfold res_main_v95
  exact score_of (res_main_v73 V) _ (res_main_v74 V) _ n c i j (tk X Wqk rot n (row c i)) (tk X Wqk rot n (keyrow c j))
    (hp X Wqk n (tk X Wqk rot n (row c i))) (kn eps (hp X Wqk n) (tk X Wqk rot n (keyrow c j))) (v73_at A n c i)
    (look3 (res_main_v73 V : IVec S32x80x64 32) (fun g => BitVec.ofNat 32 (tk X Wqk rot n g).val) n (v73_at A n) c j)
    (fun d => v74_at A n c i d)
    (fun d => look4 (res_main_v80 V : FVec Ideal S32x80x64x128 .f32) (fun g => ((kn eps (hp X Wqk n) (tk X Wqk rot n g) d : ℝ) : EReal)) n d (fun c i => v80_at A n c i d) c j)

theorem v97_at (n : Fin 32) (c : Fin 80) (i : Fin 64) : (res_main_v97 V : FVec Ideal S32x80x64x1 .f32) (ix4 n c i 0) = ((mx (srow X Wqk rot n c i) : ℝ) : EReal) := by
  unfold res_main_v97
  have h := v95_at A n c i
  generalize res_main_v95 V = q at h ⊢
  pointwise
  rw [ninf]
  exact max_rows q n c i _ h

theorem v104_at (n : Fin 32) (c : Fin 80) (i : Fin 64) :
    (res_main_v104 V : FVec Ideal S32x80x64x1 .f32) (ix4 n c i 0) = ((Real.log (es (srow X Wqk rot n c i)) + mx (srow X Wqk rot n c i) : ℝ) : EReal) := by
  unfold res_main_v104
  have h := v95_at A n c i
  have h7 := v97_at A n c i
  generalize res_main_v95 V = q at h ⊢
  generalize res_main_v97 V = q7 at h7 ⊢
  pointwise
  simp only [h, h7, ← EReal.coe_sub, ideal_exp, ← coe_sum]
  exact congrArg (· + _) (ideal_log (es_pos (srow X Wqk rot n c i)))

omit A in
theorem attend_of (S : FVec Ideal S32x80x64x128 .f32) (L : FVec Ideal S32x80x64x1 .f32) (v : FVec Ideal S32x80x128x128 .f32)
    (n : Fin 32) (c : Fin 80) (i : Fin 64) (d : Fin 128) (s w : Fin 128 → ℝ) (l : ℝ)
    (hS : ∀ j, S (ix4 n c i j) = ((s j : ℝ) : EReal)) (hL : L (ix4 n c i 0) = ((l : ℝ) : EReal)) (hv : ∀ j, v (ix4 n c j d) = ((w j : ℝ) : EReal)) :
    (Host.dotGeneral dot_S32x80x64x128_S32x80x128x128_S32x80x64x128_3_2_2_3_01_01 none (Host.exp (subf S (broadcastInDim S32x80x64x128 ![0, 1, 2, 3] bcast_S32x80x64x1_S32x80x64x128_0_1_2_3 L))) v : FVec Ideal S32x80x64x128 .f32) (ix4 n c i d)
      = ((∑ j, Real.exp (s j - l) * w j : ℝ) : EReal) := by
  pointwise
  simp only [hS, hL, hv, ← EReal.coe_sub, ideal_exp, sum_mul_coe]

/-- A chunk's rows and those of the chunk before. -/
abbrev lookT (x : FVec Ideal S32x80x64x128 .f32) : FVec Ideal S32x80x128x128 .f32 :=
  concatenate S32x80x128x128 2 [⟨S32x80x64x128, x⟩, ⟨S32x80x64x128, (concatenate S32x80x64x128 1 [⟨S32x1x64x128, (extractStridedSlice S32x1x64x128 ![0, 79, 0, 0] x slices_S32x80x64x128_S32x1x64x128_0_79_0_0)⟩, ⟨S32x79x64x128, (extractStridedSlice S32x79x64x128 ![0, 0, 0, 0] x slices_S32x80x64x128_S32x79x64x128_0_0_0_0)⟩] concatenates_S32x1x64x128_S32x79x64x128_S32x80x64x128_d1)⟩] concatenates_S32x80x64x128_S32x80x64x128_S32x80x128x128_d2

/-- The attention output of a row. -/
theorem so_at (n : Fin 32) (c : Fin 80) (i : Fin 64) (d : Fin 128) :
    (Host.dotGeneral (φ₁ := .f32) (φ₂ := .f32) dot_S32x80x64x128_S32x80x128x128_S32x80x64x128_3_2_2_3_01_01 none (Host.exp (subf (res_main_v95 V : FVec Ideal S32x80x64x128 .f32) (broadcastInDim S32x80x64x128 ![0, 1, 2, 3] bcast_S32x80x64x1_S32x80x64x128_0_1_2_3 (res_main_v104 V)))) (lookT (res_main_v75 V)) : FVec Ideal S32x80x64x128 .f32)
      (ix4 n c i d) = ((so eps scl msk (hp X Wqk n) (hp X Wv n) (bb X Wqk rot n) (row c i) d : ℝ) : EReal) := by
  refine (attend_of (res_main_v95 V) (res_main_v104 V) _ n c i d (srow X Wqk rot n c i) (fun j => hp X Wv n (tk X Wqk rot n (keyrow c j)) d) _ (v95_at A n c i) (v104_at A n c i)
    (fun j => look4 (res_main_v75 V : FVec Ideal S32x80x64x128 .f32) (fun g => ((hp X Wv n (tk X Wqk rot n g) d : ℝ) : EReal)) n d (fun c i => v75_at A n c i d) c j)).trans ?_
  refine congrArg _ ?_
  unfold so
  have e1 : (⟨(row c i).val / 64, by omega⟩ : Fin 80) = c := Fin.ext (show (64 * c.val + i.val) / 64 = c.val by omega)
  have e2 : (⟨(row c i).val % 64, by omega⟩ : Fin 64) = i := Fin.ext (show (64 * c.val + i.val) % 64 = i.val by omega)
  rw [e1, e2]
  exact Finset.sum_congr rfl fun j _ => congrArg (· * _) (exp_sub_lse _ _)

theorem lse_at (n : Fin 32) (c : Fin 80) (i : Fin 64) :
    (res_main_v104 V : FVec Ideal S32x80x64x1 .f32) (ix4 n c i 0) = ((lse eps scl msk (hp X Wqk n) (bb X Wqk rot n) (row c i) : ℝ) : EReal) := by
  refine (v104_at A n c i).trans (congrArg _ ?_)
  unfold lse
  have e1 : (⟨(row c i).val / 64, by omega⟩ : Fin 80) = c := Fin.ext (show (64 * c.val + i.val) / 64 = c.val by omega)
  have e2 : (⟨(row c i).val % 64, by omega⟩ : Fin 64) = i := Fin.ext (show (64 * c.val + i.val) % 64 = i.val by omega)
  rw [e1, e2]
  exact add_comm _ _

end Cert.ReferenceIdeal.Sem
-- ==== Proof.RefComb.lean ====
module

public import proofs.«01_k».proof.Proof.RefScore

@[expose] public section

/-
  The reference's combination of the hashes, its output projection, and its result.
-/

set_option maxRecDepth 16384

noncomputable section

namespace Cert.ReferenceIdeal.Sem
open Idealize.ShloMosaic Idealize.ShloMosaic.TcCoe Idealize.SL.Sem Idealize.ShloMosaic.StableHlo
open Cert.ReferenceIdeal Cert.ReferenceIdeal.Gen Cert.ReferenceIdeal.RV Cert.Tools Cert.Spec

/-- The index vector of the gathers back. -/
abbrev gib (V : Valuation τ sig (Elt Ideal)) : IVec S32x5120x1 32 :=
  broadcastInDim S32x5120x1 ![0, 1] bcast_S32x5120_S32x5120x1_0_1 (select (cmpi .slt (res_main_v57 V : IVec S32x5120 32) (broadcastInDim S32x5120 ![] bcast_S_S32x5120 (constantI S_ 32 0#32))) (addi (res_main_v57 V) (broadcastInDim S32x5120 ![] bcast_S_S32x5120 (constantI S_ 32 5120#32))) (res_main_v57 V))

theorem back4 (x : FVec Ideal S32x80x64x128 .f32) (g : IVec S32x5120x1 32) (f : Fin 5120 → Fin 128 → ℝ) (ρ : Fin 8 → Fin 640 → Fin 5120) (n : Fin 32)
    (hx : ∀ c i d, x (ix4 n c i d) = ((f (row c i) d : ℝ) : EReal)) (hg : ∀ h t, g (ix3 n (rr h t) 0) = BitVec.ofNat 32 (ρ h t).val) (h : Fin 8) (t : Fin 640) (d : Fin 128) :
    (shapeCast S32x8x640x128 (Host.gather gather_S32x5120x128_S32x5120x1_S32x5120x128_2_1_0_0_1_2_11128 (shapeCast S32x5120x128 x shapeCasts_S32x80x64x128_S32x5120x128) g) shapeCasts_S32x5120x128_S32x8x640x128)
      (ix4 n h t d) = ((f (ρ h t) d : ℝ) : EReal) := by
  have h1 : ∀ p d, (shapeCast S32x5120x128 x shapeCasts_S32x80x64x128_S32x5120x128) (ix3 n p d) = ((f p d : ℝ) : EReal) := fun p d => by
    pointwise
    rw [hx]
    exact congrArg (fun q => ((f q d : ℝ) : EReal)) (Fin.ext (show 64 * (p.val / 64) + p.val % 64 = p.val by omega))
  have h2 := fun (h : Fin 8) (t : Fin 640) => (gather_5120 (shapeCast S32x5120x128 x shapeCasts_S32x80x64x128_S32x5120x128) g n (rr h t) d _ (hg h t)).trans (h1 _ _)
  generalize Host.gather gather_S32x5120x128_S32x5120x1_S32x5120x128_2_1_0_0_1_2_11128 (shapeCast S32x5120x128 x shapeCasts_S32x80x64x128_S32x5120x128) g = q at h2 ⊢
  pointwise
  refine Eq.trans (congrArg (fun p => q (ix3 n p d)) (Fin.ext ?_)) (h2 h t)
  show h.val * 640 + t.val = 640 * h.val + t.val
  omega

theorem back1 (x : FVec Ideal S32x80x64x1 .f32) (g : IVec S32x5120x1 32) (f : Fin 5120 → ℝ) (ρ : Fin 8 → Fin 640 → Fin 5120) (n : Fin 32)
    (hx : ∀ c i, x (ix4 n c i 0) = ((f (row c i) : ℝ) : EReal)) (hg : ∀ h t, g (ix3 n (rr h t) 0) = BitVec.ofNat 32 (ρ h t).val) (h : Fin 8) (t : Fin 640) :
    (shapeCast S32x8x640x1 (Host.gather gather_S32x5120_S32x5120x1_S32x5120_n_1_0_0_1_2_11 (shapeCast S32x5120 x shapeCasts_S32x80x64x1_S32x5120) g) shapeCasts_S32x5120_S32x8x640x1)
      (ix4 n h t 0) = ((f (ρ h t) : ℝ) : EReal) := by
  have h1 : ∀ p, (shapeCast S32x5120 x shapeCasts_S32x80x64x1_S32x5120) (ix2 n p) = ((f p : ℝ) : EReal) := fun p => by
    pointwise
    rw [hx]
    exact congrArg (fun q => ((f q : ℝ) : EReal)) (Fin.ext (show 64 * (p.val / 64) + p.val % 64 = p.val by omega))
  have h2 := fun (h : Fin 8) (t : Fin 640) => (gather_one (shapeCast S32x5120 x shapeCasts_S32x80x64x1_S32x5120) g n (rr h t) _ (hg h t)).trans (h1 _)
  generalize Host.gather gather_S32x5120_S32x5120x1_S32x5120_n_1_0_0_1_2_11 (shapeCast S32x5120 x shapeCasts_S32x80x64x1_S32x5120) g = q at h2 ⊢
  pointwise
  refine Eq.trans (congrArg (fun p => q (ix2 n p)) (Fin.ext ?_)) (h2 h t)
  show h.val * 640 + t.val = 640 * h.val + t.val
  omega

/-- The weights of the hashes, from their log-sums. -/
abbrev wts (U : FVec Ideal S32x8x640x1 .f32) (M : FVec Ideal S32x1x640x1 .f32) : FVec Ideal S32x8x640x1 .f32 :=
  Host.exp (subf U (broadcastInDim S32x8x640x1 ![0, 1, 2, 3] bcast_S32x1x640x1_S32x8x640x1_0_1_2_3 (addf (Host.log (broadcastInDim S32x1x640x1 ![0, 2, 3] bcast_S32x640x1_S32x1x640x1_0_2_3 (Host.reduceAdd (Host.exp (subf U (broadcastInDim S32x8x640x1 ![0, 1, 2, 3] bcast_S32x1x640x1_S32x8x640x1_0_1_2_3 M))) (constant S_ .f32 0x00000000#32) reducesTo_S32x8x640x1_S32x640x1_d1 h_S_))) M)))

theorem wts_at (U : FVec Ideal S32x8x640x1 .f32) (M : FVec Ideal S32x1x640x1 .f32) (n : Fin 32) (t : Fin 640) (u : Fin 8 → ℝ)
    (hU : ∀ h, U (ix4 n h t 0) = ((u h : ℝ) : EReal)) (hM : M (ix4 n 0 t 0) = ((mx u : ℝ) : EReal)) (h : Fin 8) :
    wts U M (ix4 n h t 0) = ((Real.exp (u h - mx u) / es u : ℝ) : EReal) := by
  unfold wts
  pointwise
  simp only [hU, hM, ← EReal.coe_sub, ideal_exp, ← coe_sum]
  rw [show Ideal.log ((∑ i, Real.exp (u i - mx u) : ℝ) : EReal) = ((Real.log (es u) : ℝ) : EReal) from ideal_log (es_pos u), ← EReal.coe_add, ← EReal.coe_sub, ideal_exp, exp_sub_lse]

/-- The attention output, each head's hashes summed. -/
abbrev att (S : FVec Ideal S32x8x640x128 .f32) (W : FVec Ideal S32x8x640x1 .f32) : FVec Ideal S32x640x128 .f32 :=
  Host.reduceAdd (mulf S (broadcastInDim S32x8x640x128 ![0, 1, 2, 3] bcast_S32x8x640x1_S32x8x640x128_0_1_2_3 W)) (constant S_ .f32 0x00000000#32) reducesTo_S32x8x640x128_S32x640x128_d1 h_S_

theorem att_at (S : FVec Ideal S32x8x640x128 .f32) (W : FVec Ideal S32x8x640x1 .f32) (n : Fin 32) (t : Fin 640) (d : Fin 128) (s w : Fin 8 → ℝ)
    (hS : ∀ h, S (ix4 n h t d) = ((s h : ℝ) : EReal)) (hW : ∀ h, W (ix4 n h t 0) = ((w h : ℝ) : EReal)) :
    att S W (ix3 n t d) = ((∑ h, s h * w h : ℝ) : EReal) := by
  unfold att
  pointwise
  simp only [hS, hW, sum_mul_coe]

/-- The output projection, its bias, and the result's shape. -/
abbrev fin (x : FVec Ideal S32x640x128 .f32) (w : FVec Ideal S1024x1024 .f32) (b : FVec Ideal S1024 .f32) : FVec Ideal S4x640x32x32 .f32 :=
  shapeCast _ (addf (Host.dotGeneral dot_S4x640x1024_S1024x1024_S4x640x1024_2_0_01_1_n_n none (shapeCast _ (transpose S4x640x8x128 [0, 2, 1, 3] (shapeCast _ x shapeCasts_S32x640x128_S4x8x640x128) transposes_S4x8x640x128_S4x640x8x128_0_2_1_3) shapeCasts_S4x640x8x128_S4x640x1024) w) (broadcastInDim S4x640x1024 ![0, 1, 2] bcast_S1x1x1024_S4x640x1024_0_1_2 (broadcastInDim S1x1x1024 ![2] bcast_S1024_S1x1x1024_2 b))) shapeCasts_S4x640x1024_S4x640x32x32

theorem fin_at (x : FVec Ideal S32x640x128 .f32) (w : FVec Ideal S1024x1024 .f32) (b : FVec Ideal S1024 .f32)
    (f : Fin 32 → Fin 640 → Fin 128 → ℝ) (W : Fin 1024 → Fin 1024 → ℝ) (B : Fin 1024 → ℝ)
    (hx : ∀ n t d, x (ix3 n t d) = ((f n t d : ℝ) : EReal)) (hw : ∀ k n, w (ix2 k n) = ((W k n : ℝ) : EReal)) (hb : ∀ n, b (ix1 n) = ((B n : ℝ) : EReal))
    (a : Fin 4) (t : Fin 640) (r l : Fin 32) :
    fin x w b (ix4 a t r l) = (((∑ k : Fin 1024, f ⟨8 * a.val + k.val / 128, by omega⟩ t ⟨k.val % 128, by omega⟩ * W k ⟨r.val * 32 + l.val, by omega⟩) + B ⟨r.val * 32 + l.val, by omega⟩ : ℝ) : EReal) := by
  unfold fin
  pointwise
  simp only [hx, hw, hb, sum_mul_coe, ← EReal.coe_add, mul_comm a.val 8]

variable {V : Valuation τ sig (Elt Ideal)} {X : Fin 4 → Fin 128 → Fin 64 → Fin 64 → ℝ} {Wqk Wv Wout : Fin 1024 → Fin 1024 → ℝ}
  {bout : Fin 1024 → ℝ} {rot : Fin 128 → Fin 8 → Fin 5 → ℝ} (A : Args V X Wqk Wv Wout bout rot)
include A

theorem v126_at (n : Fin 32) (h : Fin 8) (t : Fin 640) :
    (res_main_v126 V : FVec Ideal S32x8x640x1 .f32) (ix4 n h t 0) = ((ul eps scl msk (hp X Wqk n) (bb X Wqk rot n) t h : ℝ) : EReal) := by
  unfold res_main_v126
  exact back1 (res_main_v104 V) (gib V) (lse eps scl msk (hp X Wqk n) (bb X Wqk rot n)) (rowOf (bb X Wqk rot n)) n (lse_at A n) (gib_at A n) h t

theorem v128_at (n : Fin 32) (t : Fin 640) :
    (res_main_v128 V : FVec Ideal S32x1x640x1 .f32) (ix4 n 0 t 0) = ((mx (ul eps scl msk (hp X Wqk n) (bb X Wqk rot n) t) : ℝ) : EReal) := by
  unfold res_main_v128
  have h := fun h => v126_at A n h t
  generalize res_main_v126 V = q at h ⊢
  pointwise
  rw [ninf]
  exact max_hashes q n t _ h

/-- The rows' attention outputs. -/
abbrev sout (V : Valuation τ sig (Elt Ideal)) : FVec Ideal S32x80x64x128 .f32 :=
  Host.dotGeneral (φ₁ := .f32) (φ₂ := .f32) dot_S32x80x64x128_S32x80x128x128_S32x80x64x128_3_2_2_3_01_01 none (Host.exp (subf (res_main_v95 V : FVec Ideal S32x80x64x128 .f32) (broadcastInDim S32x80x64x128 ![0, 1, 2, 3] bcast_S32x80x64x1_S32x80x64x128_0_1_2_3 (res_main_v104 V)))) (lookT (res_main_v75 V))

/-- The rows' attention outputs, in the order of the hashes' tokens. -/
abbrev bout4 (V : Valuation τ sig (Elt Ideal)) : FVec Ideal S32x8x640x128 .f32 :=
  shapeCast S32x8x640x128 (Host.gather gather_S32x5120x128_S32x5120x1_S32x5120x128_2_1_0_0_1_2_11128 (shapeCast S32x5120x128 (sout V) shapeCasts_S32x80x64x128_S32x5120x128) (gib V)) shapeCasts_S32x5120x128_S32x8x640x128

theorem attn_at (n : Fin 32) (t : Fin 640) (d : Fin 128) :
    att (bout4 V) (wts (res_main_v126 V) (res_main_v128 V)) (ix3 n t d) = ((attn eps scl msk (hp X Wqk n) (hp X Wv n) (bb X Wqk rot n) t d : ℝ) : EReal) :=
  att_at (bout4 V) (wts (res_main_v126 V) (res_main_v128 V)) n t d (fun h => so eps scl msk (hp X Wqk n) (hp X Wv n) (bb X Wqk rot n) (rowOf (bb X Wqk rot n) h t) d) _
    (fun h => back4 (sout V) (gib V) (so eps scl msk (hp X Wqk n) (hp X Wv n) (bb X Wqk rot n)) (rowOf (bb X Wqk rot n)) n (so_at A n) (gib_at A n) h t d)
    (fun h => wts_at (res_main_v126 V) (res_main_v128 V) n t _ (fun h => v126_at A n h t) (v128_at A n t) h)

/-- The reference's result. -/
abbrev result (V : Valuation τ sig (Elt Ideal)) : FVec Ideal S4x640x32x32 .f32 :=
  fin (att (bout4 V) (wts (res_main_v126 V) (res_main_v128 V))) (V (Proc.devRef .tc main_arg3)) (V (Proc.devRef .tc main_arg4))

theorem result_at (a : Fin 4) (t : Fin 640) (r l : Fin 32) :
    result V (ix4 a t r l) = ((outp Wqk Wv Wout bout (fun d j => rot d ⟨j.val / 5, by omega⟩ ⟨j.val % 5, by omega⟩) (tokens (X a)) t ⟨r.val * 32 + l.val, by omega⟩ : ℝ) : EReal) := by
  refine (fin_at _ _ _ _ Wout bout (attn_at A) A.h3 A.h4 a t r l).trans (congrArg _ (congrArg (· + _) (Finset.sum_congr rfl fun k _ => congrArg (· * _) ?_)))
  have e1 : (⟨(8 * a.val + k.val / 128) / 8, by omega⟩ : Fin 4) = a := Fin.ext (show (8 * a.val + k.val / 128) / 8 = a.val by omega)
  have e2 : (⟨(8 * a.val + k.val / 128) % 8, by omega⟩ : Fin 8) = ⟨k.val / 128, by omega⟩ := Fin.ext (show (8 * a.val + k.val / 128) % 8 = k.val / 128 by omega)
  unfold bb hp
  simp only [e1, e2]
  rfl

omit A in
theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v149) = result (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  RV.run m ρ

end Cert.ReferenceIdeal.Sem
-- ==== Proof.Equal.lean ====
module

public import proofs.«01_k».proof.Defs
public import proofs.«01_k».proof.Proof.Finite
public import proofs.«01_k».proof.Proof.KernValue
public import proofs.«01_k».proof.Proof.RefComb
public import Idealize.ShloMosaic.Lib.Quiescent

@[expose] public section

/-
  The kernel's result and the reference's, from finite arguments: one array.
-/

set_option maxRecDepth 16384

noncomputable section

namespace Cert.Equal
open Idealize.ShloMosaic Idealize.ShloMosaic.TcCoe Idealize.SL.Sem Idealize.ShloMosaic.StableHlo

/-- From equal finite arguments the reference's result array is the array the kernel leaves. -/
theorem results (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (c : Dev Cert.KernelIdeal.nD)
    (hp : Pre_KernelIdeal_finite_arguments m)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Cert.ReferenceIdeal.Sem.result (launchContents m' c) = (Cert.KernelIdeal.Gen.W6 m g c (Proc.devRef .tc Cert.KernelIdeal.main_v7) : FVec Ideal Cert.KernelIdeal.S4x640x32x32 .f32) := by
  obtain ⟨⟨f0, h0⟩, ⟨f1, h1⟩, ⟨f2, h2⟩, ⟨f3, h3⟩, ⟨f4, h4⟩, ⟨f5, h5⟩⟩ := Cert.Finite.all _ _ _ _ _ _ (hp c)
  have A : Cert.ReferenceIdeal.Sem.Args (launchContents m' c) (fun b k i j => f0 (ix4 b k i j)) (fun k n => f1 (ix2 k n)) (fun k n => f2 (ix2 k n))
      (fun k n => f3 (ix2 k n)) (fun n => f4 (ix1 n)) (fun d h k => f5 (ix3 d h k)) :=
    ⟨fun b k i j => (congrFun e0 _).trans (h0 _), fun k n => (congrFun e1 _).trans (h1 _), fun k n => (congrFun e2 _).trans (h2 _),
      fun k n => (congrFun e3 _).trans (h3 _), fun n => (congrFun e4 _).trans (h4 _), fun d h k => (congrFun e5 _).trans (h5 _)⟩
  funext i
  obtain ⟨b, t, r, l, rfl⟩ : ∃ (b : Fin 4) (t : Fin 640) (r l : Fin 32), i = ix4 b t r l := ⟨_, _, _, _, Cert.ReferenceIdeal.Sem.ix4_eta i⟩
  exact (Cert.ReferenceIdeal.Sem.result_at A b t r l).trans (Cert.KernelIdeal.Value.result m g c _ _ _ _ _ _
    (fun _ _ _ _ => h0 _) (fun _ _ => h1 _) (fun _ _ => h2 _) (fun _ _ => h3 _) (fun _ => h4 _) (fun _ _ _ => h5 _) b t r l).symm

/-- The reference ends with its arguments as they were and every semaphore counter at zero. -/
theorem reference_frame (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0) :=
  (θ_run _ _ _).mono (fun r h => ⟨fun c => (h c).2, sem_eq_zero_of_no_sems (by decide) r.2⟩) (Cert.ReferenceIdeal.Sem.run_value m g)

/-- From equal finite arguments the kernel and the reference end with the same result. -/
theorem algebraic : algebraic_KernelIdeal_ReferenceIdeal_pre_finite_arguments := by
  intro m g m' g' hp ha
  refine ⟨fun c => Cert.KernelIdeal.Gen.W6 m g c (Proc.devRef .tc Cert.KernelIdeal.main_v7), Cert.KernelIdeal.Gen.value_run m g, ?_⟩
  refine (θ_run _ _ _).mono (fun r h c => ?_) (Cert.ReferenceIdeal.Sem.run_value m' g')
  obtain ⟨a0, a1, a2, a3, a4, a5⟩ := ha c
  exact ⟨(h c).1.trans (results m g m' c hp a0 a1 a2 a3 a4 a5), (h c).2⟩

end Cert.Equal
-- ==== Proof.lean ====
/- The proof of the five claims: the three frames, the preservation of the printed program, and the equality of the
   kernel's result and the reference's over the extended reals. The frames of the kernel are the generated ones; the
   reference's frame and the equality are in `Equal`. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Equal
public import Idealize.ShloMosaic.Adequacy
public import Idealize.ShloMosaic.Init

@[expose] public section

noncomputable section

namespace Cert.Proof

open Idealize.ShloMosaic Idealize.SL.Sem Cert.Kernel

/-- All the claims, from the facts of the programs. -/
theorem claim : Cert.Claim := ⟨Cert.Kernel.Gen.facts, Cert.KernelIdeal.Gen.facts, Cert.ReferenceIdeal.Gen.facts, Cert.Finite.facts, by
  exact ⟨fun m ρ _ => Cert.Kernel.Gen.frame m ρ, fun m ρ _ => Cert.KernelIdeal.Gen.frame m ρ, fun m ρ _ => Cert.KernelIdeal.Gen.frame m ρ,
    fun m ρ _ => Cert.Equal.reference_frame m ρ, fun m ρ _ => Cert.Equal.reference_frame m ρ, trivial, Cert.Equal.algebraic⟩⟩

end Cert.Proof

end
